-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)) (v4 : (c : Dev Cert.Kernel3Ideal.nD) → Buf (Elt Ideal) ((c.tc : Thread Cert.Kernel3Ideal.nD Cert.Kernel3Ideal.τ).loc Cert.Kernel3Ideal.main_v11_4)) (v5 : (c : Dev Cert.Kernel3Ideal.nD) → Buf (Elt Ideal) ((c.tc : Thread Cert.Kernel3Ideal.nD Cert.Kernel3Ideal.τ).loc Cert.Kernel3Ideal.main_v11_5)) (v6 : (c : Dev Cert.Kernel3Ideal.nD) → Buf (Elt Ideal) ((c.tc : Thread Cert.Kernel3Ideal.nD Cert.Kernel3Ideal.τ).loc Cert.Kernel3Ideal.main_v11_6)) (v7 : (c : Dev Cert.Kernel3Ideal.nD) → Buf (Elt Ideal) ((c.tc : Thread Cert.Kernel3Ideal.nD Cert.Kernel3Ideal.τ).loc Cert.Kernel3Ideal.main_v11_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_v11_4) = v4 c
          ∧ r.2.mem ((c.tc : Thread Cert.Kernel3Ideal.nD Cert.Kernel3Ideal.τ).loc Cert.Kernel3Ideal.main_v11_5) = v5 c
          ∧ r.2.mem ((c.tc : Thread Cert.Kernel3Ideal.nD Cert.Kernel3Ideal.τ).loc Cert.Kernel3Ideal.main_v11_6) = v6 c
          ∧ r.2.mem ((c.tc : Thread Cert.Kernel3Ideal.nD Cert.Kernel3Ideal.τ).loc Cert.Kernel3Ideal.main_v11_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v108) = v0 c
          ∧ r.2.mem ((c.tc : Thread Cert.Reference3Ideal.nD Cert.Reference3Ideal.τ).loc Cert.Reference3Ideal.main_v109) = v1 c
          ∧ r.2.mem ((c.tc : Thread Cert.Reference3Ideal.nD Cert.Reference3Ideal.τ).loc Cert.Reference3Ideal.main_v110) = v2 c
          ∧ r.2.mem ((c.tc : Thread Cert.Reference3Ideal.nD Cert.Reference3Ideal.τ).loc Cert.Reference3Ideal.main_v112) = v3 c
          ∧ r.2.mem ((c.tc : Thread Cert.Reference3Ideal.nD Cert.Reference3Ideal.τ).loc Cert.Reference3Ideal.main_v114) = v4 c
          ∧ r.2.mem ((c.tc : Thread Cert.Reference3Ideal.nD Cert.Reference3Ideal.τ).loc Cert.Reference3Ideal.main_v115) = v5 c
          ∧ r.2.mem ((c.tc : Thread Cert.Reference3Ideal.nD Cert.Reference3Ideal.τ).loc Cert.Reference3Ideal.main_v116) = v6 c
          ∧ r.2.mem ((c.tc : Thread Cert.Reference3Ideal.nD Cert.Reference3Ideal.τ).loc Cert.Reference3Ideal.main_v118) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S4x4096x512 : Shape := ⟨3, ![4, 4096, 512]⟩
abbrev S4x4096x128 : Shape := ⟨3, ![4, 4096, 128]⟩
abbrev S8 : Shape := ⟨1, ![8]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S4x4096x512 .f32) (main_arg1 : FVec F S4x4096x128 .f32) (main_arg2 : FVec F S4x4096x128 .f32) (main_arg3 : FVec F S8 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x128 .f32 := Host.absf main_arg1
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  let main_c_1 : IVec S_ 1 := constantI S_ 1 1#1
  let main_v7 : IVec S_ 1 := (fun x v => Host.reduce IntOp.andi x v reducesTo_S4x4096x128_S_d0_1_2 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_finite3.lean ====
abbrev S4x4096x1024 : Shape := ⟨3, ![4, 4096, 1024]⟩
abbrev S1024x4872 : Shape := ⟨2, ![1024, 4872]⟩
abbrev S4x1536 : Shape := ⟨2, ![4, 1536]⟩
abbrev S4 : Shape := ⟨1, ![4]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x4872 : S_.BroadcastsInDim S1024x4872 (![] : Fin 0 → Fin S1024x4872.rank)
  reducesTo_S1024x4872_S_d0_1 : S1024x4872.ReducesTo [0, 1] S_
  bcast_S_S4x1536 : S_.BroadcastsInDim S4x1536 (![] : Fin 0 → Fin S4x1536.rank)
  reducesTo_S4x1536_S_d0_1 : S4x1536.ReducesTo [0, 1] S_

variable [Facts]

def fn {F : FTy → Type} [FloatOps F] (main_arg0 : FVec F S4x4096x1024 .f32) (main_arg1 : FVec F S1024x4872 .f32) (main_arg2 : FVec F S4x1536 .f32) (main_arg3 : FVec F S4 .f32) (main_arg4 : FVec F S4 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x4872 .f32 := Host.absf main_arg1
  let main_cst_0 : FVec F S_ .f32 := constant S_ .f32 0x7F800000#32
  let main_v5 : FVec F S1024x4872 .f32 := broadcastInDim S1024x4872 ![] bcast_S_S1024x4872 main_cst_0
  let main_v6 : IVec S1024x4872 1 := cmpf .olt main_v4 main_v5
  let main_c_1 : IVec S_ 1 := constantI S_ 1 1#1
  let main_v7 : IVec S_ 1 := (fun x v => Host.reduce IntOp.andi x v reducesTo_S1024x4872_S_d0_1 h_S_) main_v6 main_c_1
  let main_v8 : IVec S_ 1 := andi main_v3 main_v7
  let main_v9 : FVec F S4x1536 .f32 := Host.absf main_arg2
  let main_cst_2 : FVec F S_ .f32 := constant S_ .f32 0x7F800000#32
  let main_v10 : FVec F S4x1536 .f32 := broadcastInDim S4x1536 ![] bcast_S_S4x1536 main_cst_2
  let main_v11 : IVec S4x1536 1 := cmpf .olt main_v9 main_v10
  let main_c_3 : IVec S_ 1 := constantI S_ 1 1#1
  let main_v12 : IVec S_ 1 := (fun x v => Host.reduce IntOp.andi x v reducesTo_S4x1536_S_d0_1 h_S_) main_v11 main_c_3
  let main_v13 : IVec S_ 1 := andi main_v8 main_v12
  main_v13
-- ==== Kernel.lean ====
abbrev S4x4096x512 : Shape := ⟨3, ![4, 4096, 512]⟩
abbrev S4x4096x128 : Shape := ⟨3, ![4, 4096, 128]⟩
abbrev S8 : Shape := ⟨1, ![8]⟩
abbrev S4x4096x64 : Shape := ⟨3, ![4, 4096, 64]⟩
abbrev S_ : Shape := ⟨0, ![]⟩
abbrev S4x4096x1024 : Shape := ⟨3, ![4, 4096, 1024]⟩
abbrev S16384x1024 : Shape := ⟨2, ![16384, 1024]⟩
abbrev S16384x512 : Shape := ⟨2, ![16384, 512]⟩
abbrev S2048x512 : Shape := ⟨2, ![2048, 512]⟩
abbrev S128x512 : Shape := ⟨2, ![128, 512]⟩
abbrev S128x128 : Shape := ⟨2, ![128, 128]⟩
abbrev S128x256 : Shape := ⟨2, ![128, 256]⟩
abbrev S512x128 : Shape := ⟨2, ![512, 128]⟩
abbrev S256x128 : Shape := ⟨2, ![256, 128]⟩
abbrev S512x256 : Shape := ⟨2, ![512, 256]⟩
abbrev S1 : Shape := ⟨1, ![1]⟩
abbrev S128 : Shape := ⟨1, ![128]⟩
abbrev S128x1 : Shape := ⟨2, ![128, 1]⟩

abbrev nBuf : Space → Nat
  | .hbm => 19
  | .vmem => 8
  | .smem => 1
  | _ => 0

abbrev bufTy : (tb : Table) → Fin (tcTables nBuf tb) → BufTy
  | .hbm, ⟨0, _⟩ => ⟨S4x4096x512, .f32⟩
  | .hbm, ⟨1, _⟩ => ⟨S4x4096x128, .f32⟩
  | .hbm, ⟨2, _⟩ => ⟨S4x4096x128, .f32⟩
  | .hbm, ⟨3, _⟩ => ⟨S8, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x64, .f32⟩
  | .hbm, ⟨8, _⟩ => ⟨S4x4096x64, .f32⟩
  | .hbm, ⟨9, _⟩ => ⟨S4x4096x64, .f32⟩
  | .hbm, ⟨10, _⟩ => ⟨S4x4096x64, .f32⟩
  | .hbm, ⟨11, _⟩ => ⟨S4x4096x64, .f32⟩
  | .hbm, ⟨12, _⟩ => ⟨S_, .f32⟩
  | .hbm, ⟨13, _⟩ => ⟨S4x4096x512, .f32⟩
  | .hbm, ⟨14, _⟩ => ⟨S4x4096x512, .f32⟩
  | .hbm, ⟨15, _⟩ => ⟨S4x4096x1024, .f32⟩
  | .hbm, ⟨16, _⟩ => ⟨S4x4096x1024, .bf16⟩
  | .hbm, ⟨17, _⟩ => ⟨S16384x1024, .bf16⟩
  | .hbm, ⟨18, _⟩ => ⟨S16384x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S128x512, .bf16⟩
  | .local _ .vmem, ⟨5, _⟩ => ⟨S128x512, .bf16⟩
  | .local _ .vmem, ⟨6, _⟩ => ⟨S2048x512, .bf16⟩
  | .local _ .vmem, ⟨7, _⟩ => ⟨S2048x512, .bf16⟩
  | .local _ .smem, ⟨0, _⟩ => ⟨S8, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c1_i32_0 : BitVec 32 := 1#32
  let c0_i32_1 : BitVec 32 := 0#32
  ![v4.toNat, c1_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x512 : Shape := ⟨3, ![4, 4096, 512]⟩
abbrev S4x4096x128 : Shape := ⟨3, ![4, 4096, 128]⟩
abbrev S8 : Shape := ⟨1, ![8]⟩
abbrev S4x32x128x2x4x64 : Shape := ⟨6, ![4, 32, 128, 2, 4, 64]⟩
abbrev S4x32x128x2x64 : Shape := ⟨5, ![4, 32, 128, 2, 64]⟩
abbrev S_ : Shape := ⟨0, ![]⟩
abbrev S4x33x128x2x64 : Shape := ⟨5, ![4, 33, 128, 2, 64]⟩
abbrev S4x32x256x2x64 : Shape := ⟨5, ![4, 32, 256, 2, 64]⟩
abbrev S4x32x2x256x128x4 : Shape := ⟨6, ![4, 32, 2, 256, 128, 4]⟩
abbrev S4x32x2x4x128x256 : Shape := ⟨6, ![4, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x2x4x1x1 : Shape := ⟨6, ![1, 1, 2, 4, 1, 1]⟩
abbrev S4x32x2x4x128x1 : Shape := ⟨6, ![4, 32, 2, 4, 128, 1]⟩
abbrev S4x32x2x4x128x257 : Shape := ⟨6, ![4, 32, 2, 4, 128, 257]⟩
abbrev S4x32x2x4x128 : Shape := ⟨5, ![4, 32, 2, 4, 128]⟩
abbrev S4x32x2x64x4x128 : Shape := ⟨6, ![4, 32, 2, 64, 4, 128]⟩
abbrev S16384x512 : Shape := ⟨2, ![16384, 512]⟩

abbrev nBuf : Space → Nat
  | .hbm => 83
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x128, .f32⟩
  | .hbm, ⟨2, _⟩ => ⟨S4x4096x128, .f32⟩
  | .hbm, ⟨3, _⟩ => ⟨S8, .f32⟩
  | .hbm, ⟨4, _⟩ => ⟨S4x32x128x2x4x64, .f32⟩
  | .hbm, ⟨5, _⟩ => ⟨S4x32x128x2x64, .f32⟩
  | .hbm, ⟨6, _⟩ => ⟨S4x32x128x2x64, .f32⟩
  | .hbm, ⟨7, _⟩ => ⟨S_, .i32⟩
  | .hbm, ⟨8, _⟩ => ⟨S_, .f32⟩
  | .hbm, ⟨9, _⟩ => ⟨S4x33x128x2x64, .f32⟩
  | .hbm, ⟨10, _⟩ => ⟨S4x32x128x2x64, .f32⟩
  | .hbm, ⟨11, _⟩ => ⟨S4x32x256x2x64, .f32⟩
  | .hbm, ⟨12, _⟩ => ⟨S_, .i32⟩
  | .hbm, ⟨13, _⟩ => ⟨S_, .f32⟩
  | .hbm, ⟨14, _⟩ => ⟨S4x33x128x2x64, .f32⟩
  | .hbm, ⟨15, _⟩ => ⟨S4x32x128x2x64, .f32⟩
  | .hbm, ⟨16, _⟩ => ⟨S4x32x256x2x64, .f32⟩
  | .hbm, ⟨17, _⟩ => ⟨S4x32x2x256x128x4, .f32⟩
  | .hbm, ⟨18, _⟩ => ⟨S4x32x2x4x128x256, .f32⟩
  | .hbm, ⟨19, _⟩ => ⟨S_, .f32⟩
  | .hbm, ⟨20, _⟩ => ⟨S4x32x2x4x128x256, .f32⟩
  | .hbm, ⟨21, _⟩ => ⟨S4x32x2x4x128x256, .f32⟩
  | .hbm, ⟨22, _⟩ => ⟨S128, .i32⟩
  | .hbm, ⟨23, _⟩ => ⟨S128x1, .i32⟩
  | .hbm, ⟨24, _⟩ => ⟨S_, .i32⟩
  | .hbm, ⟨25, _⟩ => ⟨S128x1, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S128x256, .i32⟩
  | .hbm, ⟨30, _⟩ => ⟨S128x256, .i32⟩
  | .hbm, ⟨31, _⟩ => ⟨S128x256, .i1⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i1⟩
  | .hbm, ⟨39, _⟩ => ⟨S32, .i32⟩
  | .hbm, ⟨40, _⟩ => ⟨S32x1x1, .i32⟩
  | .hbm, ⟨41, _⟩ => ⟨S_, .i32⟩
  | .hbm, ⟨42, _⟩ => ⟨S32x1x1, .i32⟩
  | .hbm, ⟨43, _⟩ => ⟨S32x1x1, .i1⟩
  | .hbm, ⟨44, _⟩ => ⟨S1x1x256, .i32⟩
  | .hbm, ⟨45, _⟩ => ⟨S_, .i32⟩
  | .hbm, ⟨46, _⟩ => ⟨S1x1x256, .i32⟩
  | .hbm, ⟨47, _⟩ => ⟨S1x1x256, .i1⟩
  | .hbm, ⟨48, _⟩ => ⟨S32x1x256, .i1⟩
  | .hbm, ⟨49, _⟩ => ⟨S32x1x256, .i1⟩
  | .hbm, ⟨50, _⟩ => ⟨S32x1x256, .i1⟩
  | .hbm, ⟨51, _⟩ => ⟨S1x128x256, .i1⟩
  | .hbm, ⟨52, _⟩ => ⟨S32x128x256, .i1⟩
  | .hbm, ⟨53, _⟩ => ⟨S32x128x256, .i1⟩
  | .hbm, ⟨54, _⟩ => ⟨S32x128x256, .i1⟩
  | .hbm, ⟨55, _⟩ => ⟨S1x32x1x1x128x256, .i1⟩
  | .hbm, ⟨56, _⟩ => ⟨S_, .f32⟩
  | .hbm, ⟨57, _⟩ => ⟨S_, .f32⟩
  | .hbm, ⟨58, _⟩ => ⟨S4x32x2x4x128x256, .i1⟩
  | .hbm, ⟨59, _⟩ => ⟨S4x32x2x4x128x256, .f32⟩
  | .hbm, ⟨60, _⟩ => ⟨S4x32x2x4x128x256, .f32⟩
  | .hbm, ⟨61, _⟩ => ⟨S1x1x2x4x1x1, .f32⟩
  | .hbm, ⟨62, _⟩ => ⟨S4x32x2x4x128x1, .f32⟩
  | .hbm, ⟨63, _⟩ => ⟨S4x32x2x4x128x257, .f32⟩
  | .hbm, ⟨64, _⟩ => ⟨S_, .f32⟩
  | .hbm, ⟨65, _⟩ => ⟨S4x32x2x4x128, .f32⟩
  | .hbm, ⟨66, _⟩ => ⟨S_, .f32⟩
  | .hbm, ⟨67, _⟩ => ⟨S4x32x2x4x128, .f32⟩
  | .hbm, ⟨68, _⟩ => ⟨S4x32x2x4x128, .f32⟩
  | .hbm, ⟨69, _⟩ => ⟨S4x32x2x4x128x1, .f32⟩
  | .hbm, ⟨70, _⟩ => ⟨S4x32x2x4x128x257, .f32⟩
  | .hbm, ⟨71, _⟩ => ⟨S4x32x2x4x128x257, .f32⟩
  | .hbm, ⟨72, _⟩ => ⟨S4x32x2x4x128x257, .f32⟩
  | .hbm, ⟨73, _⟩ => ⟨S_, .f32⟩
  | .hbm, ⟨74, _⟩ => ⟨S4x32x2x4x128, .f32⟩
  | .hbm, ⟨75, _⟩ => ⟨S4x32x2x4x128x1, .f32⟩
  | .hbm, ⟨76, _⟩ => ⟨S4x32x2x4x128x257, .f32⟩
  | .hbm, ⟨77, _⟩ => ⟨S4x32x2x4x128x257, .f32⟩
  | .hbm, ⟨78, _⟩ => ⟨S4x32x2x4x128x256, .f32⟩
  | .hbm, ⟨79, _⟩ => ⟨S4x32x2x64x4x128, .f32⟩
  | .hbm, ⟨80, _⟩ => ⟨S4x32x128x2x4x64, .f32⟩
  | .hbm, ⟨81, _⟩ => ⟨S16384x512, .f32⟩
  | .hbm, ⟨82, _⟩ => ⟨S16384x512, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== Kernel2.lean ====
abbrev S4x4096x1024 : Shape := ⟨3, ![4, 4096, 1024]⟩
abbrev S16384x512 : Shape := ⟨2, ![16384, 512]⟩
abbrev S1024x4872 : Shape := ⟨2, ![1024, 4872]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S4872x1024 : Shape := ⟨2, ![4872, 1024]⟩
abbrev S1x1024 : Shape := ⟨2, ![1, 1024]⟩
abbrev S2x1024 : Shape := ⟨2, ![2, 1024]⟩
abbrev S512x512 : Shape := ⟨2, ![512, 512]⟩
abbrev S2048x1024 : Shape := ⟨2, ![2048, 1024]⟩
abbrev S1024x2048 : Shape := ⟨2, ![1024, 2048]⟩
abbrev S128x1024 : Shape := ⟨2, ![128, 1024]⟩
abbrev S1024x128 : Shape := ⟨2, ![1024, 128]⟩
abbrev S512 : Shape := ⟨1, ![512]⟩
abbrev S512x1 : Shape := ⟨2, ![512, 1]⟩

abbrev nBuf : Space → Nat
  | .hbm => 26
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S1024x4872, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S1024, .f32⟩
  | .hbm, ⟨13, _⟩ => ⟨S16384x1024, .f32⟩
  | .hbm, ⟨14, _⟩ => ⟨S4872x1024, .f32⟩
  | .hbm, ⟨15, _⟩ => ⟨S512x1024, .bf16⟩
  | .hbm, ⟨16, _⟩ => ⟨S512x1024, .bf16⟩
  | .hbm, ⟨17, _⟩ => ⟨S1x1024, .f32⟩
  | .hbm, ⟨18, _⟩ => ⟨S1x1024, .f32⟩
  | .hbm, ⟨19, _⟩ => ⟨S2x1024, .f32⟩
  | .hbm, ⟨20, _⟩ => ⟨S1024x4096, .bf16⟩
  | .hbm, ⟨21, _⟩ => ⟨S4096x1024, .bf16⟩
  | .hbm, ⟨22, _⟩ => ⟨S1x1024, .f32⟩
  | .hbm, ⟨23, _⟩ => ⟨S1x1024, .f32⟩
  | .hbm, ⟨24, _⟩ => ⟨S2x1024, .f32⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S2048x1024, .f32⟩
  | .local _ .vmem, ⟨7, _⟩ => ⟨S512x1024, .bf16⟩
  | .local _ .vmem, ⟨8, _⟩ => ⟨S512x1024, .bf16⟩
  | .local _ .vmem, ⟨9, _⟩ => ⟨S1024x1024, .f32⟩
  | .local _ .vmem, ⟨10, _⟩ => ⟨S2x1024, .f32⟩
  | .local _ .vmem, ⟨11, _⟩ => ⟨S1024x4096, .bf16⟩
  | .local _ .vmem, ⟨12, _⟩ => ⟨S4096x1024, .bf16⟩
  | .local _ .vmem, ⟨13, _⟩ => ⟨S2x1024, .f32⟩
  | .local _ .vmem, ⟨14, _⟩ => ⟨S512x1024, .f32⟩
  | .local _ .vmem, ⟨15, _⟩ => ⟨S512x1024, .f32⟩
  | .local _ .vmem, ⟨16, _⟩ => ⟨S1024x2048, .bf16⟩
  | .local _ .vmem, ⟨17, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2824_i32 : BitVec 32 := 2824#32
  let c0_i32 : BitVec 32 := 0#32
  let c0_i32_0 : BitVec 32 := 0#32
  ![c2824_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4x4096x1024 : Shape := ⟨3, ![4, 4096, 1024]⟩
abbrev S16384x512 : Shape := ⟨2, ![16384, 512]⟩
abbrev S1024x4872 : Shape := ⟨2, ![1024, 4872]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1024x2048 : Shape := ⟨2, ![1024, 2048]⟩
abbrev S4x4096x2048 : Shape := ⟨3, ![4, 4096, 2048]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S16384x1024 : Shape := ⟨2, ![16384, 1024]⟩

abbrev nBuf : Space → Nat
  | .hbm => 116
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S1024x4872, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S1024, .f32⟩
  | .hbm, ⟨13, _⟩ => ⟨S1024x2048, .f32⟩
  | .hbm, ⟨14, _⟩ => ⟨S4x4096x2048, .f32⟩
  | .hbm, ⟨15, _⟩ => ⟨S16384x512, .f32⟩
  | .hbm, ⟨16, _⟩ => ⟨S4x4096x512, .f32⟩
  | .hbm, ⟨17, _⟩ => ⟨S4x4096x1024, .f32⟩
  | .hbm, ⟨18, _⟩ => ⟨S16384x512, .f32⟩
  | .hbm, ⟨19, _⟩ => ⟨S4x4096x512, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S_, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S_, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S_, .f32⟩
  | .hbm, ⟨48, _⟩ => ⟨S4x4096, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S4x4096x1, .f32⟩
  | .hbm, ⟨68, _⟩ => ⟨S4x4096x1024, .f32⟩
  | .hbm, ⟨69, _⟩ => ⟨S4x4096x1024, .f32⟩
  | .hbm, ⟨70, _⟩ => ⟨S1x1x1024, .f32⟩
  | .hbm, ⟨71, _⟩ => ⟨S4x4096x1024, .f32⟩
  | .hbm, ⟨72, _⟩ => ⟨S4x4096x1024, .f32⟩
  | .hbm, ⟨73, _⟩ => ⟨S1x1x1024, .f32⟩
  | .hbm, ⟨74, _⟩ => ⟨S4x4096x1024, .f32⟩
  | .hbm, ⟨75, _⟩ => ⟨S4x4096x1024, .f32⟩
  | .hbm, ⟨76, _⟩ => ⟨S4x4096x4096, .f32⟩
  | .hbm, ⟨77, _⟩ => ⟨S_, .f32⟩
  | .hbm, ⟨78, _⟩ => ⟨S4x4096x4096, .f32⟩
  | .hbm, ⟨79, _⟩ => ⟨S4x4096x4096, .f32⟩
  | .hbm, ⟨80, _⟩ => ⟨S4x4096x4096, .f32⟩
  | .hbm, ⟨81, _⟩ => ⟨S4x4096x1024, .f32⟩
  | .hbm, ⟨82, _⟩ => ⟨S_, .f32⟩
  | .hbm, ⟨83, _⟩ => ⟨S4x4096x1024, .f32⟩
  | .hbm, ⟨84, _⟩ => ⟨S4x4096x1024, .f32⟩
  | .hbm, ⟨85, _⟩ => ⟨S4x4096x1024, .f32⟩
  | .hbm, ⟨86, _⟩ => ⟨S_, .f32⟩
  | .hbm, ⟨87, _⟩ => ⟨S4x4096, .f32⟩
  | .hbm, ⟨88, _⟩ => ⟨S4x4096x1, .f32⟩
  | .hbm, ⟨89, _⟩ => ⟨S_, .f32⟩
  | .hbm, ⟨90, _⟩ => ⟨S4x4096x1, .f32⟩
  | .hbm, ⟨91, _⟩ => ⟨S4x4096x1, .f32⟩
  | .hbm, ⟨92, _⟩ => ⟨S4x4096x1024, .f32⟩
  | .hbm, ⟨93, _⟩ => ⟨S4x4096x1024, .f32⟩
  | .hbm, ⟨94, _⟩ => ⟨S4x4096x1024, .f32⟩
  | .hbm, ⟨95, _⟩ => ⟨S_, .f32⟩
  | .hbm, ⟨96, _⟩ => ⟨S4x4096, .f32⟩
  | .hbm, ⟨97, _⟩ => ⟨S4x4096x1, .f32⟩
  | .hbm, ⟨98, _⟩ => ⟨S_, .f32⟩
  | .hbm, ⟨99, _⟩ => ⟨S4x4096x1, .f32⟩
  | .hbm, ⟨100, _⟩ => ⟨S4x4096x1, .f32⟩
  | .hbm, ⟨101, _⟩ => ⟨S4x4096x1024, .f32⟩
  | .hbm, ⟨102, _⟩ => ⟨S4x4096x1024, .f32⟩
  | .hbm, ⟨103, _⟩ => ⟨S_, .f32⟩
  | .hbm, ⟨104, _⟩ => ⟨S4x4096x1, .f32⟩
  | .hbm, ⟨105, _⟩ => ⟨S4x4096x1, .f32⟩
  | .hbm, ⟨106, _⟩ => ⟨S4x4096x1, .f32⟩
  | .hbm, ⟨107, _⟩ => ⟨S4x4096x1024, .f32⟩
  | .hbm, ⟨108, _⟩ => ⟨S4x4096x1024, .f32⟩
  | .hbm, ⟨109, _⟩ => ⟨S1x1x1024, .f32⟩
  | .hbm, ⟨110, _⟩ => ⟨S4x4096x1024, .f32⟩
  | .hbm, ⟨111, _⟩ => ⟨S4x4096x1024, .f32⟩
  | .hbm, ⟨112, _⟩ => ⟨S1x1x1024, .f32⟩
  | .hbm, ⟨113, _⟩ => ⟨S4x4096x1024, .f32⟩
  | .hbm, ⟨114, _⟩ => ⟨S4x4096x1024, .f32⟩
  | .hbm, ⟨115, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024x4872 : Shape := ⟨2, ![1024, 4872]⟩
abbrev S4x1536 : Shape := ⟨2, ![4, 1536]⟩
abbrev S4 : Shape := ⟨1, ![4]⟩
abbrev S16384x1024 : Shape := ⟨2, ![16384, 1024]⟩
abbrev S4872x1024 : Shape := ⟨2, ![4872, 1024]⟩
abbrev S_ : Shape := ⟨0, ![]⟩
abbrev S2x128 : Shape := ⟨2, ![2, 128]⟩
abbrev S1 : Shape := ⟨1, ![1]⟩
abbrev S2 : Shape := ⟨1, ![2]⟩
abbrev S16384x512 : Shape := ⟨2, ![16384, 512]⟩
abbrev S4x512x4096 : Shape := ⟨3, ![4, 512, 4096]⟩
abbrev S16384x128 : Shape := ⟨2, ![16384, 128]⟩
abbrev S4x8x4096 : Shape := ⟨3, ![4, 8, 4096]⟩
abbrev S512x1024 : Shape := ⟨2, ![512, 1024]⟩
abbrev S512x512 : Shape := ⟨2, ![512, 512]⟩
abbrev S1x512x512 : Shape := ⟨3, ![1, 512, 512]⟩
abbrev S512x128 : Shape := ⟨2, ![512, 128]⟩
abbrev S1x8x512 : Shape := ⟨3, ![1, 8, 512]⟩
abbrev S1024x1024 : Shape := ⟨2, ![1024, 1024]⟩
abbrev S1024x1536 : Shape := ⟨2, ![1024, 1536]⟩
abbrev S1024x512 : Shape := ⟨2, ![1024, 512]⟩
abbrev S1024x128 : Shape := ⟨2, ![1024, 128]⟩
abbrev S520x512 : Shape := ⟨2, ![520, 512]⟩
abbrev S8x512 : Shape := ⟨2, ![8, 512]⟩
abbrev S128x1024 : Shape := ⟨2, ![128, 1024]⟩
abbrev S1x512 : Shape := ⟨2, ![1, 512]⟩
abbrev S512 : Shape := ⟨1, ![512]⟩
abbrev S512x1 : Shape := ⟨2, ![512, 1]⟩
abbrev S128x512 : Shape := ⟨2, ![128, 512]⟩
abbrev S1x128x512 : Shape := ⟨3, ![1, 128, 512]⟩
abbrev S1x128 : Shape := ⟨2, ![1, 128]⟩

abbrev nBuf : Space → Nat
  | .hbm => 29
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S1024x4872, .f32⟩
  | .hbm, ⟨2, _⟩ => ⟨S4x1536, .f32⟩
  | .hbm, ⟨3, _⟩ => ⟨S4, .f32⟩
  | .hbm, ⟨4, _⟩ => ⟨S4, .f32⟩
  | .hbm, ⟨5, _⟩ => ⟨S16384x1024, .f32⟩
  | .hbm, ⟨6, _⟩ => ⟨S4872x1024, .f32⟩
  | .hbm, ⟨7, _⟩ => ⟨S_, .f32⟩
  | .hbm, ⟨8, _⟩ => ⟨S2x128, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S2x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S2x128, .f32⟩
  | .hbm, ⟨21, _⟩ => ⟨S16384x1024, .bf16⟩
  | .hbm, ⟨22, _⟩ => ⟨S16384x512, .bf16⟩
  | .hbm, ⟨23, _⟩ => ⟨S16384x512, .bf16⟩
  | .hbm, ⟨24, _⟩ => ⟨S4x512x4096, .bf16⟩
  | .hbm, ⟨25, _⟩ => ⟨S16384x512, .bf16⟩
  | .hbm, ⟨26, _⟩ => ⟨S16384x512, .bf16⟩
  | .hbm, ⟨27, _⟩ => ⟨S16384x128, .f32⟩
  | .hbm, ⟨28, _⟩ => ⟨S4x8x4096, .f32⟩
  | .local _ .vmem, ⟨0, _⟩ => ⟨S512x1024, .f32⟩
  | .local _ .vmem, ⟨1, _⟩ => ⟨S512x1024, .f32⟩
  | .local _ .vmem, ⟨2, _⟩ => ⟨S4872x1024, .f32⟩
  | .local _ .vmem, ⟨3, _⟩ => ⟨S4x1536, .f32⟩
  | .local _ .vmem, ⟨4, _⟩ => ⟨S2x128, .f32⟩
  | .local _ .vmem, ⟨5, _⟩ => ⟨S512x1024, .bf16⟩
  | .local _ .vmem, ⟨6, _⟩ => ⟨S512x1024, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S1x512x512, .bf16⟩
  | .local _ .vmem, ⟨12, _⟩ => ⟨S1x512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x128, .f32⟩
  | .local _ .vmem, ⟨18, _⟩ => ⟨S512x128, .f32⟩
  | .local _ .vmem, ⟨19, _⟩ => ⟨S1x8x512, .f32⟩
  | .local _ .vmem, ⟨20, _⟩ => ⟨S1x8x512, .f32⟩
  | .local _ .vmem, ⟨21, _⟩ => ⟨S1024x1024, .bf16⟩
  | .local _ .vmem, ⟨22, _⟩ => ⟨S1024x1536, .bf16⟩
  | .local _ .vmem, ⟨23, _⟩ => ⟨S1024x512, .bf16⟩
  | .local _ .vmem, ⟨24, _⟩ => ⟨S1024x128, .bf16⟩
  | .local _ .vmem, ⟨25, _⟩ => ⟨S520x512, .f32⟩
  | .local _ .vmem, ⟨26, _⟩ => ⟨S520x512, .f32⟩
  | .local _ .vmem, ⟨27, _⟩ => ⟨S520x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v11_6 : Ref sig .tc := ⟨.hbm, 27, rfl⟩
abbrev main_v11_7 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4872x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4x4096x1024 : Shape := ⟨3, ![4, 4096, 1024]⟩
abbrev S1024x4872 : Shape := ⟨2, ![1024, 4872]⟩
abbrev S4x1536 : Shape := ⟨2, ![4, 1536]⟩
abbrev S4 : Shape := ⟨1, ![4]⟩
abbrev S4x4096x4872 : Shape := ⟨3, ![4, 4096, 4872]⟩
abbrev S4x4096x512 : Shape := ⟨3, ![4, 4096, 512]⟩
abbrev S4x4096x128 : Shape := ⟨3, ![4, 4096, 128]⟩
abbrev S4x4096x1536 : Shape := ⟨3, ![4, 4096, 1536]⟩
abbrev S4x4096x4 : Shape := ⟨3, ![4, 4096, 4]⟩
abbrev S4x4096x2048 : Shape := ⟨3, ![4, 4096, 2048]⟩
abbrev S_ : Shape := ⟨0, ![]⟩
abbrev S4x4096x64 : Shape := ⟨3, ![4, 4096, 64]⟩
abbrev S4x4096x256 : Shape := ⟨3, ![4, 4096, 256]⟩
abbrev S4x4099x1536 : Shape := ⟨3, ![4, 4099, 1536]⟩
abbrev S1x1536 : Shape := ⟨2, ![1, 1536]⟩
abbrev S1536 : Shape := ⟨1, ![1536]⟩
abbrev S1x1x1536 : Shape := ⟨3, ![1, 1, 1536]⟩
abbrev S4x4096x4x128 : Shape := ⟨4, ![4, 4096, 4, 128]⟩
abbrev S4x4096x4x1 : Shape := ⟨4, ![4, 4096, 4, 1]⟩
abbrev S1x1x4 : Shape := ⟨3, ![1, 1, 4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x64x64x4 : Shape := ⟨4, ![4, 64, 64, 4]⟩
abbrev S4x64x4x64 : Shape := ⟨4, ![4, 64, 4, 64]⟩
abbrev S4x4096x120 : Shape := ⟨3, ![4, 4096, 120]⟩
abbrev S16384x1024 : Shape := ⟨2, ![16384, 1024]⟩
abbrev S16384x512 : Shape := ⟨2, ![16384, 512]⟩
abbrev S4x512x4096 : Shape := ⟨3, ![4, 512, 4096]⟩
abbrev S16384x128 : Shape := ⟨2, ![16384, 128]⟩
abbrev S4x4096x8 : Shape := ⟨3, ![4, 4096, 8]⟩
abbrev S4x8x4096 : Shape := ⟨3, ![4, 8, 4096]⟩

abbrev nBuf : Space → Nat
  | .hbm => 168
  | .vmem => 0
  | .smem => 0
  | _ => 0

abbrev hbmTy0_0 (i : Nat) : BufTy := match i % 128 with
  | 0 => ⟨S4x4096x1024, .f32⟩
  | 1 => ⟨S1024x4872, .f32⟩
  | 2 => ⟨S4x1536, .f32⟩
  | 3 => ⟨S4, .f32⟩
  | 4 => ⟨S4, .f32⟩
  | 5 => ⟨S4x4096x4872, .f32⟩
  | 6 => ⟨S4x4096x512, .f32⟩
  | 7 => ⟨S4x4096x128, .f32⟩
  | 8 => ⟨S4x4096x128, .f32⟩
  | 9 => ⟨S4x4096x1536, .f32⟩
  | 10 => ⟨S4x4096x512, .f32⟩
  | 11 => ⟨S4x4096x4, .f32⟩
  | 12 => ⟨S4x4096x4, .f32⟩
  | 13 => ⟨S4x4096x2048, .f32⟩
  | 14 => ⟨S_, .f32⟩
  | 15 => ⟨S4x4096x512, .f32⟩
  | 16 => ⟨S4x4096x512, .f32⟩
  | 17 => ⟨S4x4096x64, .f32⟩
  | 18 => ⟨S4x4096x64, .f32⟩
  | 19 => ⟨S4x4096x64, .f32⟩
  | 20 => ⟨S4x4096x64, .f32⟩
  | 21 => ⟨S4x4096x256, .f32⟩
  | 22 => ⟨S4x4096x64, .f32⟩
  | 23 => ⟨S4x4096x64, .f32⟩
  | 24 => ⟨S4x4096x64, .f32⟩
  | 25 => ⟨S4x4096x64, .f32⟩
  | 26 => ⟨S4x4096x256, .f32⟩
  | 27 => ⟨S4x4096x1024, .f32⟩
  | 28 => ⟨S_, .i32⟩
  | 29 => ⟨S_, .f32⟩
  | 30 => ⟨S4x4099x1536, .f32⟩
  | 31 => ⟨S4x4096x1536, .f32⟩
  | 32 => ⟨S1x1536, .f32⟩
  | 33 => ⟨S1536, .f32⟩
  | 34 => ⟨S1x1x1536, .f32⟩
  | 35 => ⟨S4x4096x1536, .f32⟩
  | 36 => ⟨S4x4096x1536, .f32⟩
  | 37 => ⟨S4x4096x1536, .f32⟩
  | 38 => ⟨S1x1536, .f32⟩
  | 39 => ⟨S1536, .f32⟩
  | 40 => ⟨S1x1x1536, .f32⟩
  | 41 => ⟨S4x4096x1536, .f32⟩
  | 42 => ⟨S4x4096x1536, .f32⟩
  | 43 => ⟨S4x4096x1536, .f32⟩
  | 44 => ⟨S4x4096x1536, .f32⟩
  | 45 => ⟨S1x1536, .f32⟩
  | 46 => ⟨S1536, .f32⟩
  | 47 => ⟨S1x1x1536, .f32⟩
  | 48 => ⟨S4x4096x1536, .f32⟩
  | 49 => ⟨S4x4096x1536, .f32⟩
  | 50 => ⟨S4x4096x1536, .f32⟩
  | 51 => ⟨S4x4096x1536, .f32⟩
  | 52 => ⟨S1x1536, .f32⟩
  | 53 => ⟨S1536, .f32⟩
  | 54 => ⟨S1x1x1536, .f32⟩
  | 55 => ⟨S4x4096x1536, .f32⟩
  | 56 => ⟨S4x4096x1536, .f32⟩
  | 57 => ⟨S4x4096x1536, .f32⟩
  | 58 => ⟨S4x4096x1536, .f32⟩
  | 59 => ⟨S4x4096x1536, .f32⟩
  | 60 => ⟨S_, .f32⟩
  | 61 => ⟨S4x4096x1536, .f32⟩
  | 62 => ⟨S4x4096x1536, .f32⟩
  | 63 => ⟨S_, .f32⟩
  | 64 => ⟨S4x4096x1536, .f32⟩
  | 65 => ⟨S4x4096x1536, .f32⟩
  | 66 => ⟨S4x4096x1536, .f32⟩
  | 67 => ⟨S4x4096x512, .f32⟩
  | 68 => ⟨S4x4096x512, .f32⟩
  | 69 => ⟨S4x4096x512, .f32⟩
  | 70 => ⟨S4x4096x4x128, .f32⟩
  | 71 => ⟨S4x4096x4x128, .f32⟩
  | 72 => ⟨S_, .f32⟩
  | 73 => ⟨S4x4096x4, .f32⟩
  | 74 => ⟨S4x4096x4x1, .f32⟩
  | 75 => ⟨S_, .f32⟩
  | 76 => ⟨S4x4096x4x1, .f32⟩
  | 77 => ⟨S4x4096x4x1, .f32⟩
  | 78 => ⟨S4x4096x4x1, .f32⟩
  | 79 => ⟨S4x4096x4x128, .f32⟩
  | 80 => ⟨S4x4096x4x128, .f32⟩
  | 81 => ⟨S_, .f32⟩
  | 82 => ⟨S4x4096x4x128, .f32⟩
  | 83 => ⟨S4x4096x4x128, .f32⟩
  | 84 => ⟨S4x4096x4x128, .bf16⟩
  | 85 => ⟨S4x4096x4x128, .f32⟩
  | 86 => ⟨S4x4096x4x128, .f32⟩
  | 87 => ⟨S_, .f32⟩
  | 88 => ⟨S4x4096x4, .f32⟩
  | 89 => ⟨S4x4096x4x1, .f32⟩
  | 90 => ⟨S_, .f32⟩
  | 91 => ⟨S4x4096x4x1, .f32⟩
  | 92 => ⟨S4x4096x4x1, .f32⟩
  | 93 => ⟨S4x4096x4x1, .f32⟩
  | 94 => ⟨S4x4096x4x128, .f32⟩
  | 95 => ⟨S4x4096x4x128, .f32⟩
  | 96 => ⟨S4x4096x4x128, .bf16⟩
  | 97 => ⟨S4x4096x512, .f32⟩
  | 98 => ⟨S4x4096x512, .f32⟩
  | 99 => ⟨S_, .f32⟩
  | 100 => ⟨S4x4096x512, .f32⟩
  | 101 => ⟨S4x4096x512, .f32⟩
  | 102 => ⟨S_, .f32⟩
  | 103 => ⟨S4x4096x512, .f32⟩
  | 104 => ⟨S4x4096x512, .f32⟩
  | 105 => ⟨S4x4096x512, .f32⟩
  | 106 => ⟨S4x4096x512, .bf16⟩
  | 107 => ⟨S4, .f32⟩
  | 108 => ⟨S4, .f32⟩
  | 109 => ⟨S1x1x4, .f32⟩
  | 110 => ⟨S4x4096x4, .f32⟩
  | 111 => ⟨S4x4096x4, .f32⟩
  | 112 => ⟨S_, .f32⟩
  | 113 => ⟨S4x4096x4, .f32⟩
  | 114 => ⟨S4x4096x4, .f32⟩
  | 115 => ⟨S4x4096x4, .f32⟩
  | 116 => ⟨S4x4096x4, .f32⟩
  | 117 => ⟨S4x4096x4, .i1⟩
  | 118 => ⟨S4x4096x4, .f32⟩
  | 119 => ⟨S4x4096x4, .f32⟩
  | 120 => ⟨S4x4096x4, .f32⟩
  | 121 => ⟨S4x4096x4, .f32⟩
  | 122 => ⟨S4x4096x4, .f32⟩
  | 123 => ⟨S4x4096x4, .f32⟩
  | 124 => ⟨S4x4096x4, .f32⟩
  | 125 => ⟨S4x4096x4, .f32⟩
  | 126 => ⟨S1x1x4, .f32⟩
  | 127 => ⟨S4x4096x4, .f32⟩
  | _ => ⟨S4x4096x1024, .f32⟩

abbrev hbmTy0_1 (i : Nat) : BufTy := match i % 128 with
  | 0 => ⟨S4x4096x4, .f32⟩
  | 1 => ⟨S64, .i32⟩
  | 2 => ⟨S64x1, .i32⟩
  | 3 => ⟨S64, .i32⟩
  | 4 => ⟨S1x64, .i32⟩
  | 5 => ⟨S64x64, .i32⟩
  | 6 => ⟨S64x64, .i32⟩
  | 7 => ⟨S64x64, .i1⟩
  | 8 => ⟨S_, .f32⟩
  | 9 => ⟨S_, .f32⟩
  | 10 => ⟨S64x64, .f32⟩
  | 11 => ⟨S64x64, .f32⟩
  | 12 => ⟨S64x64, .f32⟩
  | 13 => ⟨S4x64x64x4, .f32⟩
  | 14 => ⟨S4x64x4x64, .f32⟩
  | 15 => ⟨S4x64x64x4, .f32⟩
  | 16 => ⟨S4x4096x4, .f32⟩
  | 17 => ⟨S4x4096x4, .f32⟩
  | 18 => ⟨S4x4096x4, .f32⟩
  | 19 => ⟨S_, .f32⟩
  | 20 => ⟨S4x4096x4, .f32⟩
  | 21 => ⟨S4x4096x4, .f32⟩
  | 22 => ⟨S_, .f32⟩
  | 23 => ⟨S4x4096x4, .f32⟩
  | 24 => ⟨S4x4096x4, .f32⟩
  | 25 => ⟨S_, .f32⟩
  | 26 => ⟨S4x4096x120, .f32⟩
  | 27 => ⟨S4x4096x128, .f32⟩
  | 28 => ⟨S4x4096x1024, .bf16⟩
  | 29 => ⟨S16384x1024, .bf16⟩
  | 30 => ⟨S16384x512, .bf16⟩
  | 31 => ⟨S16384x512, .bf16⟩
  | 32 => ⟨S4x4096x512, .bf16⟩
  | 33 => ⟨S4x512x4096, .bf16⟩
  | 34 => ⟨S4x4096x512, .bf16⟩
  | 35 => ⟨S16384x512, .bf16⟩
  | 36 => ⟨S16384x512, .bf16⟩
  | 37 => ⟨S16384x128, .f32⟩
  | 38 => ⟨S4x4096x8, .f32⟩
  | 39 => ⟨S4x8x4096, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_0 : Ref sig .tc := ⟨.hbm, 72, rfl⟩
abbrev main_v56 : Ref sig .tc := ⟨.hbm, 73, rfl⟩
abbrev main_v57 : Ref sig .tc := ⟨.hbm, 74, rfl⟩
abbrev main_cst_1 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_2 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_3 : Ref sig .tc := ⟨.hbm, 87, rfl⟩
abbrev main_v68 : Ref sig .tc := ⟨.hbm, 88, rfl⟩
abbrev main_v69 : Ref sig .tc := ⟨.hbm, 89, rfl⟩
abbrev main_cst_4 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_call2_v0 : Ref sig .tc := ⟨.hbm, 97, rfl⟩
abbrev main_call2_v1 : Ref sig .tc := ⟨.hbm, 98, rfl⟩
abbrev main_call2_cst : Ref sig .tc := ⟨.hbm, 99, rfl⟩
abbrev main_call2_v2 : Ref sig .tc := ⟨.hbm, 100, rfl⟩
abbrev main_call2_v3 : Ref sig .tc := ⟨.hbm, 101, rfl⟩
abbrev main_call2_cst_0 : Ref sig .tc := ⟨.hbm, 102, rfl⟩
abbrev main_call2_v4 : Ref sig .tc := ⟨.hbm, 103, rfl⟩
abbrev main_call2_v5 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_call3_cst : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_5 : Ref sig .tc := ⟨.hbm, 136, rfl⟩
abbrev main_cst_6 : Ref sig .tc := ⟨.hbm, 137, rfl⟩
abbrev main_call4_v0 : Ref sig .tc := ⟨.hbm, 138, rfl⟩
abbrev main_call4_v1 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_7 : Ref sig .tc := ⟨.hbm, 147, rfl⟩
abbrev main_v101 : Ref sig .tc := ⟨.hbm, 148, rfl⟩
abbrev main_v102 : Ref sig .tc := ⟨.hbm, 149, rfl⟩
abbrev main_cst_8 : Ref sig .tc := ⟨.hbm, 150, rfl⟩
abbrev main_v103 : Ref sig .tc := ⟨.hbm, 151, rfl⟩
abbrev main_v104 : Ref sig .tc := ⟨.hbm, 152, rfl⟩
abbrev main_cst_9 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩

abbrev nD : Nat := 1
abbrev τ : Topo := Topo.v7x

variable {F : FTy → Type} [FloatOps F]
-- ==== Proof.Attention.Block.lean ====
/- What one grid point of the attention kernel computes, as a function of its four input blocks.

   The body is written out for 16 windows of 128 queries, two key heads and two pairs of query heads per key head: 64
   stores of one 128x128 tile each. Here the tile is ONE function of the window `n`, the key head `h` and the pair
   `p`, over any float values, and `pieces_eq` says that the 64 stores are that function at the 64 indices. -/
module

public import proofs.«01_k».proof.Proof.Gen.KernelIdeal.Value
public import Idealize.ShloMosaic.Lib.Tactic

@[expose] public section

set_option maxRecDepth 16384

noncomputable section

namespace Cert.Attention

open Cert.KernelIdeal Cert.KernelIdeal.Gen Idealize.ShloMosaic Idealize.ShloMosaic.TcCoe Idealize.SL.Sem

variable {F : FTy → Type} [FloatOps F] [Named F]

/-! ## The masks -/

/-- The lanes of the first head of a pair. -/
def lane : IVec S128x128 1 :=
  cmpi .slt (iota .tc S128x128 32 [1] iota_S128x128_d1_w32) (broadcast S128x128 64#32)

/-- A key's position among the two windows. -/
def keyPos : IVec S128x256 32 := iota .tc S128x256 32 [1] iota_S128x256_d1_w32

/-- A query's position in its window. -/
def queryPos : IVec S128x256 32 := iota .tc S128x256 32 [0] iota_S128x256_d0_w32

/-- The keys a query sees: those at most a window before it, and none after it. -/
def band : IVec S128x256 1 :=
  andi (cmpi .sgt keyPos queryPos) (cmpi .sle keyPos (addi queryPos (broadcast S128x256 128#32)))

/-- The same where the block before may not exist: at `j = 0` only the window's own keys. -/
def firstBand (j : BitVec 32) : IVec S128x256 1 :=
  andi band (ori (cmpi .sge keyPos (broadcast S128x256 128#32)) (broadcast S128x256 (Scalar.cmpi .sgt j 0#32)))

/-! ## One key head of one window -/

/-- The zero tile. -/
def zeroTile : FVec F S128x128 .bf16 := broadcast S128x128 (Scalar.ofBits .bf16 0x0000#16)

/-- A tile after its reshape to its own shape. -/
def same (x : Vec F S128x128 .bf16) : FVec F S128x128 .bf16 := shapeCast S128x128 x shapeCasts_S128x128_S128x128

/-- Two windows' rows one after the other. -/
def both (prev cur : Vec F S128x128 .bf16) : FVec F S256x128 .bf16 :=
  concatenate S256x128 0 [⟨S128x128, same prev⟩, ⟨S128x128, same cur⟩] concatenates_S128x128_S128x128_S256x128_d0

/-- The four query heads of a key head, one under the other, each on its own 64 lanes. -/
def queries (qa qb : Vec F S128x128 .bf16) : FVec F S512x128 .bf16 :=
  concatenate S512x128 0 [⟨S128x128, select lane (same qa) zeroTile⟩, ⟨S128x128, select lane zeroTile (same qa)⟩,
    ⟨S128x128, select lane (same qb) zeroTile⟩, ⟨S128x128, select lane zeroTile (same qb)⟩]
    concatenates_S128x128_S128x128_S128x128_S128x128_S512x128_d0

/-- The four heads' scores against the two windows' keys. -/
def scores (qa qb kp kc : Vec F S128x128 .bf16) : FVec F S512x256 .f32 :=
  matmul dot_S512x128_S256x128_S512x256_1_1_0_0_n_n none (queries qa qb) (both kp kc)
    (constant S512x256 .f32 0x00000000#32)

theorem slices_scores (e : Fin 4) : S512x256.Slices ![128 * e.val, 0] S128x256 := by
  revert e; decide

theorem slices_out (e : Fin 4) : S512x128.Slices ![128 * e.val, 0] S128x128 := by
  revert e; decide

/-- Head `e`'s scores, masked. -/
def masked (mask : IVec S128x256 1) (s : FVec F S512x256 .f32) (e : Fin 4) : FVec F S128x256 .f32 :=
  select mask (extractStridedSlice S128x256 ![128 * e.val, 0] s (slices_scores e))
    (broadcast S128x256 (Named.named κ "mask" 0xF149F2CA#32))

/-- Each row's greatest score, the sink among them. -/
def rowMax (mask : IVec S128x256 1) (s : FVec F S512x256 .f32) (e : Fin 4) (sink : F .f32) : FVec F S128x1 .f32 :=
  maximumf (shapeCast S128x1 (multiReduction .maximumf [1] S128 (masked mask s e) 0xFF800000#32
      reduces_S128x256_S128 (.inl rfl) rfl) shapeCasts_S128_S128x1)
    (broadcast S128x1 sink)

/-- The unnormalised weights. -/
def weights (mask : IVec S128x256 1) (s : FVec F S512x256 .f32) (e : Fin 4) (sink : F .f32) : FVec F S128x256 .f32 :=
  exp (subf (masked mask s e) (broadcastTo S128x256 (rowMax mask s e sink) broadcasts_S128x1_S128x256))

/-- The reciprocal of a row's sum of weights, the sink's weight among them. -/
def recip (mask : IVec S128x256 1) (s : FVec F S512x256 .f32) (e : Fin 4) (sink : F .f32) : FVec F S128x1 .f32 :=
  divf (broadcast S128x1 (Scalar.ofBits .f32 0x3F800000#32))
    (addf (shapeCast S128x1 (multiReduction .add [1] S128 (weights mask s e sink) 0x00000000#32
        reduces_S128x256_S128 (.inl rfl) rfl) shapeCasts_S128_S128x1)
      (exp (subf (broadcast S128x1 sink) (rowMax mask s e sink))))

/-- The four heads' weighted sums of the two windows' values, not yet normalised. -/
def sums (mask : IVec S128x256 1) (s : FVec F S512x256 .f32) (sink : Fin 4 → F .f32)
    (vp vc : Vec F S128x128 .bf16) : FVec F S512x128 .f32 :=
  matmul dot_S512x256_S256x128_S512x128_1_0_0_1_n_n none
    (concatenate S512x256 0 [⟨S128x256, truncf .bf16 (weights mask s 0 (sink 0)) bitsLt_bf16_f32⟩,
      ⟨S128x256, truncf .bf16 (weights mask s 1 (sink 1)) bitsLt_bf16_f32⟩,
      ⟨S128x256, truncf .bf16 (weights mask s 2 (sink 2)) bitsLt_bf16_f32⟩,
      ⟨S128x256, truncf .bf16 (weights mask s 3 (sink 3)) bitsLt_bf16_f32⟩]
      concatenates_S128x256_S128x256_S128x256_S128x256_S512x256_d0)
    (both vp vc) (constant S512x128 .f32 0x00000000#32)

/-- Head `e`'s normalised tile. -/
def head (mask : IVec S128x256 1) (s : FVec F S512x256 .f32) (sink : Fin 4 → F .f32)
    (vp vc : Vec F S128x128 .bf16) (e : Fin 4) : FVec F S128x128 .f32 :=
  mulf (extractStridedSlice S128x128 ![128 * e.val, 0] (sums mask s sink vp vc) (slices_out e))
    (broadcastTo S128x128 (recip mask s e (sink e)) broadcasts_S128x1_S128x128)

/-- The two query heads of pair `p`. -/
def headA (p : Fin 2) : Fin 4 := ⟨2 * p.val, by omega⟩
def headB (p : Fin 2) : Fin 4 := ⟨2 * p.val + 1, by omega⟩

/-- The tile of pair `p`: the first head's lanes from one head, the others from the other. -/
def pairTile (mask : IVec S128x256 1) (s : FVec F S512x256 .f32) (sink : Fin 4 → F .f32)
    (vp vc : Vec F S128x128 .bf16) (p : Fin 2) : FVec F S128x128 .bf16 :=
  truncf .bf16 (select lane (head mask s sink vp vc (headA p)) (head mask s sink vp vc (headB p))) bitsLt_bf16_f32

/-! ## The tile of a window, a key head and a pair, from the point's blocks -/

theorem inb_tile (n : Fin 16) (c : Fin 4) : ∀ a, (![128 * n.val, 128 * c.val] : Fin 2 → Nat) a + S128x128.size a ≤ S2048x512.size a := by
  revert n c; decide

theorem inb_prev (c : Fin 4) : ∀ a, (![0, 128 * c.val] : Fin 2 → Nat) a + S128x128.size a ≤ S128x512.size a := by
  revert c; decide

theorem inb_sink (k : Fin 8) : ∀ a, (![k.val] : Fin 1 → Nat) a + S1.size a ≤ S8.size a := by
  revert k; decide

/-- Rows `128 n …` and lanes `128 c …` of a block of 2048 rows. -/
def tileRect (n : Fin 16) (c : Fin 4) : Rect S2048x512 := Rect.unit ![128 * n.val, 128 * c.val] S128x128.size (inb_tile n c)

/-- The window's own tile, lanes `128 c …`. -/
def cur (x : Vec F S2048x512 .bf16) (n : Fin 16) (c : Fin 4) : Vec F S128x128 .bf16 := View.ld x (tileRect n c)

/-- The tile of the window before: of this block, or of the block before at the first window. -/
def prev (x : Vec F S2048x512 .bf16) (x' : Vec F S128x512 .bf16) (n : Fin 16) (c : Fin 4) : Vec F S128x128 .bf16 :=
  if n.val = 0 then View.ld x' (Rect.unit ![0, 128 * c.val] S128x128.size (inb_prev c))
  else View.ld x (tileRect ⟨n.val - 1, by omega⟩ c)

/-- Head `k`'s sink. -/
def sinkAt (x : Vec F S8 .f32) (k : Fin 8) : F .f32 :=
  View.ld x (Rect.unit ![k.val] S1.size (inb_sink k)) (Shape.Idx.first (by show 0 < S1.numel; decide))

/-- The window's mask. -/
def maskAt (j : BitVec 32) (n : Fin 16) : IVec S128x256 1 := if n.val = 0 then firstBand j else band

/-- Which 128 lanes hold pair `p` of key head `h`; key head `h`; its values. -/
def pairLane (h p : Fin 2) : Fin 4 := ⟨2 * h.val + p.val, by omega⟩
def keyLane (h : Fin 2) : Fin 4 := ⟨h.val, by omega⟩
def valueLane (h : Fin 2) : Fin 4 := ⟨2 + h.val, by omega⟩

/-- Which sink belongs to head `e` of key head `h`. -/
def sinkIx (h : Fin 2) (e : Fin 4) : Fin 8 := ⟨4 * h.val + e.val, by omega⟩

/-- The tile stored for window `n`, key head `h`, pair `p`. -/
def tile (j : BitVec 32) (x0 : Vec F S8 .f32) (x1 x2 : Vec F S2048x512 .bf16) (x3 : Vec F S128x512 .bf16)
    (n : Fin 16) (h p : Fin 2) : FVec F S128x128 .bf16 :=
  pairTile (maskAt j n)
    (scores (cur x1 n (pairLane h 0)) (cur x1 n (pairLane h 1)) (prev x2 x3 n (keyLane h)) (cur x2 n (keyLane h)))
    (fun e => sinkAt x0 (sinkIx h e)) (prev x2 x3 n (valueLane h)) (cur x2 n (valueLane h)) p

/-- The 64 tiles in the order their stores are listed, last first. -/
def order : List (Fin 16 × Fin 2 × Fin 2) :=
  (List.finRange 16).reverse.flatMap fun n => [(n, 1, 1), (n, 1, 0), (n, 0, 1), (n, 0, 0)]

/-- One store: where, and what. -/
def piece (j : BitVec 32) (x0 : Vec F S8 .f32) (x1 x2 : Vec F S2048x512 .bf16) (x3 : Vec F S128x512 .bf16)
    (i : Fin 16 × Fin 2 × Fin 2) : View.Piece (Elt F) S2048x512 .bf16 :=
  ⟨tileRect i.1 (pairLane i.2.1 i.2.2), tile j x0 x1 x2 x3 i.1 i.2.1 i.2.2⟩

set_option maxHeartbeats 4000000 in
/-- The stores of the body are these 64 tiles. -/
theorem pieces_eq (c : Dev nD) (i : grid0.Coords) (arg2 : Memref sig .tc .smem S8 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x512 .bf16) (harg5 : arg5.IsWhole) (arg6 : Memref sig .tc .vmem S2048x512 .bf16) (harg6 : arg6.IsWhole)
    (x0 : Vec F S8 .f32) (x1 : Vec F S2048x512 .bf16) (x2 : Vec F S2048x512 .bf16) (x3 : Vec F S128x512 .bf16) :
    (kernelRun0_A c i arg2 harg2 arg3 harg3 arg4 harg4 arg5 harg5 arg6 harg6 x0 x1 x2 x3).1
      = order.map (piece (BitVec.ofNat 32 (i 1).val) x0 x1 x2 x3) := by
  have key : (kernelRun0_A c i arg2 harg2 arg3 harg3 arg4 harg4 arg5 harg5 arg6 harg6 x0 x1 x2 x3).1
      = order.map (piece (BitVec.ofNat 32 (i 1).val) (arg2.view.read (Elt F) (harg2.unread x0))
          (arg3.view.read (Elt F) (harg3.unread x1)) (arg4.view.read (Elt F) (harg4.unread x2))
          (arg5.view.read (Elt F) (harg5.unread x3))) := by
    unfold kernelRun0_A
    dsimp only
    sl_unfold_words
    rfl
  rwa [harg2.read_unread, harg3.read_unread, harg4.read_unread, harg5.read_unread] at key

end Cert.Attention

end
-- ==== Proof.Attention.Softmax.lean ====
/- The mathematics of one row of attention with a sink, over the extended reals.

   The kernel sums the unnormalised weights' products with the values and multiplies the sum by the reciprocal of the
   weights' sum; the reference divides every weight and then sums. `row_eq` says the two agree where the sum of weights
   is a positive real, and `total_pos` that it is one where the scores stay below infinity and the sink is finite. -/
module

public import Idealize.ShloMosaic.PureOps.Ideal
public import Idealize.ShloMosaic.PureOps.Ideal.Laws
public import Mathlib.Data.EReal.Inv

@[expose] public section

noncomputable section

namespace Cert.Attention

open Idealize.ShloMosaic

/-! ## The extended reals -/

theorem exp_nonneg (x : EReal) : 0 ≤ Ideal.exp x := by
  induction x with
  | bot => exact le_refl _
  | top => exact le_top
  | coe r => exact EReal.coe_nonneg.mpr (Real.exp_pos r).le

theorem exp_le_one (x : EReal) (h : x ≤ 0) : Ideal.exp x ≤ 1 := by
  induction x with
  | bot => exact zero_le_one
  | top => exact absurd h (by simp)
  | coe r => exact EReal.coe_le_coe_iff.mpr (Real.exp_le_one_iff.mpr (EReal.coe_nonpos.mp h))

theorem exp_bot : Ideal.exp ⊥ = 0 := rfl

/-- A finite sum of values below infinity is below infinity. -/
theorem sum_ne_top {ι : Type} (s : Finset ι) (f : ι → EReal) (h : ∀ i, f i ≠ ⊤) : ∑ i ∈ s, f i ≠ ⊤ := by
  classical
  induction s using Finset.induction_on with
  | empty => simp
  | insert a s ha ih =>
    rw [Finset.sum_insert ha]
    exact (EReal.add_lt_top (h a) ih).ne

/-- A factor that is a non-negative real moves into a finite sum. -/
theorem sum_mul {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- A product of two reals is below infinity. -/
theorem mul_ne_top_of_finite (x y : EReal) (hx : x ≠ ⊤) (hx' : x ≠ ⊥) (hy : y ≠ ⊤) (hy' : y ≠ ⊥) : x * y ≠ ⊤ := by
  lift x to ℝ using ⟨hx, hx'⟩
  lift y to ℝ using ⟨hy, hy'⟩
  rw [← EReal.coe_mul]
  exact EReal.coe_ne_top _

/-! ## One row -/

/-- The row's greatest score, the sink among them. -/
def peak (s : Fin 256 → EReal) (sink : EReal) : EReal := max (Finset.univ.fold max ⊥ s) sink

/-- The sum of the unnormalised weights, the sink's among them. -/
def total (s : Fin 256 → EReal) (sink : EReal) : EReal :=
  ∑ k, Ideal.exp (s k - peak s sink) + Ideal.exp (sink - peak s sink)

/-- The kernel's row: the weighted sum times the reciprocal. -/
def kernelRow (s : Fin 256 → EReal) (sink : EReal) (v : Fin 256 → EReal) : EReal :=
  (∑ k, Ideal.exp (s k - peak s sink) * v k) * Ideal.div 1 (total s sink)

/-- The reference's row: the sum of the normalised weights' products. -/
def referenceRow (s : Fin 256 → EReal) (sink : EReal) (v : Fin 256 → EReal) : EReal :=
  ∑ k, v k * Ideal.div (Ideal.exp (s k - peak s sink)) (total s sink)

/-- A masked key's value does not matter. -/
theorem kernelRow_congr (s : Fin 256 → EReal) (sink : EReal) (v v' : Fin 256 → EReal)
    (h : ∀ k, s k ≠ ⊥ → v k = v' k) : kernelRow s sink v = kernelRow s sink v' := by
  unfold kernelRow
  congr 1
  refine Finset.sum_congr rfl fun k _ => ?_
  by_cases hk : s k = ⊥
  · rw [hk, EReal.bot_sub, exp_bot, zero_mul, zero_mul]
  · rw [h k hk]

theorem score_le_peak (s : Fin 256 → EReal) (sink : EReal) (k : Fin 256) : s k ≤ peak s sink :=
  le_max_of_le_left ((Finset.le_fold_max _).mpr (Or.inr ⟨k, Finset.mem_univ k, le_rfl⟩))

theorem sink_le_peak (s : Fin 256 → EReal) (sink : EReal) : sink ≤ peak s sink := le_max_right _ _

theorem peak_ne_top (s : Fin 256 → EReal) (sink : EReal) (hs : ∀ k, s k ≠ ⊤) (h : sink ≠ ⊤) : peak s sink ≠ ⊤ := by
  unfold peak
  refine (max_lt ?_ (lt_top_iff_ne_top.mpr h)).ne
  exact (Finset.fold_max_lt _).mpr ⟨bot_lt_top, fun k _ => lt_top_iff_ne_top.mpr (hs k)⟩

/-- The sum of weights is positive. -/
theorem total_pos (s : Fin 256 → EReal) (sink : EReal) (hs : ∀ k, s k ≠ ⊤) (h : sink ≠ ⊤) (h' : sink ≠ ⊥) :
    0 < total s sink := by
  have hp := peak_ne_top s sink hs h
  have hb : peak s sink ≠ ⊥ := fun e => h' (le_bot_iff.mp (e ▸ sink_le_peak s sink))
  unfold total
  refine lt_of_lt_of_le ?_ (le_add_of_nonneg_left (Finset.sum_nonneg fun k _ => exp_nonneg _))
  generalize peak s sink = p at hp hb
  lift p to ℝ using ⟨hp, hb⟩
  lift sink to ℝ using ⟨h, h'⟩
  rw [← EReal.coe_sub]
  exact EReal.coe_pos.mpr (Real.exp_pos _)

/-- Each weight is at most one. -/
theorem weight_le_one (x p : EReal) (h : x ≤ p) : Ideal.exp (x - p) ≤ 1 := by
  refine exp_le_one _ ?_
  induction p with
  | bot => rw [le_bot_iff.mp h, EReal.bot_sub]; exact bot_le
  | top => induction x <;> simp
  | coe r =>
    induction x with
    | bot => rw [EReal.bot_sub]; exact bot_le
    | top => exact absurd h (by simp)
    | coe q => rw [← EReal.coe_sub]; exact EReal.coe_nonpos.mpr (sub_nonpos.mpr (EReal.coe_le_coe_iff.mp h))

theorem total_ne_top (s : Fin 256 → EReal) (sink : EReal) : total s sink ≠ ⊤ := by
  unfold total
  refine (EReal.add_lt_top (sum_ne_top _ _ fun k => ?_) ?_).ne
  · exact ((weight_le_one _ _ (score_le_peak s sink k)).trans_lt (EReal.coe_lt_top 1)).ne
  · exact ((weight_le_one _ _ (sink_le_peak s sink)).trans_lt (EReal.coe_lt_top 1)).ne

/-- The two rows agree where the scores stay below infinity and the sink is finite. -/
theorem row_eq (s : Fin 256 → EReal) (sink : EReal) (v : Fin 256 → EReal) (hs : ∀ k, s k ≠ ⊤) (h : sink ≠ ⊤)
    (h' : sink ≠ ⊥) : kernelRow s sink v = referenceRow s sink v := by
  have h0 := total_pos s sink hs h h'
  have ht := total_ne_top s sink
  unfold kernelRow referenceRow Ideal.div
  simp only [h0.ne', if_false, one_mul]
  rw [sum_mul _ _ _ (EReal.inv_nonneg_of_nonneg h0.le)]
  · refine Finset.sum_congr rfl fun k _ => ?_
    rw [mul_comm (Ideal.exp _) (v k), mul_assoc]
  · generalize total s sink = t at h0 ht
    lift t to ℝ using ⟨ht, (EReal.bot_lt_zero.trans h0).ne'⟩
    rw [← EReal.coe_inv]
    exact EReal.coe_ne_top _

/-! ## The reference's softmax over 257 entries -/

/-- The scores with the sink appended. -/
def appended (s : Fin 256 → EReal) (sink : EReal) (i : Fin 257) : EReal :=
  if h : i.val < 256 then s ⟨i.val, h⟩ else sink

theorem sum_appended (s : Fin 256 → EReal) (sink : EReal) (f : EReal → EReal) :
    ∑ i, f (appended s sink i) = ∑ k, f (s k) + f sink := by
  rw [Fin.sum_univ_castSucc]
  refine congrArg₂ _ (Finset.sum_congr rfl fun k _ => ?_) ?_
  · unfold appended
    rw [dif_pos (by simp : (Fin.castSucc k).val < 256)]
    rfl
  · unfold appended
    rw [dif_neg (by simp)]

theorem fold_appended (s : Fin 256 → EReal) (sink : EReal) :
    max ⊥ (Finset.univ.fold max ⊥ (appended s sink)) = peak s sink := by
  rw [max_eq_right bot_le]
  refine le_antisymm ((Finset.fold_max_le _).mpr ⟨bot_le, fun i _ => ?_⟩) (max_le ?_ ?_)
  · unfold appended
    split
    · exact score_le_peak s sink _
    · exact sink_le_peak s sink
  · refine (Finset.fold_max_le _).mpr ⟨bot_le, fun k _ => (Finset.le_fold_max _).mpr (Or.inr ⟨k.castSucc, Finset.mem_univ _, ?_⟩)⟩
    unfold appended
    rw [dif_pos (by simp : (Fin.castSucc k).val < 256)]
    exact le_rfl
  · refine (Finset.le_fold_max _).mpr (Or.inr ⟨Fin.last 256, Finset.mem_univ _, ?_⟩)
    unfold appended
    rw [dif_neg (by simp)]

end Cert.Attention

end
-- ==== Proof.Attention.BlockValue.lean ====
/- What one tile holds at a row and a lane, over the extended reals: one row of attention (`kernelRow`) of the tile's
   queries, keys and values. -/
module

public import proofs.«01_k».proof.Proof.Attention.Block
public import proofs.«01_k».proof.Proof.Attention.Softmax
public import Idealize.ShloMosaic.Lib.Pointwise

@[expose] public section

set_option maxRecDepth 16384

noncomputable section

namespace Cert.Attention

open Cert.KernelIdeal Cert.KernelIdeal.Gen Idealize.ShloMosaic Idealize.ShloMosaic.TcCoe Idealize.SL.Sem

theorem ofBits_negInf : Ideal.ofBits .f32 0xFF800000#32 = ⊥ := by
  simp [Ideal.ofBits, Ideal.ieee]

theorem named_mask : (Named.named κ "mask" 0xF149F2CA#32 : Ideal .f32) = ⊥ := rfl

/-- Two windows' rows: the first from the window before, the others from the window itself. -/
theorem both_apply (p c : Vec Ideal S128x128 .bf16) (k : Fin 256) (d : Fin 128) :
    both p c (ix2 k d) = if h : k.val < 128 then p (ix2 ⟨k.val, h⟩ d) else c (ix2 ⟨k.val - 128, by omega⟩ d) := by
  unfold both same
  pointwise

/-- A word below 2^31 read from a small number compares as the number. -/
theorem slt_ofNat (a b : Nat) (ha : a < 2 ^ 31) (hb : b < 2 ^ 31) :
    IntOp.cmpi .slt (BitVec.ofNat 32 a) (BitVec.ofNat 32 b) = if a < b then 1#1 else 0#1 := by
  have h1 : (BitVec.ofNat 32 a).toInt = a := by
    rw [BitVec.toInt_eq_toNat_cond, BitVec.toNat_ofNat]; omega
  have h2 : (BitVec.ofNat 32 b).toInt = b := by
    rw [BitVec.toInt_eq_toNat_cond, BitVec.toNat_ofNat]; omega
  simp only [IntOp.cmpi, BitVec.slt, h1, h2, Nat.cast_lt]
  by_cases h : a < b <;> simp [h]

/-- Which lanes of a tile a head's queries lie on: the first 64 for an even head, the others for an odd one. -/
def half (e : Fin 4) (d : Fin 64) : Fin 128 := ⟨64 * (e.val % 2) + d.val, by omega⟩

/-- A head's queries: the first or the second tile of its key head. -/
def ofPair (qa qb : Vec Ideal S128x128 .bf16) (e : Fin 4) : Vec Ideal S128x128 .bf16 := if e.val < 2 then qa else qb

/-- Row `r` of block `e` of four blocks of 128 rows. -/
theorem four_blocks {α : Type} (f : Fin 4 → Fin 128 → α) (e : Fin 4) (r : Fin 128) :
    (if h : 128 * e.val + r.val < 128 then f 0 ⟨128 * e.val + r.val, h⟩
      else if h : 128 * e.val + r.val - 128 < 128 then f 1 ⟨128 * e.val + r.val - 128, h⟩
      else if h : 128 * e.val + r.val - 128 - 128 < 128 then f 2 ⟨128 * e.val + r.val - 128 - 128, h⟩
      else f 3 ⟨128 * e.val + r.val - 128 - 128 - 128, by omega⟩) = f e r := by
  have hr := r.isLt
  obtain he | he | he | he : e.val = 0 ∨ e.val = 1 ∨ e.val = 2 ∨ e.val = 3 := by omega
  · rw [dif_pos (by omega)]
    exact congrArg₂ f (Fin.ext (by simp [he])) (Fin.ext (by simp [he]))
  · rw [dif_neg (by omega), dif_pos (by omega)]
    exact congrArg₂ f (Fin.ext (by simp [he])) (Fin.ext (by simp [he]))
  · rw [dif_neg (by omega), dif_neg (by omega), dif_pos (by omega)]
    exact congrArg₂ f (Fin.ext (by simp [he])) (Fin.ext (by simp only [he]; omega))
  · rw [dif_neg (by omega), dif_neg (by omega), dif_neg (by omega)]
    exact congrArg₂ f (Fin.ext (by simp [he])) (Fin.ext (by simp only [he]; omega))

/-- The stacked queries' row of head `e`: its own lanes, zero elsewhere. -/
theorem queries_apply (qa qb : Vec Ideal S128x128 .bf16) (e : Fin 4) (r : Fin 128) (d : Fin 128) :
    queries qa qb (ix2 ⟨128 * e.val + r.val, by omega⟩ d)
      = if d.val / 64 = e.val % 2 then ofPair qa qb e (ix2 r d) else 0 := by
  unfold queries zeroTile same lane
  pointwise
  rw [slt_ofNat d.val 64 (by omega) (by norm_num)]
  refine (four_blocks (fun e' i => Scalar.select (if d.val < 64 then 1#1 else 0#1)
    (if e'.val % 2 = 0 then ofPair qa qb e' (ix2 i d) else 0)
    (if e'.val % 2 = 0 then 0 else ofPair qa qb e' (ix2 i d))) e r).trans ?_
  have hd := d.isLt
  by_cases h : d.val < 64
  · have h0 : d.val / 64 = 0 := by omega
    simp only [h, h0, if_true]
    by_cases h2 : e.val % 2 = 0
    · simp [Scalar.select, h2]
    · simp [Scalar.select, h2]
      intro h3; omega
  · have h0 : d.val / 64 = 1 := by omega
    simp only [h, h0, if_false]
    by_cases h2 : e.val % 2 = 0
    · simp [Scalar.select, h2]
    · have h3 : e.val % 2 = 1 := by omega
      simp [Scalar.select, h3]

/-- A sum over 128 lanes of terms that vanish off a head's lanes. -/
theorem sum_half (e : Fin 4) (f : Fin 128 → EReal) (hf : ∀ d : Fin 128, d.val / 64 ≠ e.val % 2 → f d = 0) :
    ∑ d, f d = ∑ d : Fin 64, f (half e d) := by
  have split : ∑ d : Fin 128, f d = ∑ d : Fin 64, f ⟨d.val, by omega⟩ + ∑ d : Fin 64, f ⟨64 + d.val, by omega⟩ :=
    Fin.sum_univ_add (a := 64) (b := 64) f
  rw [split]
  obtain h | h : e.val % 2 = 0 ∨ e.val % 2 = 1 := by omega
  · rw [Finset.sum_eq_zero (s := Finset.univ) (f := fun d : Fin 64 => f ⟨64 + d.val, by omega⟩)
      (fun d _ => hf _ (by simp only [h]; omega)), add_zero]
    refine Finset.sum_congr rfl fun d _ => congrArg f (Fin.ext ?_)
    simp [half, h]
  · rw [Finset.sum_eq_zero (s := Finset.univ) (f := fun d : Fin 64 => f ⟨d.val, by omega⟩)
      (fun d _ => hf _ (by simp only [h]; omega)), zero_add]
    refine Finset.sum_congr rfl fun d _ => congrArg f (Fin.ext ?_)
    simp [half, h]

/-- Head `e`'s score of query `r` against key `k`. -/
theorem scores_apply (qa qb kp kc : Vec Ideal S128x128 .bf16) (e : Fin 4) (r : Fin 128) (k : Fin 256) :
    scores qa qb kp kc (ix2 ⟨128 * e.val + r.val, by omega⟩ k)
      = ∑ d : Fin 64, ofPair qa qb e (ix2 r (half e d)) * both kp kc (ix2 k (half e d)) := by
  have h : scores qa qb kp kc (ix2 ⟨128 * e.val + r.val, by omega⟩ k)
      = ∑ d : Fin 128, queries qa qb (ix2 ⟨128 * e.val + r.val, by omega⟩ d) * both kp kc (ix2 k d) := by
    unfold scores
    pointwise
  rw [h, sum_half e _ fun d hd => by rw [queries_apply, if_neg hd, zero_mul]]
  refine Finset.sum_congr rfl fun d _ => ?_
  rw [queries_apply, if_pos (by simp only [half]; omega)]

/-- Row `r` of head `e`'s masked scores. -/
def maskedRow (mask : IVec S128x256 1) (s : FVec Ideal S512x256 .f32) (e : Fin 4) (r : Fin 128) (k : Fin 256) : EReal :=
  if mask (ix2 r k) = 1#1 then s (ix2 ⟨128 * e.val + r.val, by omega⟩ k) else ⊥

theorem masked_apply (mask : IVec S128x256 1) (s : FVec Ideal S512x256 .f32) (e : Fin 4) (r : Fin 128) (k : Fin 256) :
    masked mask s e (ix2 r k) = maskedRow mask s e r k := by
  unfold masked maskedRow
  pointwise
  rw [named_mask]
  rfl

theorem weights_apply (mask : IVec S128x256 1) (s : FVec Ideal S512x256 .f32) (e : Fin 4) (sink : EReal) (r : Fin 128)
    (k : Fin 256) : weights mask s e sink (ix2 r k)
      = Ideal.exp (maskedRow mask s e r k - peak (maskedRow mask s e r) sink) := by
  unfold weights rowMax peak
  pointwise
  simp only [masked_apply, ofBits_negInf]

theorem recip_apply (mask : IVec S128x256 1) (s : FVec Ideal S512x256 .f32) (e : Fin 4) (sink : EReal) (r : Fin 128) :
    recip mask s e sink (ix2 r 0) = Ideal.div 1 (total (maskedRow mask s e r) sink) := by
  unfold recip rowMax total
  pointwise
  simp only [masked_apply, ofBits_negInf, weights_apply]
  rfl

/-- Head `e`'s tile at row `r`, lane `l`: one row of attention. -/
theorem head_apply (mask : IVec S128x256 1) (s : FVec Ideal S512x256 .f32) (sink : Fin 4 → EReal)
    (vp vc : Vec Ideal S128x128 .bf16) (e : Fin 4) (r l : Fin 128) :
    head mask s sink vp vc e (ix2 r l)
      = kernelRow (maskedRow mask s e r) (sink e) fun k => both vp vc (ix2 k l) := by
  unfold head sums kernelRow
  pointwise
  rw [recip_apply]
  refine congrArg (· * _) (Finset.sum_congr rfl fun k _ => ?_)
  rw [← weights_apply]
  exact congrArg (· * _) (four_blocks (fun e' i => weights mask s e' (sink e') (ix2 i k)) e r)

/-- Which head of its key head a lane of pair `p`'s tile belongs to. -/
def headOf (p : Fin 2) (l : Fin 128) : Fin 4 := ⟨2 * p.val + l.val / 64, by omega⟩

theorem pairTile_apply (mask : IVec S128x256 1) (s : FVec Ideal S512x256 .f32) (sink : Fin 4 → EReal)
    (vp vc : Vec Ideal S128x128 .bf16) (p : Fin 2) (r l : Fin 128) :
    pairTile mask s sink vp vc p (ix2 r l)
      = kernelRow (maskedRow mask s (headOf p l) r) (sink (headOf p l)) fun k => both vp vc (ix2 k l) := by
  rw [← head_apply]
  unfold pairTile lane
  pointwise
  rw [slt_ofNat l.val 64 (by omega) (by norm_num)]
  by_cases h : l.val < 64
  · rw [if_pos h, show headOf p l = headA p from Fin.ext (by simp only [headOf, headA]; omega)]
    rfl
  · rw [if_neg h, show headOf p l = headB p from Fin.ext (by simp only [headOf, headB]; omega)]
    rfl

end Cert.Attention

end
-- ==== Proof.Attention.Tile.lean ====
/- What one point's block of the result holds at each index, in terms of the blocks the point reads: the 64 tiles the
   body stores, read at a row and a lane, and put together. -/
module

public import proofs.«01_k».proof.Proof.Attention.BlockValue

@[expose] public section

set_option maxRecDepth 16384

noncomputable section

namespace Cert.Attention

open Cert.KernelIdeal Cert.KernelIdeal.Gen Idealize.ShloMosaic Idealize.ShloMosaic.TcCoe Idealize.SL.Sem

/-- Whether query `r` of window `w` sees key `k` of the window before (`k < 128`) and the window itself. -/
def Seen (w : Nat) (r : Fin 128) (k : Fin 256) : Prop := r.val < k.val ∧ k.val ≤ r.val + 128 ∧ (w ≠ 0 ∨ 128 ≤ k.val)

instance (w : Nat) (r : Fin 128) (k : Fin 256) : Decidable (Seen w r k) := by unfold Seen; infer_instance

theorem toInt_ofNat (a : Nat) (ha : a < 2 ^ 31) : (BitVec.ofNat 32 a).toInt = a := by
  rw [BitVec.toInt_eq_toNat_cond, BitVec.toNat_ofNat]; omega

/-- The mask of a window: what its queries see. -/
theorem maskAt_apply (j : Nat) (hj : j < 2) (n : Fin 16) (r : Fin 128) (k : Fin 256) :
    maskAt (BitVec.ofNat 32 j) n (ix2 r k) = 1#1 ↔ Seen (16 * j + n.val) r k := by
  have hr := r.isLt
  have hk := k.isLt
  have hadd : BitVec.ofNat 32 r.val + 128#32 = BitVec.ofNat 32 (r.val + 128) := by
    rw [BitVec.ofNat_add]
  have hb : band (ix2 r k) = if r.val < k.val ∧ k.val ≤ r.val + 128 then 1#1 else 0#1 := by
    unfold band keyPos queryPos
    pointwise
    simp only [IntOp.cmpi, IntOp.andi, IntOp.addi, BitVec.slt, BitVec.sle, hadd, toInt_ofNat r.val (by omega),
      toInt_ofNat k.val (by omega), toInt_ofNat (r.val + 128) (by omega), Nat.cast_lt, Nat.cast_le]
    by_cases h1 : r.val < k.val <;> by_cases h2 : k.val ≤ r.val + 128 <;> simp [h1, h2]
  unfold maskAt Seen
  by_cases hn : n.val = 0
  · rw [if_pos hn]
    have hf : firstBand (BitVec.ofNat 32 j) (ix2 r k)
        = IntOp.andi (band (ix2 r k)) (if 128 ≤ k.val ∨ 0 < j then 1#1 else 0#1) := by
      unfold firstBand keyPos
      pointwise
      have h128 : (128#32).toInt = 128 := rfl
      have h0 : (0#32).toInt = 0 := rfl
      simp only [Scalar.cmpi, IntOp.cmpi, IntOp.ori, BitVec.slt, BitVec.sle, h128, h0, toInt_ofNat k.val (by omega),
        toInt_ofNat j (by omega)]
      congr 1
      by_cases h1 : 128 ≤ k.val <;> by_cases h2 : 0 < j <;> simp [h1, h2]
    rw [hf, hb]
    by_cases h1 : r.val < k.val ∧ k.val ≤ r.val + 128 <;> by_cases h2 : 128 ≤ k.val ∨ 0 < j <;>
      simp [h1, h2, IntOp.andi, hn] <;> omega
  · rw [if_neg hn, hb]
    by_cases h1 : r.val < k.val ∧ k.val ≤ r.val + 128 <;> simp [h1] <;> omega

/-- Lane `l` of the block's row that holds key position `k` of window `n`'s two windows. -/
def keyRow (x : Vec Ideal S2048x512 .bf16) (x' : Vec Ideal S128x512 .bf16) (n : Fin 16) (k : Fin 256) (l : Fin 512) : EReal :=
  if h : k.val < 128 then
    if n.val = 0 then x' (ix2 ⟨k.val, h⟩ l) else x (ix2 ⟨128 * (n.val - 1) + k.val, by omega⟩ l)
  else x (ix2 ⟨128 * n.val + (k.val - 128), by omega⟩ l)

/-- Lane `d` of the lanes `128 c …`. -/
def laneOf (c : Fin 4) (d : Fin 128) : Fin 512 := ⟨128 * c.val + d.val, by omega⟩

theorem cur_apply (x : Vec Ideal S2048x512 .bf16) (n : Fin 16) (c : Fin 4) (r d : Fin 128) :
    cur x n c (ix2 r d) = x (ix2 ⟨128 * n.val + r.val, by omega⟩ (laneOf c d)) := by
  unfold cur tileRect laneOf
  pointwise

theorem both_prev_cur (x : Vec Ideal S2048x512 .bf16) (x' : Vec Ideal S128x512 .bf16) (n : Fin 16) (c : Fin 4)
    (k : Fin 256) (d : Fin 128) : both (prev x x' n c) (cur x n c) (ix2 k d) = keyRow x x' n k (laneOf c d) := by
  rw [both_apply]
  unfold keyRow
  by_cases h : k.val < 128
  · rw [dif_pos h, dif_pos h]
    by_cases hn : n.val = 0
    · rw [if_pos hn, show prev x x' n c = _ from if_pos hn]
      unfold laneOf
      pointwise
    · rw [if_neg hn, show prev x x' n c = _ from if_neg hn]
      exact cur_apply x ⟨n.val - 1, by omega⟩ c ⟨k.val, h⟩ d
  · rw [dif_neg h, dif_neg h, cur_apply]

theorem sinkAt_apply (x : Vec Ideal S8 .f32) (k : Fin 8) : sinkAt x k = x (ix1 k) := by
  unfold sinkAt
  exact congrArg x (funext fun a => by fin_cases a; rfl)

/-- One tile at row `r`, lane `l`: a row of attention of the point's blocks. -/
theorem tile_apply (j : Nat) (hj : j < 2) (x0 : Vec Ideal S8 .f32) (x1 x2 : Vec Ideal S2048x512 .bf16)
    (x3 : Vec Ideal S128x512 .bf16) (n : Fin 16) (h p : Fin 2) (r l : Fin 128) :
    tile (BitVec.ofNat 32 j) x0 x1 x2 x3 n h p (ix2 r l)
      = kernelRow (fun k => if Seen (16 * j + n.val) r k then
            ∑ d : Fin 64, x1 (ix2 ⟨128 * n.val + r.val, by omega⟩ (laneOf (pairLane h p) (half (headOf p l) d)))
              * keyRow x2 x3 n k (laneOf (keyLane h) (half (headOf p l) d)) else ⊥)
          (x0 (ix1 (sinkIx h (headOf p l)))) fun k => keyRow x2 x3 n k (laneOf (valueLane h) l) := by
  unfold tile
  rw [pairTile_apply]
  simp only [sinkAt_apply, both_prev_cur]
  refine congrArg (fun s => kernelRow s _ _) (funext fun k => ?_)
  unfold maskedRow
  refine if_congr (maskAt_apply j hj n r k) ?_ rfl
  rw [scores_apply]
  refine Finset.sum_congr rfl fun d _ => ?_
  rw [both_prev_cur]
  refine congrArg (· * _) ?_
  unfold ofPair
  have hp : (headOf p l).val < 2 ↔ p.val = 0 := by simp only [headOf]; omega
  by_cases h0 : p.val = 0
  · rw [if_pos (hp.2 h0), cur_apply, show p = 0 from Fin.ext h0]
  · rw [if_neg (mt hp.1 h0), cur_apply, show p = 1 from Fin.ext (by have := p.isLt; show p.val = 1; omega)]

/-! ## The whole block -/

/-- The block of the result: each index's tile at that index's place in it. -/
def out (j : Nat) (x0 : Vec Ideal S8 .f32) (x1 x2 : Vec Ideal S2048x512 .bf16) (x3 : Vec Ideal S128x512 .bf16) :
    Vec Ideal S2048x512 .bf16 := fun y =>
  tile (BitVec.ofNat 32 j) x0 x1 x2 x3 ⟨(y 0).val / 128, by have := ValueIdx.idx2_lt0 y; omega⟩
    ⟨(y 1).val / 256, by have := ValueIdx.idx2_lt1 y; omega⟩ ⟨(y 1).val / 128 % 2, by omega⟩
    (ix2 ⟨(y 0).val % 128, by omega⟩ ⟨(y 1).val % 128, by omega⟩)

theorem out_tile (j : Nat) (x0 : Vec Ideal S8 .f32) (x1 x2 : Vec Ideal S2048x512 .bf16) (x3 : Vec Ideal S128x512 .bf16)
    (n : Fin 16) (h p : Fin 2) (x : S128x128.Idx) :
    tile (BitVec.ofNat 32 j) x0 x1 x2 x3 n h p x = out j x0 x1 x2 x3 ((tileRect n (pairLane h p)).emb x) := by
  have h0 := ValueIdx.idx2_lt0 x
  have h1 := ValueIdx.idx2_lt1 x
  have e0 : (((tileRect n (pairLane h p)).emb x) 0).val = 128 * n.val + (x 0).val := by
    show 128 * _ + 1 * (x _).val = _; rw [one_mul]
  have e1 : (((tileRect n (pairLane h p)).emb x) 1).val = 128 * (2 * h.val + p.val) + (x 1).val := by
    show 128 * _ + 1 * (x _).val = _; rw [one_mul]; rfl
  unfold out
  congr 1
  · exact Fin.ext (by show n.val = _ / 128; rw [e0]; omega)
  · exact Fin.ext (by show h.val = _ / 256; rw [e1]; omega)
  · exact Fin.ext (by show p.val = _ / 128 % 2; rw [e1]; omega)
  · funext a
    match a with
    | ⟨0, _⟩ => exact Fin.ext (by show (x 0).val = _ % 128; rw [e0]; omega)
    | ⟨1, _⟩ => exact Fin.ext (by show (x 1).val = _ % 128; rw [e1]; omega)

/-- The block the point leaves. -/
theorem out0_eq (c : Dev nD) (i : grid0.Coords) (arg2 : Memref sig .tc .smem S8 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x512 .bf16) (harg5 : arg5.IsWhole) (arg6 : Memref sig .tc .vmem S2048x512 .bf16) (harg6 : arg6.IsWhole)
    (x0 : Vec Ideal S8 .f32) (x1 : Vec Ideal S2048x512 .bf16) (x2 : Vec Ideal S2048x512 .bf16) (x3 : Vec Ideal S128x512 .bf16) :
    out0_A_4 c i arg2 harg2 arg3 harg3 arg4 harg4 arg5 harg5 arg6 harg6 x0 x1 x2 x3 = out (i 1).val x0 x1 x2 x3 := by
  have hc := cover0_A_4 c i arg2 harg2 arg3 harg3 arg4 harg4 arg5 harg5 arg6 harg6 x0 x1 x2 x3
  unfold out0_A_4
  rw [View.read_writes_eq_canon _ _ _ hc]
  rw [pieces_eq] at hc ⊢
  funext y
  refine View.canon_apply_of_pieces (out (i 1).val x0 x1 x2 x3) _ (fun pc hpc => ?_) y (hc y)
  obtain ⟨⟨n, h, p⟩, -, rfl⟩ := List.mem_map.1 hpc
  exact fun x => out_tile (i 1).val x0 x1 x2 x3 n h p x

end Cert.Attention

end
-- ==== Proof.Attention.Spec.lean ====
/- The attention layer as a function of its four argument arrays, index by index: windows of 128 positions, each query
   seeing at most the 128 positions before it, and one sink per query head. -/
module

public import proofs.«01_k».proof.Proof.Attention.Tile

@[expose] public section

set_option maxRecDepth 16384

noncomputable section

namespace Cert.Attention

open Cert.KernelIdeal Idealize.ShloMosaic

/-- The queries, the keys (or the values) and the sinks. -/
abbrev Queries : Type := Vec Ideal S4x4096x512 .f32
abbrev Keys : Type := Vec Ideal S4x4096x128 .f32
abbrev Sinks : Type := Vec Ideal S8 .f32

/-- The scale of the scores, one eighth. -/
def scale : EReal := Ideal.ofBits .f32 0x3E000000#32

/-- Position `r` of window `w`. -/
def timeOf (w : Fin 32) (r : Fin 128) : Fin 4096 := ⟨128 * w.val + r.val, by omega⟩

/-- The position of key `k` of window `w`'s two windows (meaningless for the window before the first). -/
def keyTime (w : Fin 32) (k : Fin 256) : Fin 4096 := ⟨128 * w.val + k.val - 128, by omega⟩

/-- Lane `d` of query head `hd`, and of the key head it belongs to. -/
def headLane (hd : Fin 8) (d : Fin 64) : Fin 512 := ⟨64 * hd.val + d.val, by omega⟩
def groupLane (hd : Fin 8) (d : Fin 64) : Fin 128 := ⟨64 * (hd.val / 4) + d.val, by omega⟩

/-- The score of query `r` of window `w` against key `k`: the scaled query times the key. -/
def score (q : Queries) (k : Keys) (b : Fin 4) (w : Fin 32) (r : Fin 128) (hd : Fin 8) (key : Fin 256) : EReal :=
  ∑ d : Fin 64, q (ix3 b (timeOf w r) (headLane hd d)) * scale * k (ix3 b (keyTime w key) (groupLane hd d))

/-- The scores of the keys the query sees, and minus infinity for the others. -/
def logits (q : Queries) (k : Keys) (b : Fin 4) (w : Fin 32) (r : Fin 128) (hd : Fin 8) (key : Fin 256) : EReal :=
  if Seen w.val r key then score q k b w r hd key else ⊥

/-- The values of the keys. -/
def valuesAt (v : Keys) (b : Fin 4) (w : Fin 32) (hd : Fin 8) (d : Fin 64) (key : Fin 256) : EReal :=
  v (ix3 b (keyTime w key) (groupLane hd d))

/-- What the kernel's result holds at batch `b`, position `r` of window `w`, lane `d` of head `hd`. -/
def attended (q : Queries) (k v : Keys) (sinks : Sinks) (b : Fin 4) (w : Fin 32) (r : Fin 128) (hd : Fin 8)
    (d : Fin 64) : EReal :=
  kernelRow (logits q k b w r hd) (sinks (ix1 hd)) (valuesAt v b w hd d)

/-- The whole result. -/
def result (q : Queries) (k v : Keys) (sinks : Sinks) : Vec Ideal S16384x512 .bf16 := fun i =>
  attended q k v sinks ⟨(i 0).val / 4096, by have := ValueIdx.idx2_lt0 i; omega⟩
    ⟨(i 0).val % 4096 / 128, by omega⟩ ⟨(i 0).val % 128, by omega⟩
    ⟨(i 1).val / 64, by have := ValueIdx.idx2_lt1 i; omega⟩ ⟨(i 1).val % 64, by omega⟩

end Cert.Attention

end
-- ==== Proof.Attention.Array.lean ====
/- The kernel's result array: each point's block of it is the attention of the arguments at that block's rows. -/
module

public import proofs.«01_k».proof.Proof.Attention.Spec
public import proofs.«01_k».proof.Proof.Gen.KernelIdeal.Value
public import Idealize.ShloMosaic.Lib.StableHlo.ReadAt
public import Idealize.ShloMosaic.Lib.Pipeline.ValueKit.Geometry

@[expose] public section

set_option maxRecDepth 16384

noncomputable section

namespace Cert.Attention

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The packed array: the scaled queries, each key head twice, each value head twice -/

/-- The arguments. -/
abbrev argQ (c : Dev nD) : Queries := m ((c : Thread nD τ).loc main_arg0)
abbrev argK (c : Dev nD) : Keys := m ((c : Thread nD τ).loc main_arg1)
abbrev argV (c : Dev nD) : Keys := m ((c : Thread nD τ).loc main_arg2)
abbrev argS (c : Dev nD) : Sinks := m ((c : Thread nD τ).loc main_arg3)

/-- The packed array. -/
abbrev packed (c : Dev nD) : Vec Ideal S16384x1024 .bf16 := V m c main_v12

section Pieces

variable (c : Dev nD) (b : Fin 4) (t : Fin 4096) (d : Fin 64)

theorem v0_apply : StableHlo.upto hostOps0 (fun b => m (c, b)) 11 (Proc.tc.devRef main_v0) (ix3 b t d)
    = argK m c (ix3 b t ⟨d.val, by omega⟩) := by after_reads_at

theorem v1_apply : StableHlo.upto hostOps0 (fun b => m (c, b)) 11 (Proc.tc.devRef main_v1) (ix3 b t d)
    = argK m c (ix3 b t ⟨d.val, by omega⟩) := by after_reads_at

theorem v2_apply : StableHlo.upto hostOps0 (fun b => m (c, b)) 11 (Proc.tc.devRef main_v2) (ix3 b t d)
    = argK m c (ix3 b t ⟨64 + d.val, by omega⟩) := by after_reads_at

theorem v3_apply : StableHlo.upto hostOps0 (fun b => m (c, b)) 11 (Proc.tc.devRef main_v3) (ix3 b t d)
    = argK m c (ix3 b t ⟨64 + d.val, by omega⟩) := by after_reads_at

theorem v4_apply : StableHlo.upto hostOps0 (fun b => m (c, b)) 11 (Proc.tc.devRef main_v4) (ix3 b t d)
    = argV m c (ix3 b t ⟨d.val, by omega⟩) := by after_reads_at

theorem v5_apply : StableHlo.upto hostOps0 (fun b => m (c, b)) 11 (Proc.tc.devRef main_v5) (ix3 b t d)
    = argV m c (ix3 b t ⟨d.val, by omega⟩) := by after_reads_at

theorem v6_apply : StableHlo.upto hostOps0 (fun b => m (c, b)) 11 (Proc.tc.devRef main_v6) (ix3 b t d)
    = argV m c (ix3 b t ⟨64 + d.val, by omega⟩) := by after_reads_at

theorem v7_apply : StableHlo.upto hostOps0 (fun b => m (c, b)) 11 (Proc.tc.devRef main_v7) (ix3 b t d)
    = argV m c (ix3 b t ⟨64 + d.val, by omega⟩) := by after_reads_at

theorem v9_apply (l : Fin 512) : StableHlo.upto hostOps0 (fun b => m (c, b)) 11 (Proc.tc.devRef main_v9) (ix3 b t l)
    = argQ m c (ix3 b t l) * scale := by
  unfold scale
  after_reads_at

end Pieces

/-- The batch and the position of a row. -/
def batchOf (R : Fin 16384) : Fin 4 := ⟨R.val / 4096, by omega⟩
def posOf (R : Fin 16384) : Fin 4096 := ⟨R.val % 4096, by omega⟩

/-- The first 512 lanes: the scaled queries. -/
theorem packed_queries (c : Dev nD) (R : Fin 16384) (l : Fin 512) :
    packed m c (ix2 R ⟨l.val, by omega⟩) = argQ m c (ix3 (batchOf R) (posOf R) l) * scale := by
  unfold packed V
  after_reads_at
  rw [v9_apply]
  rfl

/-- The next 256 lanes: each key head twice. -/
theorem packed_keys (c : Dev nD) (R : Fin 16384) (g : Fin 2) (d : Fin 128) :
    packed m c (ix2 R ⟨512 + (128 * g.val + d.val), by omega⟩)
      = argK m c (ix3 (batchOf R) (posOf R) ⟨64 * g.val + d.val % 64, by omega⟩) := by
  unfold packed V
  after_reads_at
  have hd := d.isLt
  obtain hg | hg : g.val = 0 ∨ g.val = 1 := by omega
  · by_cases h : d.val < 64
    · rw [dif_pos (by omega), v0_apply]
      exact congrArg (argK m c) (congrArg (ix3 _ _) (Fin.ext (by simp only; omega)))
    · rw [dif_neg (by omega), dif_pos (by omega), v1_apply]
      exact congrArg (argK m c) (congrArg (ix3 _ _) (Fin.ext (by simp only; omega)))
  · by_cases h : d.val < 64
    · rw [dif_neg (by omega), dif_neg (by omega), dif_pos (by omega), v2_apply]
      exact congrArg (argK m c) (congrArg (ix3 _ _) (Fin.ext (by simp only; omega)))
    · rw [dif_neg (by omega), dif_neg (by omega), dif_neg (by omega), dif_pos (by omega), v3_apply]
      exact congrArg (argK m c) (congrArg (ix3 _ _) (Fin.ext (by simp only; omega)))

/-- The last 256 lanes: each value head twice. -/
theorem packed_values (c : Dev nD) (R : Fin 16384) (g : Fin 2) (d : Fin 128) :
    packed m c (ix2 R ⟨512 + (128 * (2 + g.val) + d.val), by omega⟩)
      = argV m c (ix3 (batchOf R) (posOf R) ⟨64 * g.val + d.val % 64, by omega⟩) := by
  unfold packed V
  after_reads_at
  have hd := d.isLt
  rw [dif_neg (by omega), dif_neg (by omega), dif_neg (by omega), dif_neg (by omega)]
  obtain hg | hg : g.val = 0 ∨ g.val = 1 := by omega
  · by_cases h : d.val < 64
    · rw [dif_pos (by omega), v4_apply]
      exact congrArg (argV m c) (congrArg (ix3 _ _) (Fin.ext (by simp only; omega)))
    · rw [dif_neg (by omega), dif_pos (by omega), v5_apply]
      exact congrArg (argV m c) (congrArg (ix3 _ _) (Fin.ext (by simp only; omega)))
  · by_cases h : d.val < 64
    · rw [dif_neg (by omega), dif_neg (by omega), dif_pos (by omega), v6_apply]
      exact congrArg (argV m c) (congrArg (ix3 _ _) (Fin.ext (by simp only; omega)))
    · rw [dif_neg (by omega), dif_neg (by omega), dif_neg (by omega), v7_apply]
      exact congrArg (argV m c) (congrArg (ix3 _ _) (Fin.ext (by simp only; omega)))

/-! ## The blocks a point reads -/

theorem point_lt (t : Fin cfg0.N) : t.val < 8 := lt_of_lt_of_eq t.isLt (by decide +kernel)

theorem idx0 : ∀ t, win0_0.index t = ![0] := by decide +kernel
theorem idx1 : ∀ t, win0_1.index t = ![t.val, 0] := by decide +kernel
theorem idx2 : ∀ t, win0_2.index t = ![t.val, 1] := by decide +kernel
theorem idx3 : ∀ t, win0_3.index t = ![16 * t.val - 1, 1] := by decide +kernel
theorem idx4 : ∀ t, win0_4.index t = ![t.val, 0] := by decide +kernel
theorem coord1 : ∀ t : Fin cfg0.N, (grid0.coords t 1).val = t.val % 2 := by decide +kernel

/-- The blocks. -/
abbrev sinksBlk (c : Dev nD) (t : Fin cfg0.N) : Vec Ideal S8 .f32 := iblk m c 0 t
abbrev queryBlk (c : Dev nD) (t : Fin cfg0.N) : Vec Ideal S2048x512 .bf16 := iblk m c 1 t
abbrev keyBlk (c : Dev nD) (t : Fin cfg0.N) : Vec Ideal S2048x512 .bf16 := iblk m c 2 t
abbrev beforeBlk (c : Dev nD) (t : Fin cfg0.N) : Vec Ideal S128x512 .bf16 := iblk m c 3 t

theorem sinks_block (c : Dev nD) (t : Fin cfg0.N) (k : Fin 8) : sinksBlk m c t (ix1 k) = argS m c (ix1 k) := by
  simp only [sinksBlk, queryBlk, keyBlk, beforeBlk]
  blk_simp [iblk]
  refine (congrFun (show V m c main_arg3 = argS m c from by unfold V; after_reads_simp) _).trans (congrArg (argS m c) (funext fun a => ?_))
  match a with
  | ⟨0, _⟩ => refine Fin.ext ?_; blk_simp [idx0]

theorem query_block (c : Dev nD) (t : Fin cfg0.N) (r : Fin 2048) (l : Fin 512) : queryBlk m c t (ix2 r l)
    = packed m c (ix2 ⟨2048 * t.val + r.val, by have := point_lt t; omega⟩ ⟨l.val, by omega⟩) := by
  simp only [sinksBlk, queryBlk, keyBlk, beforeBlk]
  blk_simp [iblk]
  refine congrArg (packed m c) (funext fun a => ?_)
  match a with
  | ⟨0, _⟩ => refine Fin.ext ?_; blk_simp [idx1]; exact congrArg (· + r.val) (Nat.mul_comm _ _)
  | ⟨1, _⟩ => refine Fin.ext ?_; blk_simp [idx1]

theorem key_block (c : Dev nD) (t : Fin cfg0.N) (r : Fin 2048) (l : Fin 512) : keyBlk m c t (ix2 r l)
    = packed m c (ix2 ⟨2048 * t.val + r.val, by have := point_lt t; omega⟩ ⟨512 + l.val, by omega⟩) := by
  simp only [sinksBlk, queryBlk, keyBlk, beforeBlk]
  blk_simp [iblk]
  refine congrArg (packed m c) (funext fun a => ?_)
  match a with
  | ⟨0, _⟩ => refine Fin.ext ?_; blk_simp [idx2]; exact congrArg (· + r.val) (Nat.mul_comm _ _)
  | ⟨1, _⟩ => refine Fin.ext ?_; blk_simp [idx2]

theorem before_block (c : Dev nD) (t : Fin cfg0.N) (r : Fin 128) (l : Fin 512) : beforeBlk m c t (ix2 r l)
    = packed m c (ix2 ⟨128 * (16 * t.val - 1) + r.val, by have := point_lt t; omega⟩ ⟨512 + l.val, by omega⟩) := by
  simp only [sinksBlk, queryBlk, keyBlk, beforeBlk]
  blk_simp [iblk]
  refine congrArg (packed m c) (funext fun a => ?_)
  match a with
  | ⟨0, _⟩ => refine Fin.ext ?_; blk_simp [idx3]; exact congrArg (· + r.val) (Nat.mul_comm _ _)
  | ⟨1, _⟩ => refine Fin.ext ?_; blk_simp [idx3]

/-- Window `n` of point `t`, and its batch. -/
def windowOf (t : Fin cfg0.N) (n : Fin 16) : Fin 32 := ⟨16 * (t.val % 2) + n.val, by omega⟩
def pointBatch (t : Fin cfg0.N) : Fin 4 := ⟨t.val / 2, by have := point_lt t; omega⟩

/-- The row of key `k` of window `w` of batch `b`. -/
def keyAt (b : Fin 4) (w : Fin 32) (k : Fin 256) : Fin 16384 := ⟨4096 * b.val + (keyTime w k).val, by have := (keyTime w k).isLt; omega⟩

/-- The rows of a window's two windows, in the packed array. -/
theorem keyRow_blocks (c : Dev nD) (t : Fin cfg0.N) (n : Fin 16) (k : Fin 256) (l : Fin 512)
    (h : (windowOf t n).val ≠ 0 ∨ 128 ≤ k.val) :
    keyRow (keyBlk m c t) (beforeBlk m c t) n k l
      = packed m c (ix2 (keyAt (pointBatch t) (windowOf t n) k) ⟨512 + l.val, by omega⟩) := by
  have ht := point_lt t
  unfold keyRow
  split
  · split
    · refine (before_block m c t _ l).trans (congrArg (fun R => packed m c (ix2 R _)) (Fin.ext ?_))
      simp only [keyAt, keyTime, pointBatch, windowOf] at h ⊢
      omega
    · refine (key_block m c t _ l).trans (congrArg (fun R => packed m c (ix2 R _)) (Fin.ext ?_))
      simp only [keyAt, keyTime, pointBatch, windowOf] at h ⊢
      omega
  · refine (key_block m c t _ l).trans (congrArg (fun R => packed m c (ix2 R _)) (Fin.ext ?_))
    simp only [keyAt, keyTime, pointBatch, windowOf] at h ⊢
    omega

/-- The head and the lane in it of lane `l` of key head `h`'s pair `p`. -/
def headAt (h p : Fin 2) (l : Fin 128) : Fin 8 := sinkIx h (headOf p l)
def laneAt (l : Fin 128) : Fin 64 := ⟨l.val % 64, by omega⟩

theorem batchOf_keyAt (b : Fin 4) (w : Fin 32) (k : Fin 256) : batchOf (keyAt b w k) = b := by
  refine Fin.ext ?_
  have := (keyTime w k).isLt
  simp only [batchOf, keyAt]; omega

theorem posOf_keyAt (b : Fin 4) (w : Fin 32) (k : Fin 256) : posOf (keyAt b w k) = keyTime w k := by
  refine Fin.ext ?_
  have := (keyTime w k).isLt
  simp only [posOf, keyAt]; omega

theorem logits_bot (q : Queries) (k : Keys) (b : Fin 4) (w : Fin 32) (r : Fin 128) (hd : Fin 8) (key : Fin 256)
    (h : logits q k b w r hd key ≠ ⊥) : Seen w.val r key := by
  by_contra hn
  exact h (if_neg hn)

/-- The tile of the point's blocks is the attention of the arguments. -/
theorem tile_blocks (c : Dev nD) (t : Fin cfg0.N) (n : Fin 16) (h p : Fin 2) (r l : Fin 128) :
    tile (BitVec.ofNat 32 (t.val % 2)) (sinksBlk m c t) (queryBlk m c t) (keyBlk m c t) (beforeBlk m c t) n h p (ix2 r l)
      = attended (argQ m c) (argK m c) (argV m c) (argS m c) (pointBatch t) (windowOf t n) r (headAt h p l) (laneAt l) := by
  have ht := point_lt t
  rw [tile_apply _ (by omega)]
  unfold attended
  have hs : (fun k => if Seen (16 * (t.val % 2) + n.val) r k then
            ∑ d : Fin 64, queryBlk m c t (ix2 ⟨128 * n.val + r.val, by omega⟩ (laneOf (pairLane h p) (half (headOf p l) d)))
              * keyRow (keyBlk m c t) (beforeBlk m c t) n k (laneOf (keyLane h) (half (headOf p l) d)) else ⊥)
      = logits (argQ m c) (argK m c) (pointBatch t) (windowOf t n) r (headAt h p l) := by
    funext k
    unfold logits
    by_cases hk : Seen (16 * (t.val % 2) + n.val) r k
    · rw [if_pos hk, if_pos (show Seen (windowOf t n).val r k from hk)]
      refine Finset.sum_congr rfl fun d _ => congrArg₂ (fun x y : EReal => x * y) ?_ ?_
      · rw [query_block]
        refine (packed_queries m c _ _).trans ?_
        refine congrArg (· * scale) (congrArg (argQ m c) ?_)
        refine congr (congrArg₂ ix3 (Fin.ext ?_) (Fin.ext ?_)) (Fin.ext ?_)
        · simp only [batchOf, pointBatch]; omega
        · simp only [posOf, timeOf, windowOf]; omega
        · simp only [laneOf, pairLane, half, headOf, headLane, headAt, sinkIx]; omega
      · rw [keyRow_blocks m c t n k _ hk.2.2]
        refine (packed_keys m c _ h (half (headOf p l) d)).trans ?_
        rw [batchOf_keyAt, posOf_keyAt]
        refine congrArg (argK m c) (congrArg (ix3 _ _) (Fin.ext ?_))
        simp only [half, headOf, groupLane, headAt, sinkIx]; omega
    · rw [if_neg hk, if_neg (show ¬ Seen (windowOf t n).val r k from hk)]
  rw [hs, sinks_block]
  refine kernelRow_congr _ _ _ _ fun k hk => ?_
  rw [keyRow_blocks m c t n k _ (logits_bot _ _ _ _ _ _ _ hk).2.2]
  refine (packed_values m c _ h l).trans ?_
  rw [batchOf_keyAt, posOf_keyAt]
  refine congrArg (argV m c) (congrArg (ix3 _ _) (Fin.ext ?_))
  simp only [laneAt, headOf, groupLane, headAt, sinkIx]; omega

/-- The result array is the attention of the arguments. -/
theorem array_eq (c : Dev nD) : (dats m 0 c).arrAt 4 cfg0.N = result (argQ m c) (argK m c) (argV m c) (argS m c) := by
  refine (dats m 0 c).arrAt_eq_of_covers 4 _ (by decide +kernel) fun t hf y => ?_
  blk_simp
  rw [after0_4]
  unfold outsAt0
  rw [out0_eq, coord1]
  change out (t.val % 2) (sinksBlk m c t) (queryBlk m c t) (keyBlk m c t) (beforeBlk m c t) (y : S2048x512.Idx) = _
  have h0 : (y 0).val < 2048 := (y 0).isLt
  have h1 : (y 1).val < 512 := (y 1).isLt
  have ht := point_lt t
  have e0 : (((win0_4.blk t).view.emb y) 0 : Nat) = 2048 * t.val + (y 0).val := by
    blk_simp [idx4]; exact congrArg (· + (y 0).val) (Nat.mul_comm _ _)
  have e1 : (((win0_4.blk t).view.emb y) 1 : Nat) = (y 1).val := by
    blk_simp [idx4]
  suffices H : ∀ i : S16384x512.Idx, (i 0).val = 2048 * t.val + (y 0).val → (i 1).val = (y 1).val →
      out (t.val % 2) (sinksBlk m c t) (queryBlk m c t) (keyBlk m c t) (beforeBlk m c t) (y : S2048x512.Idx)
        = result (argQ m c) (argK m c) (argV m c) (argS m c) i from H _ e0 e1
  intro i hi0 hi1
  unfold out result
  rw [tile_blocks]
  congr 1
  · refine Fin.ext ?_; simp only [pointBatch]; omega
  · refine Fin.ext ?_; simp only [windowOf]; omega
  · refine Fin.ext ?_; simp only; omega
  · refine Fin.ext ?_; simp only [headAt, sinkIx, headOf]; omega
  · refine Fin.ext ?_; simp only [laneAt]; omega

end Cert.Attention

end
-- ==== Proof.Attention.Reference.lean ====
/- The reference's result read at an index: one row of attention (`referenceRow`) of the arguments. -/
module

public import proofs.«01_k».proof.Proof.Attention.Spec
public import proofs.«01_k».proof.Proof.Gen.ReferenceIdeal.Run
public import Idealize.ShloMosaic.Lib.Pointwise
public import Idealize.ShloMosaic.Lib.ValueIdxRank6
public import Idealize.ShloMosaic.Lib.Tactic.WordOmega

@[expose] public section

set_option maxRecDepth 16384

noncomputable section

namespace Cert.Attention.Ref

open Cert.ReferenceIdeal Cert.ReferenceIdeal.Gen Idealize.ShloMosaic Idealize.ShloMosaic.TcCoe Idealize.SL.Sem
open Cert.Attention

/-! ## The reference, stage by stage -/

/-- Keys (or values) by windows, and each window's with the window before it. -/
def windows (x : Keys) : FVec Ideal S4x32x128x2x64 .f32 := shapeCast _ x shapeCasts_S4x4096x128_S4x32x128x2x64

def paired (x : Keys) : FVec Ideal S4x32x256x2x64 .f32 :=
  concatenate S4x32x256x2x64 2 [⟨S4x32x128x2x64, extractStridedSlice S4x32x128x2x64 ![0, 0, 0, 0, 0]
    (pad S4x33x128x2x64 ![0, 1, 0, 0, 0] ![0, 0, 0, 0, 0] ![0, 0, 0, 0, 0] (windows x) (sitofp .f32 (constantI S_ 32 0#32))
      pads_S4x32x128x2x64_S4x33x128x2x64_000_100_000_000_000 h_S_) slices_S4x33x128x2x64_S4x32x128x2x64_0_0_0_0_0⟩,
    ⟨S4x32x128x2x64, windows x⟩] concatenates_S4x32x128x2x64_S4x32x128x2x64_S4x32x256x2x64_d2

/-- The scaled scores. -/
def rawScores (q : Queries) (k : Keys) : FVec Ideal S4x32x2x4x128x256 .f32 :=
  mulf (transpose S4x32x2x4x128x256 [0, 1, 2, 5, 4, 3]
    (Host.dotGeneral dot_S4x32x256x2x64_S4x32x128x2x4x64_S4x32x2x256x128x4_4_5_2_24_013_013 none (paired k)
      (shapeCast _ q shapeCasts_S4x4096x512_S4x32x128x2x4x64 : FVec Ideal S4x32x128x2x4x64 .f32)) transposes_S4x32x2x256x128x4_S4x32x2x4x128x256_0_1_2_5_4_3)
    (broadcastInDim S4x32x2x4x128x256 ![] bcast_S_S4x32x2x4x128x256 (constant S_ .f32 0x3E000000#32))

/-- A query's place among the two windows, and the keys' places. -/
def places : IVec S128x1 32 :=
  addi (broadcastInDim S128x1 ![0] bcast_S128_S128x1_0 (iotaInDim S128 32 0))
    (broadcastInDim S128x1 ![] bcast_S_S128x1 (constantI S_ 32 128#32))
def keyPlaces : IVec S1x256 32 := broadcastInDim S1x256 ![1] bcast_S256_S1x256_1 (iotaInDim S256 32 0)

/-- The keys within reach of a query, and the keys that exist. -/
def near : IVec S128x256 1 :=
  andi (cmpi .sle (broadcastInDim S128x256 ![0, 1] bcast_S1x256_S128x256_0_1 keyPlaces)
      (broadcastInDim S128x256 ![0, 1] bcast_S128x1_S128x256_0_1 places))
    (cmpi .slt (subi (broadcastInDim S128x256 ![0, 1] bcast_S128x1_S128x256_0_1 places)
        (broadcastInDim S128x256 ![0, 1] bcast_S1x256_S128x256_0_1 keyPlaces))
      (broadcastInDim S128x256 ![] bcast_S_S128x256 (constantI S_ 32 128#32)))

def there : IVec S32x1x256 1 :=
  ori (broadcastInDim S32x1x256 ![0, 1, 2] bcast_S32x1x1_S32x1x256_0_1_2
      (cmpi .sgt (broadcastInDim S32x1x1 ![0] bcast_S32_S32x1x1_0 (iotaInDim S32 32 0))
        (broadcastInDim S32x1x1 ![] bcast_S_S32x1x1 (constantI S_ 32 0#32))))
    (broadcastInDim S32x1x256 ![0, 1, 2] bcast_S1x1x256_S32x1x256_0_1_2
      (cmpi .sge (broadcastInDim S1x1x256 ![1, 2] bcast_S1x256_S1x1x256_1_2 keyPlaces)
        (broadcastInDim S1x1x256 ![] bcast_S_S1x1x256 (constantI S_ 32 128#32))))

def visible : IVec S32x128x256 1 :=
  andi (broadcastInDim S32x128x256 ![0, 1, 2] bcast_S1x128x256_S32x128x256_0_1_2
      (broadcastInDim S1x128x256 ![1, 2] bcast_S128x256_S1x128x256_1_2 near))
    (broadcastInDim S32x128x256 ![0, 1, 2] bcast_S32x1x256_S32x128x256_0_1_2 there)

/-- The masked scores with the sink after them. -/
def withSink (q : Queries) (k : Keys) (sinks : Sinks) : FVec Ideal S4x32x2x4x128x257 .f32 :=
  concatenate S4x32x2x4x128x257 5 [⟨S4x32x2x4x128x256, select (broadcastInDim S4x32x2x4x128x256 ![0, 1, 2, 3, 4, 5]
      bcast_S1x32x1x1x128x256_S4x32x2x4x128x256_0_1_2_3_4_5
      (broadcastInDim S1x32x1x1x128x256 ![1, 4, 5] bcast_S32x128x256_S1x32x1x1x128x256_1_4_5 visible))
      (rawScores q k)
      (broadcastInDim S4x32x2x4x128x256 ![] bcast_S_S4x32x2x4x128x256 (constant S_ .f32 0xFF800000#32))⟩,
    ⟨S4x32x2x4x128x1, broadcastInDim S4x32x2x4x128x1 ![0, 1, 2, 3, 4, 5] bcast_S1x1x2x4x1x1_S4x32x2x4x128x1_0_1_2_3_4_5
      (shapeCast _ sinks shapeCasts_S8_S1x1x2x4x1x1)⟩]
    concatenates_S4x32x2x4x128x256_S4x32x2x4x128x1_S4x32x2x4x128x257_d5

/-- The rows' greatest entries. -/
def peaks (q : Queries) (k : Keys) (sinks : Sinks) : FVec Ideal S4x32x2x4x128 .f32 :=
  maximumf (broadcastInDim S4x32x2x4x128 ![] bcast_S_S4x32x2x4x128 (constant S_ .f32 0xFF800000#32))
    (Host.reduce FloatOps.maximumf (withSink q k sinks) (constant S_ .f32 0xFF800000#32)
      reducesTo_S4x32x2x4x128x257_S4x32x2x4x128_d5 h_S_)

/-- The exponentials, and the softmax. -/
def exps (q : Queries) (k : Keys) (sinks : Sinks) : FVec Ideal S4x32x2x4x128x257 .f32 :=
  Host.exp (subf (withSink q k sinks) (broadcastInDim S4x32x2x4x128x257 ![0, 1, 2, 3, 4, 5]
    bcast_S4x32x2x4x128x1_S4x32x2x4x128x257_0_1_2_3_4_5
    (broadcastInDim S4x32x2x4x128x1 ![0, 1, 2, 3, 4] bcast_S4x32x2x4x128_S4x32x2x4x128x1_0_1_2_3_4 (peaks q k sinks))))

def softmax (q : Queries) (k : Keys) (sinks : Sinks) : FVec Ideal S4x32x2x4x128x257 .f32 :=
  Host.divf (exps q k sinks) (broadcastInDim S4x32x2x4x128x257 ![0, 1, 2, 3, 4, 5]
    bcast_S4x32x2x4x128x1_S4x32x2x4x128x257_0_1_2_3_4_5
    (broadcastInDim S4x32x2x4x128x1 ![0, 1, 2, 3, 4] bcast_S4x32x2x4x128_S4x32x2x4x128x1_0_1_2_3_4
      (Host.reduceAdd (exps q k sinks) (constant S_ .f32 0x00000000#32)
        reducesTo_S4x32x2x4x128x257_S4x32x2x4x128_d5 h_S_)))

/-- The whole reference. -/
def layer (q : Queries) (k v : Keys) (sinks : Sinks) : FVec Ideal S16384x512 .bf16 :=
  truncf .bf16 (shapeCast _ (transpose S4x32x128x2x4x64 [0, 1, 5, 2, 4, 3]
    (Host.dotGeneral dot_S4x32x256x2x64_S4x32x2x4x128x256_S4x32x2x64x4x128_2_5_4_34_013_012 none (paired v)
      (extractStridedSlice S4x32x2x4x128x256 ![0, 0, 0, 0, 0, 0] (softmax q k sinks)
        slices_S4x32x2x4x128x257_S4x32x2x4x128x256_0_0_0_0_0_0))
    transposes_S4x32x2x64x4x128_S4x32x128x2x4x64_0_1_5_2_4_3) shapeCasts_S4x32x128x2x4x64_S16384x512) bitsLt_bf16_f32

set_option maxHeartbeats 4000000 in
theorem res_eq (m : (ℓ : Loc nD τ sig) → Buf (Elt Ideal) ℓ) (c : Dev nD) :
    Value.res_out0 m c = layer (m ((c.tc : Thread nD τ).loc main_arg0)) (m ((c.tc : Thread nD τ).loc main_arg1))
      (m ((c.tc : Thread nD τ).loc main_arg2)) (m ((c.tc : Thread nD τ).loc main_arg3)) := by
  unfold Value.res_out0 Value.res_main_v62
  rfl

/-! ## The stages at an index -/

/-- The head of key head `h`'s head `e`. -/
def headOf4 (h : Fin 2) (e : Fin 4) : Fin 8 := ⟨4 * h.val + e.val, by omega⟩

theorem paired_apply (x : Keys) (b : Fin 4) (w : Fin 32) (k : Fin 256) (h : Fin 2) (e : Fin 4) (d : Fin 64)
    (hk : w.val ≠ 0 ∨ 128 ≤ k.val) :
    paired x (ix5 b w k h d) = x (ix3 b (keyTime w k) (groupLane (headOf4 h e) d)) := by
  unfold paired windows
  pointwise
  have hl : h.val * 64 + d.val = 64 * ((4 * h.val + e.val) / 4) + d.val := by omega
  split
  · rw [dif_pos (by omega)]
    exact congrArg x (congrArg₂ (ix3 b) (Fin.ext (by simp only [keyTime]; omega)) (Fin.ext hl))
  · exact congrArg x (congrArg₂ (ix3 b) (Fin.ext (by simp only [keyTime]; omega)) (Fin.ext hl))

theorem scale_eq : scale = ((1 / 8 : ℝ) : EReal) := by
  unfold scale
  simp [Ideal.ofBits, Ideal.ieee, -EReal.coe_mul]
  norm_num

/-- The scaled scores against keys that exist: the reference scales the sum, the kernel the queries. -/
theorem rawScores_apply (q : Queries) (k : Keys) (b : Fin 4) (w : Fin 32) (h : Fin 2) (e : Fin 4) (r : Fin 128)
    (key : Fin 256) (hk : w.val ≠ 0 ∨ 128 ≤ key.val) :
    rawScores q k (ix6 b w h e r key) = score q k b w r (headOf4 h e) key := by
  have h0 : rawScores q k (ix6 b w h e r key)
      = (∑ d : Fin 64, paired k (ix5 b w key h d) * q (ix3 b (timeOf w r) (headLane (headOf4 h e) d))) * scale := by
    unfold rawScores scale
    pointwise
    refine congrArg (· * _) (Finset.sum_congr rfl fun d _ => congrArg (_ * ·) (congrArg q ?_))
    refine congrArg₂ (ix3 b) (Fin.ext ?_) (Fin.ext ?_)
    · simp only [timeOf]; omega
    · simp only [headLane, headOf4]; omega
  rw [h0, scale_eq, sum_mul _ _ _ (EReal.coe_nonneg.mpr (by norm_num)) (EReal.coe_ne_top _), ← scale_eq]
  refine Finset.sum_congr rfl fun d _ => ?_
  rw [paired_apply k b w key h e d hk, mul_assoc, mul_comm]

theorem visible_apply (w : Fin 32) (r : Fin 128) (key : Fin 256) : visible (ix3 w r key) = 1#1 ↔ Seen w.val r key := by
  unfold visible near there places keyPlaces Seen
  pointwise
  have hr := r.isLt
  have hk := key.isLt
  have hw := w.isLt
  have hadd : BitVec.ofNat 32 r.val + 128#32 = BitVec.ofNat 32 (r.val + 128) := by rw [BitVec.ofNat_add]
  have h128 : (128#32).toInt = 128 := rfl
  have h0 : (0#32).toInt = 0 := rfl
  simp only [IntOp.cmpi, IntOp.andi, IntOp.ori, IntOp.addi, IntOp.subi, BitVec.slt, BitVec.sle, hadd, h128, h0,
    toInt_ofNat w.val (by omega), toInt_ofNat key.val (by omega), toInt_ofNat (r.val + 128) (by omega)]
  by_cases h1 : key.val ≤ r.val + 128
  · have hsub : BitVec.ofNat 32 (r.val + 128) - BitVec.ofNat 32 key.val = BitVec.ofNat 32 (r.val + 128 - key.val) := by
      refine BitVec.eq_of_toNat_eq ?_
      simp only [BitVec.toNat_sub, BitVec.toNat_ofNat]
      omega
    rw [hsub, toInt_ofNat _ (by omega)]
    have e1 : ((key.val : Int) ≤ ((r.val + 128 : Nat) : Int)) = True := by simp only [eq_iff_iff, iff_true]; omega
    have e2 : (((r.val + 128 - key.val : Nat) : Int) < 128) = (r.val < key.val) := by
      simp only [eq_iff_iff]; omega
    have e3 : ((0 : Int) < (w.val : Int)) = (w.val ≠ 0) := by simp only [eq_iff_iff]; omega
    have e4 : ((128 : Int) ≤ (key.val : Int)) = (128 ≤ key.val) := by simp only [eq_iff_iff]; omega
    simp only [e1, e2, e3, e4]
    by_cases h2 : r.val < key.val <;> by_cases h3 : w.val ≠ 0 <;> by_cases h4 : 128 ≤ key.val <;>
      simp [h1, h2, h3, h4]
  · have e1 : ((key.val : Int) ≤ ((r.val + 128 : Nat) : Int)) = False := by simp only [eq_iff_iff, iff_false]; omega
    simp only [e1]
    simp [h1]

theorem withSink_apply (q : Queries) (k : Keys) (sinks : Sinks) (b : Fin 4) (w : Fin 32) (h : Fin 2) (e : Fin 4)
    (r : Fin 128) (i : Fin 257) : withSink q k sinks (ix6 b w h e r i)
      = appended (logits q k b w r (headOf4 h e)) (sinks (ix1 (headOf4 h e))) i := by
  unfold withSink appended
  pointwise
  split
  · rename_i hi
    unfold logits
    by_cases hs : Seen w.val r ⟨i.val, hi⟩
    · rw [if_pos hs, (visible_apply w r ⟨i.val, hi⟩).2 hs, rawScores_apply q k b w h e r _ hs.2.2]
      rfl
    · rw [if_neg hs, ← ofBits_negInf]
      exact if_neg (mt (visible_apply w r ⟨i.val, hi⟩).1 hs)
  · refine congrArg sinks (congrArg ix1 (Fin.ext ?_))
    simp only [headOf4]; omega

/-- The last axis is the reduced one. -/
theorem reduces_last : Shape.Reduces S4x32x2x4x128x257 [5] S4x32x2x4x128 := by decide

theorem lift_last (b : Fin 4) (w : Fin 32) (h : Fin 2) (e : Fin 4) (r : Fin 128) (i : Fin 257) :
    reduces_last.lift (ix5 b w h e r) i = ix6 b w h e r i := by
  funext a
  fin_cases a <;> rfl

theorem rowFold (x : FVec Ideal S4x32x2x4x128x257 .f32) (b : Fin 4) (w : Fin 32) (h : Fin 2) (e : Fin 4) (r : Fin 128) :
    Host.reduce FloatOps.maximumf x (constant S_ .f32 0xFF800000#32) reducesTo_S4x32x2x4x128x257_S4x32x2x4x128_d5 h_S_
        (ix5 b w h e r)
      = Finset.univ.fold max (⊥ : EReal) fun i : Fin 257 => x (ix6 b w h e r i) := by
  refine (Host.reduce_eq_fold_single (max : EReal → EReal → EReal) x _
    reducesTo_S4x32x2x4x128x257_S4x32x2x4x128_d5 reduces_last h_S_ (ix5 b w h e r)).trans ?_
  rw [show (x ∘ reduces_last.lift (ix5 b w h e r)) = fun i : Fin 257 => x (ix6 b w h e r i) from
    funext fun i => congrArg x (lift_last b w h e r i)]
  exact congrArg (fun z : EReal => Finset.univ.fold max z fun i : Fin 257 => x (ix6 b w h e r i)) ofBits_negInf

theorem rowSum (x : FVec Ideal S4x32x2x4x128x257 .f32) (b : Fin 4) (w : Fin 32) (h : Fin 2) (e : Fin 4) (r : Fin 128) :
    Host.reduceAdd x (constant S_ .f32 0x00000000#32) reducesTo_S4x32x2x4x128x257_S4x32x2x4x128_d5 h_S_ (ix5 b w h e r)
      = ∑ i : Fin 257, x (ix6 b w h e r i) := by
  refine (Ideal.hostReduceAdd_single _ reduces_last x _ _).trans ?_
  refine (congrArg₂ (· + ·) (show _ = (0 : EReal) from ?_) (Finset.sum_congr rfl fun i _ =>
    congrArg x (lift_last b w h e r i))).trans (zero_add _)
  simp [Ideal.ofBits, Ideal.ieee, constant]

/-- The greater of an entry and minus infinity. -/
theorem atLeastBot (y : FVec Ideal S4x32x2x4x128 .f32) (b : Fin 4) (w : Fin 32) (h : Fin 2) (e : Fin 4) (r : Fin 128) :
    maximumf (broadcastInDim S4x32x2x4x128 ![] bcast_S_S4x32x2x4x128 (constant S_ .f32 0xFF800000#32)) y (ix5 b w h e r)
      = max (⊥ : EReal) (y (ix5 b w h e r)) := by
  pointwise
  rw [ofBits_negInf]

theorem peaks_apply (q : Queries) (k : Keys) (sinks : Sinks) (b : Fin 4) (w : Fin 32) (h : Fin 2) (e : Fin 4)
    (r : Fin 128) : peaks q k sinks (ix5 b w h e r)
      = peak (logits q k b w r (headOf4 h e)) (sinks (ix1 (headOf4 h e))) := by
  unfold peaks
  rw [atLeastBot, rowFold, ← fold_appended]
  simp only [withSink_apply]

theorem exps_apply (q : Queries) (k : Keys) (sinks : Sinks) (b : Fin 4) (w : Fin 32) (h : Fin 2) (e : Fin 4)
    (r : Fin 128) (i : Fin 257) : exps q k sinks (ix6 b w h e r i)
      = Ideal.exp (appended (logits q k b w r (headOf4 h e)) (sinks (ix1 (headOf4 h e))) i
        - peak (logits q k b w r (headOf4 h e)) (sinks (ix1 (headOf4 h e)))) := by
  rw [← peaks_apply, ← withSink_apply]
  unfold exps
  pointwise

theorem softmax_apply (q : Queries) (k : Keys) (sinks : Sinks) (b : Fin 4) (w : Fin 32) (h : Fin 2) (e : Fin 4)
    (r : Fin 128) (i : Fin 256) : softmax q k sinks (ix6 b w h e r ⟨i.val, by omega⟩)
      = Ideal.div (Ideal.exp (logits q k b w r (headOf4 h e) i - peak (logits q k b w r (headOf4 h e)) (sinks (ix1 (headOf4 h e)))))
        (total (logits q k b w r (headOf4 h e)) (sinks (ix1 (headOf4 h e)))) := by
  unfold softmax
  generalize hx : exps q k sinks = x
  have hd : Host.divf x (broadcastInDim S4x32x2x4x128x257 ![0, 1, 2, 3, 4, 5]
      bcast_S4x32x2x4x128x1_S4x32x2x4x128x257_0_1_2_3_4_5
      (broadcastInDim S4x32x2x4x128x1 ![0, 1, 2, 3, 4] bcast_S4x32x2x4x128_S4x32x2x4x128x1_0_1_2_3_4
        (Host.reduceAdd x (constant S_ .f32 0x00000000#32)
          reducesTo_S4x32x2x4x128x257_S4x32x2x4x128_d5 h_S_))) (ix6 b w h e r ⟨i.val, by omega⟩)
      = Ideal.div (x (ix6 b w h e r ⟨i.val, by omega⟩)) (∑ l : Fin 257, x (ix6 b w h e r l)) := by
    rw [← rowSum]
    generalize Host.reduceAdd x (constant S_ .f32 0x00000000#32) reducesTo_S4x32x2x4x128x257_S4x32x2x4x128_d5 h_S_ = y
    pointwise
  rw [hd, ← hx]
  simp only [exps_apply]
  rw [sum_appended (logits q k b w r (headOf4 h e)) (sinks (ix1 (headOf4 h e)))
    fun z => Ideal.exp (z - peak (logits q k b w r (headOf4 h e)) (sinks (ix1 (headOf4 h e))))]
  unfold total appended
  rw [dif_pos i.isLt]

/-- A masked key's value does not matter. -/
theorem referenceRow_congr (s : Fin 256 → EReal) (sink : EReal) (v v' : Fin 256 → EReal)
    (h : ∀ k, s k ≠ ⊥ → v k = v' k) (h0 : total s sink ≠ 0) : referenceRow s sink v = referenceRow s sink v' := by
  unfold referenceRow
  refine Finset.sum_congr rfl fun k _ => ?_
  by_cases hk : s k = ⊥
  · have hz : Ideal.div (Ideal.exp (s k - peak s sink)) (total s sink) = 0 := by
      rw [hk, EReal.bot_sub, exp_bot, Ideal.div, if_neg h0, zero_mul]
    rw [hz, mul_zero, mul_zero]
  · rw [h k hk]

theorem layer_apply (q : Queries) (k v : Keys) (sinks : Sinks) (i0 : Fin 16384) (i1 : Fin 512) (b : Fin 4) (w : Fin 32)
    (r : Fin 128) (hd : Fin 8) (d : Fin 64) (hb : b.val = i0.val / 4096) (hw : w.val = i0.val % 4096 / 128)
    (hr : r.val = i0.val % 128) (hh : hd.val = i1.val / 64) (hl : d.val = i1.val % 64)
    (ht : total (logits q k b w r hd) (sinks (ix1 hd)) ≠ 0) :
    layer q k v sinks (ix2 i0 i1)
      = referenceRow (logits q k b w r hd) (sinks (ix1 hd)) (valuesAt v b w hd d) := by
  have h0 : layer q k v sinks (ix2 i0 i1) = ∑ x : Fin 256,
      paired v (ix5 b w x ⟨hd.val / 4, by omega⟩ d)
        * softmax q k sinks (ix6 b w ⟨hd.val / 4, by omega⟩ ⟨hd.val % 4, by omega⟩ r ⟨x.val, by omega⟩) := by
    unfold layer
    generalize softmax q k sinks = y
    generalize paired v = x
    pointwise
    refine Finset.sum_congr rfl fun j _ => congrArg₂ (fun s t : EReal => s * t) (congrArg x ?_) (congrArg y ?_)
    · congr 1 <;> refine Fin.ext ?_ <;> simp only <;> omega
    · congr 1 <;> refine Fin.ext ?_ <;> simp only <;> omega
  have hq : headOf4 ⟨hd.val / 4, by omega⟩ ⟨hd.val % 4, by omega⟩ = hd := Fin.ext (by simp only [headOf4]; omega)
  rw [h0]
  simp only [softmax_apply, hq]
  refine (show _ = referenceRow (logits q k b w r hd) (sinks (ix1 hd)) (fun x => paired v (ix5 b w x ⟨hd.val / 4, by omega⟩ d))
    from rfl).trans (referenceRow_congr _ _ _ _ (fun x hx => ?_) ht)
  have hs : Seen w.val r x := by
    by_contra hn
    exact hx (if_neg hn)
  rw [paired_apply v b w x _ ⟨hd.val % 4, by omega⟩ d hs.2.2, hq]
  rfl

end Cert.Attention.Ref

end
-- ==== Proof.Attention.Finite.lean ====
/- What the precondition says: every query, key and sink is finite. With it the kernel's rows are the reference's. -/
module

public import proofs.«01_k».proof.Defs
public import proofs.«01_k».proof.Proof.Attention.Reference
public import Idealize.ShloMosaic.Lib.ReduceAll

@[expose] public section

noncomputable section

namespace Cert.Attention

open Idealize.ShloMosaic

/-- The shape relations the precondition takes. -/
instance preFacts : Cert.Pre_finite.Facts where
  bcast_S_S4x4096x512 := by decide
  reducesTo_S4x4096x512_S_d0_1_2 := by decide
  h_S_ := by decide
  bcast_S_S4x4096x128 := by decide
  reducesTo_S4x4096x128_S_d0_1_2 := by decide
  bcast_S_S8 := by decide
  reducesTo_S8_S_d0 := by decide

theorem infinity : Ideal.ofBits .f32 0x7F800000#32 = (⊤ : EReal) := by simp [Ideal.ofBits, Ideal.ieee]

/-- An extended real whose absolute value compares below infinity is finite. -/
theorem finite_of_abs (x : EReal) (h : FloatOps.cmpf (F := Ideal) (φ := .f32) .olt (FloatOps.absf (F := Ideal) (φ := .f32) x) (Ideal.ofBits .f32 0x7F800000#32) = 1#1) :
    x ≠ ⊤ ∧ x ≠ ⊥ := by
  rw [infinity] at h
  constructor
  · rintro rfl
    revert h
    simp [FloatOps.cmpf, FloatOps.absf, Ideal.cmp]
  · rintro rfl
    revert h
    simp [FloatOps.cmpf, FloatOps.absf, Ideal.cmp]

/-- An array all of whose values are finite. -/
def AllFinite {s : Shape} (x : s.Idx → EReal) : Prop := ∀ i, x i ≠ ⊤ ∧ x i ≠ ⊥

/-- The precondition, read. -/
theorem finite_args (q : Queries) (k v : Keys) (sinks : Sinks) (h : Cert.Pre_finite.fn (F := Ideal) q k v sinks = fun _ => 1#1) :
    AllFinite q ∧ AllFinite k ∧ AllFinite sinks := by
  haveI : Subsingleton Cert.Pre_finite.S_.Idx := ⟨fun a b => funext fun i => i.elim0⟩
  have h0 := congrFun h (Shape.Idx.first Cert.Pre_finite.Facts.h_S_)
  obtain ⟨h01, h2⟩ := IntOp.andi_eq_one.1 h0
  obtain ⟨h0, h1⟩ := IntOp.andi_eq_one.1 h01
  exact ⟨fun i => finite_of_abs _ (Host.reduce_andi_all _ _ _ _ _ h0 i),
    fun i => finite_of_abs _ (Host.reduce_andi_all _ _ _ _ _ h1 i),
    fun i => finite_of_abs _ (Host.reduce_andi_all _ _ _ _ _ h2 i)⟩

theorem scaled_ne (x : EReal) (h : x ≠ ⊤) (h' : x ≠ ⊥) : x * scale ≠ ⊤ ∧ x * scale ≠ ⊥ := by
  lift x to ℝ using ⟨h, h'⟩
  rw [Ref.scale_eq, ← EReal.coe_mul]
  exact ⟨EReal.coe_ne_top _, EReal.coe_ne_bot _⟩

/-- A logit is below infinity. -/
theorem logits_ne_top (q : Queries) (k : Keys) (hq : AllFinite q) (hk : AllFinite k) (b : Fin 4) (w : Fin 32) (r : Fin 128)
    (hd : Fin 8) (key : Fin 256) : logits q k b w r hd key ≠ ⊤ := by
  unfold logits
  split
  · unfold score
    refine sum_ne_top _ _ fun d => ?_
    have h := scaled_ne _ (hq (ix3 b (timeOf w r) (headLane hd d))).1 (hq _).2
    exact mul_ne_top_of_finite _ _ h.1 h.2 (hk _).1 (hk _).2
  · exact bot_ne_top

/-- The kernel's result is the reference's, of finite queries, keys and sinks. -/
theorem result_eq_layer (q : Queries) (k v : Keys) (sinks : Sinks) (hq : AllFinite q) (hk : AllFinite k) (hs : AllFinite sinks) :
    result q k v sinks = Ref.layer q k v sinks := by
  funext i
  obtain ⟨i0, i1, rfl⟩ : ∃ i0 i1, i = ix2 i0 i1 := ⟨i 0, i 1, by funext a; fin_cases a <;> rfl⟩
  have h0 := i0.isLt
  have h1 := i1.isLt
  refine Eq.trans ?_ (Ref.layer_apply q k v sinks i0 i1 ⟨i0.val / 4096, by omega⟩ ⟨i0.val % 4096 / 128, by omega⟩
    ⟨i0.val % 128, by omega⟩ ⟨i1.val / 64, by omega⟩ ⟨i1.val % 64, by omega⟩ rfl rfl rfl rfl rfl
    (total_pos _ _ (logits_ne_top q k hq hk _ _ _ _) (hs _).1 (hs _).2).ne').symm
  exact row_eq _ _ _ (logits_ne_top q k hq hk _ _ _ _) (hs _).1 (hs _).2

end Cert.Attention

end
-- ==== Proof.Attention.Claims.lean ====
/- The claims of the attention: the frames of the two kernels and of the reference, the named constant, and that kernel and
   reference compute one function of finite queries, keys and sinks. -/
module

public import proofs.«01_k».proof.Defs
public import proofs.«01_k».proof.Proof.Gen.Kernel.Frame
public import proofs.«01_k».proof.Proof.Attention.Array
public import proofs.«01_k».proof.Proof.Attention.Finite

@[expose] public section

noncomputable section

namespace Cert.Attention

open Idealize.ShloMosaic Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_finite : Cert.quiescent_ReferenceIdeal_pre_finite := fun m ρ _ => frame_ri m ρ trivial

/-- The mask's constant stands for minus infinity. -/
theorem preserves : Cert.preserves_Kernel_KernelIdeal :=
  IdealRules.named_const.statement Cert.KernelIdeal.κ "mask" .f32 0xF149F2CA#32 ⊥ rfl

/-- Kernel and reference end with one result. -/
theorem algebraic : Cert.algebraic_KernelIdeal_ReferenceIdeal_pre_finite := by
  intro m ρ m' ρ' hpre hagree
  refine ⟨fun c => result (argQ m c) (argK m c) (argV m c) (argS m c),
    (θ_run Cert.KernelIdeal.defs _ _).mono (fun _ h c => ⟨(h c).1.trans (array_eq m c), (h c).2⟩)
      (Cert.KernelIdeal.Value.run_blocks (F := Ideal) m ρ),
    (θ_run Cert.ReferenceIdeal.defs _ _).mono (fun _ h c => ⟨(h c).1.trans ?_, (h c).2⟩)
      (Cert.ReferenceIdeal.Value.run (F := Ideal) m' ρ')⟩
  obtain ⟨hq, hk, hs⟩ := finite_args _ _ _ _ (hpre c)
  obtain ⟨h0, h1, h2, h3⟩ := hagree c
  refine (Ref.res_eq m' c).trans ?_
  rw [h0, h1, h2, h3]
  exact (result_eq_layer _ _ _ _ hq hk hs).symm

end Cert.Attention

end
-- ==== Proof.Merge.Block.lean ====
/- What one grid point of the merge and feed-forward kernel computes, as a function of its blocks, over any float values.

   The first point also fills two buffers that the later ones read: the gates' weights, transposed 128 rows at a time, and
   the output projection's weights. `body` is the block of the result from a point's blocks and the two buffers;
   `out_first` and `out_later` say that both kinds of point leave it, `gates_first` and `weights_first` what the first
   point leaves in the buffers. -/
module

public import proofs.«01_k».proof.Proof.Gen.Kernel2Ideal.Value
public import Idealize.ShloMosaic.Lib.Tactic
public import Idealize.ShloMosaic.Lib.Pipeline.ValueKit.Basic
public import Idealize.ShloMosaic.Lib.Pointwise

@[expose] public section

set_option maxRecDepth 16384

noncomputable section

namespace Cert.Merge

open Cert.Kernel2Ideal Cert.Kernel2Ideal.Gen Idealize.ShloMosaic Idealize.ShloMosaic.TcCoe Idealize.SL.Sem

variable {F : FTy → Type} [FloatOps F]

/-! ## The parts of the weights a point reads -/

theorem inb_up (k : Fin 4) : ∀ a, (![0, 1024 * k.val] : Fin 2 → Nat) a + S1024x1024.size a ≤ S1024x4096.size a := by
  revert k; decide

theorem inb_down (k : Fin 4) : ∀ a, (![1024 * k.val, 0] : Fin 2 → Nat) a + S1024x1024.size a ≤ S4096x1024.size a := by
  revert k; decide

theorem inb_gate (k : Fin 2) : ∀ a, (![0, 1024 * k.val] : Fin 2 → Nat) a + S1024x1024.size a ≤ S1024x2048.size a := by
  revert k; decide

theorem inb_rows (j : Fin 16) : ∀ a, (![128 * j.val, 0] : Fin 2 → Nat) a + S128x1024.size a ≤ S2048x1024.size a := by
  revert j; decide

theorem inb_lanes (j : Fin 16) : ∀ a, (![0, 128 * j.val] : Fin 2 → Nat) a + S1024x128.size a ≤ S1024x2048.size a := by
  revert j; decide

/-- Columns `1024 k …` of the feed-forward part's first weights. -/
def upAt (x : Vec F S1024x4096 .bf16) (k : Fin 4) : Vec F S1024x1024 .bf16 :=
  View.ld x (Rect.unit ![0, 1024 * k.val] S1024x1024.size (inb_up k))

/-- Rows `1024 k …` of its second weights. -/
def downAt (x : Vec F S4096x1024 .bf16) (k : Fin 4) : Vec F S1024x1024 .bf16 :=
  View.ld x (Rect.unit ![1024 * k.val, 0] S1024x1024.size (inb_down k))

/-- The weights of gate `k`. -/
def gateAt (wg : Vec F S1024x2048 .bf16) (k : Fin 2) : Vec F S1024x1024 .bf16 :=
  View.ld wg (Rect.unit ![0, 1024 * k.val] S1024x1024.size (inb_gate k))

/-! ## The block of the result -/

/-- The rows after the mixers and the first layer norm. -/
def mixed (x0 : Vec F S512x1024 .f32) (x1 x2 : Vec F S512x512 .bf16) (x4 x5 : Vec F S512x1024 .bf16)
    (x7 : Vec F S2x1024 .f32) (wl wr wo : Vec F S1024x1024 .bf16) : FVec F S512x1024 .f32 :=
  k0_pay24 (k0_pay19 x0) (k0_pay21 x0 wl x1 x4) (k0_pay22 x0 wr) x2 (k0_pay23 x5)
    (constant S512x1024 .f32 0x00000000#32) wo x7

/-- The feed-forward part of those rows. -/
def forward (x0 : Vec F S512x1024 .f32) (x1 x2 : Vec F S512x512 .bf16) (x4 x5 : Vec F S512x1024 .bf16)
    (x7 : Vec F S2x1024 .f32) (wl wr wo : Vec F S1024x1024 .bf16) (up down : Fin 4 → Vec F S1024x1024 .bf16) :
    FVec F S512x1024 .f32 :=
  k0_pay28
    (k0_pay25 (k0_pay19 x0) (k0_pay21 x0 wl x1 x4) (k0_pay22 x0 wr) x2 (k0_pay23 x5)
      (constant S512x1024 .f32 0x00000000#32) wo x7)
    (k0_pay26 (k0_pay19 x0) (k0_pay21 x0 wl x1 x4) (k0_pay22 x0 wr) x2 (k0_pay23 x5)
      (constant S512x1024 .f32 0x00000000#32) wo x7 (up 0))
    (k0_pay27 (down 0)) (up 1) (down 1) (up 2) (down 2) (up 3) (down 3)

/-- The block, from the weights of the two gates and of the output projection. -/
def bodyOf (x0 : Vec F S512x1024 .f32) (x1 x2 : Vec F S512x512 .bf16) (x4 x5 : Vec F S512x1024 .bf16)
    (x7 : Vec F S2x1024 .f32) (x8 : Vec F S1024x4096 .bf16) (x9 : Vec F S4096x1024 .bf16) (x10 : Vec F S2x1024 .f32)
    (wl wr wo : Vec F S1024x1024 .bf16) : FVec F S512x1024 .f32 :=
  k0_pay1 (mixed x0 x1 x2 x4 x5 x7 wl wr wo) (forward x0 x1 x2 x4 x5 x7 wl wr wo (upAt x8) (downAt x9)) (k0_pay29 x10)

/-- The same with every block read as a whole, as the kernel reads it. -/
def bodyLd (x0 : Vec F S512x1024 .f32) (x1 x2 : Vec F S512x512 .bf16) (x4 x5 : Vec F S512x1024 .bf16)
    (x7 : Vec F S2x1024 .f32) (x8 : Vec F S1024x4096 .bf16) (x9 : Vec F S4096x1024 .bf16) (x10 : Vec F S2x1024 .f32)
    (wl wr wo : Vec F S1024x1024 .bf16) : FVec F S512x1024 .f32 :=
  bodyOf (View.ld x0 (Rect.unit ![0, 0] S512x1024.size inb_S512x1024_S512x1024_0_0))
    (View.ld x1 (Rect.unit ![0, 0] S512x512.size inb_S512x512_S512x512_0_0))
    (View.ld x2 (Rect.unit ![0, 0] S512x512.size inb_S512x512_S512x512_0_0))
    (View.ld x4 (Rect.unit ![0, 0] S512x1024.size inb_S512x1024_S512x1024_0_0))
    (View.ld x5 (Rect.unit ![0, 0] S512x1024.size inb_S512x1024_S512x1024_0_0))
    (View.ld x7 (Rect.unit ![0, 0] S2x1024.size inb_S2x1024_S2x1024_0_0)) x8 x9
    (View.ld x10 (Rect.unit ![0, 0] S2x1024.size inb_S2x1024_S2x1024_0_0)) wl wr wo

theorem zeros (a : Fin 2) : (![0, 0] : Fin 2 → Nat) a = 0 := by fin_cases a <;> rfl

theorem bodyLd_eq (x0 : Vec F S512x1024 .f32) (x1 x2 : Vec F S512x512 .bf16) (x4 x5 : Vec F S512x1024 .bf16)
    (x7 : Vec F S2x1024 .f32) (x8 : Vec F S1024x4096 .bf16) (x9 : Vec F S4096x1024 .bf16) (x10 : Vec F S2x1024 .f32)
    (wl wr wo : Vec F S1024x1024 .bf16) :
    bodyLd x0 x1 x2 x4 x5 x7 x8 x9 x10 wl wr wo = bodyOf x0 x1 x2 x4 x5 x7 x8 x9 x10 wl wr wo := by
  unfold bodyLd
  rw [View.ld_unit_lit _ x0 zeros, View.ld_unit_lit _ x1 zeros, View.ld_unit_lit _ x2 zeros, View.ld_unit_lit _ x4 zeros,
    View.ld_unit_lit _ x5 zeros, View.ld_unit_lit _ x7 zeros, View.ld_unit_lit _ x10 zeros]

/-- The block, from the two buffers. -/
def body (x0 : Vec F S512x1024 .f32) (x1 x2 : Vec F S512x512 .bf16) (x4 x5 : Vec F S512x1024 .bf16)
    (x7 : Vec F S2x1024 .f32) (x8 : Vec F S1024x4096 .bf16) (x9 : Vec F S4096x1024 .bf16) (x10 : Vec F S2x1024 .f32)
    (wg : Vec F S1024x2048 .bf16) (wo : Vec F S1024x1024 .bf16) : FVec F S512x1024 .f32 :=
  bodyOf x0 x1 x2 x4 x5 x7 x8 x9 x10 (gateAt wg 0) (gateAt wg 1) wo

/-! ## What the first point leaves in the buffers -/

/-- Rows `128 j …` of the gates' weights, transposed. -/
def gateTile (x3 : Vec F S2048x1024 .f32) (j : Fin 16) : FVec F S1024x128 .bf16 :=
  k0_pay2 (View.ld x3 (Rect.unit ![128 * j.val, 0] S128x1024.size (inb_rows j)))

def gatePiece (x3 : Vec F S2048x1024 .f32) (j : Fin 16) : View.Piece (Elt F) S1024x2048 .bf16 :=
  ⟨Rect.unit ![0, 128 * j.val] S1024x128.size (inb_lanes j), gateTile x3 j⟩

/-- The order in which they are stored, the last first. -/
def order : List (Fin 16) := [15, 14, 13, 12, 11, 10, 9, 8, 7, 6, 5, 4, 3, 2, 1, 0]

theorem gatePieces_eq (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2048x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S2x1024 .f32) (harg8 : arg8.IsWhole) (arg9 : Memref sig .tc .vmem S1024x4096 .bf16) (harg9 : arg9.IsWhole) (arg10 : Memref sig .tc .vmem S4096x1024 .bf16) (harg10 : arg10.IsWhole) (arg11 : Memref sig .tc .vmem S2x1024 .f32) (harg11 : arg11.IsWhole) (arg12 : Memref sig .tc .vmem S512x1024 .f32) (harg12 : arg12.IsWhole) (arg13 : Memref sig .tc .vmem S1024x2048 .bf16) (harg13 : arg13.IsWhole) (arg14 : Memref sig .tc .vmem S1024x1024 .bf16) (harg14 : arg14.IsWhole) (hc0 : cond0_0 i)
    (x0 : Vec F S512x1024 .f32) (x1 : Vec F S512x512 .bf16) (x2 : Vec F S512x512 .bf16) (x3 : Vec F S2048x1024 .f32) (x4 : Vec F S512x1024 .bf16) (x5 : Vec F S512x1024 .bf16) (x6 : Vec F S1024x1024 .f32) (x7 : Vec F S2x1024 .f32) (x8 : Vec F S1024x4096 .bf16) (x9 : Vec F S4096x1024 .bf16) (x10 : Vec F S2x1024 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).2.1 = order.map (gatePiece x3) := by
  have key : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).2.1
      = order.map (gatePiece (arg4.view.read (Elt F) (harg4.unread x3))) := by
    unfold kernelRun0_A
    dsimp only
    sl_unfold_words
    rfl
  rwa [harg4.read_unread] at key

theorem weightPieces_eq (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2048x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S2x1024 .f32) (harg8 : arg8.IsWhole) (arg9 : Memref sig .tc .vmem S1024x4096 .bf16) (harg9 : arg9.IsWhole) (arg10 : Memref sig .tc .vmem S4096x1024 .bf16) (harg10 : arg10.IsWhole) (arg11 : Memref sig .tc .vmem S2x1024 .f32) (harg11 : arg11.IsWhole) (arg12 : Memref sig .tc .vmem S512x1024 .f32) (harg12 : arg12.IsWhole) (arg13 : Memref sig .tc .vmem S1024x2048 .bf16) (harg13 : arg13.IsWhole) (arg14 : Memref sig .tc .vmem S1024x1024 .bf16) (harg14 : arg14.IsWhole) (hc0 : cond0_0 i)
    (x0 : Vec F S512x1024 .f32) (x1 : Vec F S512x512 .bf16) (x2 : Vec F S512x512 .bf16) (x3 : Vec F S2048x1024 .f32) (x4 : Vec F S512x1024 .bf16) (x5 : Vec F S512x1024 .bf16) (x6 : Vec F S1024x1024 .f32) (x7 : Vec F S2x1024 .f32) (x8 : Vec F S1024x4096 .bf16) (x9 : Vec F S4096x1024 .bf16) (x10 : Vec F S2x1024 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).2.2.1 = [⟨Rect.unit (s := S1024x1024) ![0, 0] S1024x1024.size inb_S1024x1024_S1024x1024_0_0, k0_pay18 x6⟩] := by
  have key : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).2.2.1
      = [⟨Rect.unit (s := S1024x1024) ![0, 0] S1024x1024.size inb_S1024x1024_S1024x1024_0_0, k0_pay18 (View.ld (arg7.view.read (Elt F) (harg7.unread x6)) (Rect.unit (s := S1024x1024) ![0, 0] S1024x1024.size inb_S1024x1024_S1024x1024_0_0))⟩] := by
    unfold kernelRun0_A
    dsimp only
    sl_unfold_words
    rfl
  rwa [harg7.read_unread, View.ld_unit_lit _ x6 zeros] at key

/-- The gates' weights as one array: lane `l` is row `l` of the rows they are read from. -/
def gates (x3 : Vec F S2048x1024 .f32) : Vec F S1024x2048 .bf16 := fun y =>
  gateTile x3 ⟨(y 1).val / 128, by have := ValueIdx.idx2_lt1 y; omega⟩
    (ix2 ⟨(y 0).val, ValueIdx.idx2_lt0 y⟩ ⟨(y 1).val % 128, by omega⟩)

theorem gates_tile (x3 : Vec F S2048x1024 .f32) (j : Fin 16) (x : S1024x128.Idx) :
    gateTile x3 j x = gates x3 ((Rect.unit (s := S1024x2048) ![0, 128 * j.val] S1024x128.size (inb_lanes j)).emb x) := by
  have h1 := ValueIdx.idx2_lt1 x
  have e0 : (((Rect.unit (s := S1024x2048) ![0, 128 * j.val] S1024x128.size (inb_lanes j)).emb x) 0).val = (x 0).val := by
    show 0 + 1 * (x _).val = _; rw [one_mul, zero_add]
  have e1 : (((Rect.unit (s := S1024x2048) ![0, 128 * j.val] S1024x128.size (inb_lanes j)).emb x) 1).val = 128 * j.val + (x 1).val := by
    show 128 * _ + 1 * (x _).val = _; rw [one_mul]
  unfold gates
  congr 1
  · exact Fin.ext (by show j.val = _ / 128; rw [e1]; omega)
  · funext a
    match a with
    | ⟨0, _⟩ => exact Fin.ext e0.symm
    | ⟨1, _⟩ => exact Fin.ext (by show (x 1).val = _ % 128; rw [e1]; omega)

theorem gates_first (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2048x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S2x1024 .f32) (harg8 : arg8.IsWhole) (arg9 : Memref sig .tc .vmem S1024x4096 .bf16) (harg9 : arg9.IsWhole) (arg10 : Memref sig .tc .vmem S4096x1024 .bf16) (harg10 : arg10.IsWhole) (arg11 : Memref sig .tc .vmem S2x1024 .f32) (harg11 : arg11.IsWhole) (arg12 : Memref sig .tc .vmem S512x1024 .f32) (harg12 : arg12.IsWhole) (arg13 : Memref sig .tc .vmem S1024x2048 .bf16) (harg13 : arg13.IsWhole) (arg14 : Memref sig .tc .vmem S1024x1024 .bf16) (harg14 : arg14.IsWhole) (hc0 : cond0_0 i)
    (x0 : Vec F S512x1024 .f32) (x1 : Vec F S512x512 .bf16) (x2 : Vec F S512x512 .bf16) (x3 : Vec F S2048x1024 .f32) (x4 : Vec F S512x1024 .bf16) (x5 : Vec F S512x1024 .bf16) (x6 : Vec F S1024x1024 .f32) (x7 : Vec F S2x1024 .f32) (x8 : Vec F S1024x4096 .bf16) (x9 : Vec F S4096x1024 .bf16) (x10 : Vec F S2x1024 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = gates x3 := by
  have hc := scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
  unfold sout0_A_0
  rw [View.read_writes_eq_canon _ _ _ hc]
  rw [gatePieces_eq] at hc ⊢
  funext y
  refine View.canon_apply_of_pieces (gates x3) _ (fun pc hpc => ?_) y (hc y)
  obtain ⟨j, -, rfl⟩ := List.mem_map.1 hpc
  exact fun x => gates_tile x3 j x

theorem weights_first (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2048x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S2x1024 .f32) (harg8 : arg8.IsWhole) (arg9 : Memref sig .tc .vmem S1024x4096 .bf16) (harg9 : arg9.IsWhole) (arg10 : Memref sig .tc .vmem S4096x1024 .bf16) (harg10 : arg10.IsWhole) (arg11 : Memref sig .tc .vmem S2x1024 .f32) (harg11 : arg11.IsWhole) (arg12 : Memref sig .tc .vmem S512x1024 .f32) (harg12 : arg12.IsWhole) (arg13 : Memref sig .tc .vmem S1024x2048 .bf16) (harg13 : arg13.IsWhole) (arg14 : Memref sig .tc .vmem S1024x1024 .bf16) (harg14 : arg14.IsWhole) (hc0 : cond0_0 i)
    (x0 : Vec F S512x1024 .f32) (x1 : Vec F S512x512 .bf16) (x2 : Vec F S512x512 .bf16) (x3 : Vec F S2048x1024 .f32) (x4 : Vec F S512x1024 .bf16) (x5 : Vec F S512x1024 .bf16) (x6 : Vec F S1024x1024 .f32) (x7 : Vec F S2x1024 .f32) (x8 : Vec F S1024x4096 .bf16) (x9 : Vec F S4096x1024 .bf16) (x10 : Vec F S2x1024 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = k0_pay18 x6 := by
  have hc := scover0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
  unfold sout0_A_1
  rw [View.read_writes_eq_canon _ _ _ hc, weightPieces_eq]
  exact View.canon_cons_unit_lit _ _ _ zeros

/-! ## The block each point leaves -/

theorem out_later (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2048x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S2x1024 .f32) (harg8 : arg8.IsWhole) (arg9 : Memref sig .tc .vmem S1024x4096 .bf16) (harg9 : arg9.IsWhole) (arg10 : Memref sig .tc .vmem S4096x1024 .bf16) (harg10 : arg10.IsWhole) (arg11 : Memref sig .tc .vmem S2x1024 .f32) (harg11 : arg11.IsWhole) (arg12 : Memref sig .tc .vmem S512x1024 .f32) (harg12 : arg12.IsWhole) (arg13 : Memref sig .tc .vmem S1024x2048 .bf16) (harg13 : arg13.IsWhole) (arg14 : Memref sig .tc .vmem S1024x1024 .bf16) (harg14 : arg14.IsWhole) (hc0 : ¬cond0_0 i)
    (x0 : Vec F S512x1024 .f32) (x1 : Vec F S512x512 .bf16) (x2 : Vec F S512x512 .bf16) (x3 : Vec F S2048x1024 .f32) (x4 : Vec F S512x1024 .bf16) (x5 : Vec F S512x1024 .bf16) (x6 : Vec F S1024x1024 .f32) (x7 : Vec F S2x1024 .f32) (x8 : Vec F S1024x4096 .bf16) (x9 : Vec F S4096x1024 .bf16) (x10 : Vec F S2x1024 .f32)
    (xs0 : Vec F S1024x2048 .bf16) (xs1 : Vec F S1024x1024 .bf16) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 xs1 = body x0 x1 x2 x4 x5 x7 x8 x9 x10 xs0 xs1 := by
  have key : (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 xs1).1
      = [⟨Rect.unit (s := S512x1024) ![0, 0] S512x1024.size inb_S512x1024_S512x1024_0_0, bodyLd (arg1.view.read (Elt F) (harg1.unread x0)) (arg2.view.read (Elt F) (harg2.unread x1)) (arg3.view.read (Elt F) (harg3.unread x2)) (arg5.view.read (Elt F) (harg5.unread x4)) (arg6.view.read (Elt F) (harg6.unread x5)) (arg8.view.read (Elt F) (harg8.unread x7)) (arg9.view.read (Elt F) (harg9.unread x8)) (arg10.view.read (Elt F) (harg10.unread x9)) (arg11.view.read (Elt F) (harg11.unread x10))
          (View.ld (arg13.view.read (Elt F) (harg13.unread xs0)) (Rect.unit (s := S1024x2048) ![0, 1024 * ((0 : Fin 2) : Nat)] S1024x1024.size (inb_gate 0)))
          (View.ld (arg13.view.read (Elt F) (harg13.unread xs0)) (Rect.unit (s := S1024x2048) ![0, 1024 * ((1 : Fin 2) : Nat)] S1024x1024.size (inb_gate 1)))
          (View.ld (arg14.view.read (Elt F) (harg14.unread xs1)) (Rect.unit (s := S1024x1024) ![0, 0] S1024x1024.size inb_S1024x1024_S1024x1024_0_0))⟩] := by
    unfold kernelRun0_B
    dsimp only
    sl_unfold_words
    rfl
  rw [harg1.read_unread, harg2.read_unread, harg3.read_unread, harg5.read_unread, harg6.read_unread, harg8.read_unread, harg9.read_unread, harg10.read_unread, harg11.read_unread, harg13.read_unread, harg14.read_unread, bodyLd_eq, View.ld_unit_lit _ xs1 zeros] at key
  have hc := cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 xs1
  unfold out0_B_11
  rw [View.read_writes_eq_canon _ _ _ hc, key]
  exact View.canon_cons_unit_lit _ _ _ zeros

theorem out_first (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2048x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S2x1024 .f32) (harg8 : arg8.IsWhole) (arg9 : Memref sig .tc .vmem S1024x4096 .bf16) (harg9 : arg9.IsWhole) (arg10 : Memref sig .tc .vmem S4096x1024 .bf16) (harg10 : arg10.IsWhole) (arg11 : Memref sig .tc .vmem S2x1024 .f32) (harg11 : arg11.IsWhole) (arg12 : Memref sig .tc .vmem S512x1024 .f32) (harg12 : arg12.IsWhole) (arg13 : Memref sig .tc .vmem S1024x2048 .bf16) (harg13 : arg13.IsWhole) (arg14 : Memref sig .tc .vmem S1024x1024 .bf16) (harg14 : arg14.IsWhole) (hc0 : cond0_0 i)
    (x0 : Vec F S512x1024 .f32) (x1 : Vec F S512x512 .bf16) (x2 : Vec F S512x512 .bf16) (x3 : Vec F S2048x1024 .f32) (x4 : Vec F S512x1024 .bf16) (x5 : Vec F S512x1024 .bf16) (x6 : Vec F S1024x1024 .f32) (x7 : Vec F S2x1024 .f32) (x8 : Vec F S1024x4096 .bf16) (x9 : Vec F S4096x1024 .bf16) (x10 : Vec F S2x1024 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = body x0 x1 x2 x4 x5 x7 x8 x9 x10 (gates x3) (k0_pay18 x6) := by
  have key : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).1
      = [⟨Rect.unit (s := S512x1024) ![0, 0] S512x1024.size inb_S512x1024_S512x1024_0_0, bodyLd (arg1.view.read (Elt F) (harg1.unread x0)) (arg2.view.read (Elt F) (harg2.unread x1)) (arg3.view.read (Elt F) (harg3.unread x2)) (arg5.view.read (Elt F) (harg5.unread x4)) (arg6.view.read (Elt F) (harg6.unread x5)) (arg8.view.read (Elt F) (harg8.unread x7)) (arg9.view.read (Elt F) (harg9.unread x8)) (arg10.view.read (Elt F) (harg10.unread x9)) (arg11.view.read (Elt F) (harg11.unread x10))
          (arg13.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).2.1 (Rect.unit (s := S1024x2048) ![0, 1024 * ((0 : Fin 2) : Nat)] S1024x1024.size (inb_gate 0)).toLoadRect)
          (arg13.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).2.1 (Rect.unit (s := S1024x2048) ![0, 1024 * ((1 : Fin 2) : Nat)] S1024x1024.size (inb_gate 1)).toLoadRect)
          (arg14.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).2.2.1 (Rect.unit (s := S1024x1024) ![0, 0] S1024x1024.size inb_S1024x1024_S1024x1024_0_0).toLoadRect)⟩] := by
    unfold kernelRun0_A
    dsimp only
    sl_unfold_words
    rfl
  have hc := cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
  have hg := gates_first c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
  have hg0 := scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
  have hw := weights_first c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
  have hw0 := scover0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
  have hz : View.ld (Val := Elt F) (e' := .bf16) (k0_pay18 x6) (Rect.unit (s := S1024x1024) ![0, 0] S1024x1024.size inb_S1024x1024_S1024x1024_0_0) = k0_pay18 x6 := View.ld_unit_lit _ _ zeros
  unfold sout0_A_0 at hg
  unfold sout0_A_1 at hw
  rw [View.read_writes_eq_canon _ _ _ hg0] at hg
  rw [View.read_writes_eq_canon _ _ _ hw0] at hw
  rw [View.readCov_eq_canon_ld _ _ _ hg0, View.readCov_eq_canon_ld _ _ _ hg0, View.readCov_eq_canon_ld _ _ _ hw0, hg, hw,
    harg1.read_unread, harg2.read_unread, harg3.read_unread, harg5.read_unread, harg6.read_unread, harg8.read_unread, harg9.read_unread, harg10.read_unread, harg11.read_unread, bodyLd_eq, hz] at key
  unfold out0_A_11
  rw [View.read_writes_eq_canon _ _ _ hc, key]
  exact View.canon_cons_unit_lit _ _ _ zeros

end Cert.Merge

end
-- ==== Proof.Merge.Row.lean ====
/- One row of the merge and feed-forward part over the extended reals, in the order in which the reference adds, and the
   two places where the kernel computes otherwise: a gate from the hyperbolic tangent, and the feed-forward sum in four
   parts. -/
module

public import Idealize.ShloMosaic.Lib.Pointwise

@[expose] public section

noncomputable section

namespace Cert.Merge

open Idealize.ShloMosaic

/-- The residual's weight, the number of lanes, and the layer norm's small constant. -/
def alpha : EReal := Ideal.ofBits .f32 0x3F9837F0#32
def lanes : EReal := Ideal.ofBits .f32 0x44800000#32
def small : EReal := Ideal.ofBits .f32 0x3727C5AC#32
def half : EReal := Ideal.ofBits .f32 0x3F000000#32

theorem half_eq : half = ((1 / 2 : ℝ) : EReal) := by
  unfold half
  simp [Ideal.ofBits, Ideal.ieee, -EReal.coe_mul]
  norm_num

/-! ## The gate -/

/-- The logistic function, as the reference computes it. -/
def gate (t : EReal) : EReal := Ideal.div 1 (1 + Ideal.exp (-t))

/-- Over the reals the logistic function is a half of one plus the hyperbolic tangent of half its argument. -/
theorem logistic_real (t : ℝ) : 1 / 2 + 1 / 2 * Real.tanh (1 / 2 * t) = 1 * (1 + Real.exp (-t))⁻¹ := by
  have h1 : 0 < Real.exp (1 / 2 * t) := Real.exp_pos _
  have h2 : Real.exp (-(1 / 2 * t)) = (Real.exp (1 / 2 * t))⁻¹ := Real.exp_neg _
  have h3 : Real.exp (-t) = (Real.exp (1 / 2 * t))⁻¹ * (Real.exp (1 / 2 * t))⁻¹ := by
    rw [← h2, ← Real.exp_add]; congr 1; ring
  rw [Real.tanh_eq_sinh_div_cosh, Real.sinh_eq, Real.cosh_eq, h2, h3]
  generalize Real.exp (1 / 2 * t) = a at h1
  field_simp
  ring

/-- The kernel's gate is the reference's, at every extended real. -/
theorem half_tanh (t : EReal) : half + half * Ideal.tanh (half * t) = gate t := by
  rw [half_eq]
  unfold gate
  induction t with
  | bot =>
    rw [EReal.coe_mul_bot_of_pos (by norm_num), Ideal.tanh_bot, EReal.neg_bot]
    have : (1 : EReal) + Ideal.exp ⊤ = ⊤ := by
      show (1 : EReal) + ⊤ = ⊤
      exact EReal.add_top_of_ne_bot (by decide)
    rw [this, Ideal.div, if_neg (by decide), EReal.inv_top, mul_zero]
    have h : (-1 : EReal) = ((-1 : ℝ) : EReal) := by norm_num
    rw [h, ← EReal.coe_mul, ← EReal.coe_add]
    norm_num
  | top =>
    rw [EReal.coe_mul_top_of_pos (by norm_num), Ideal.tanh_top, EReal.neg_top]
    have : (1 : EReal) + Ideal.exp ⊥ = 1 := by
      show (1 : EReal) + 0 = 1
      exact add_zero _
    rw [this, Ideal.div, if_neg one_ne_zero, mul_one, ← EReal.coe_add]
    have h : (1 : EReal) = ((1 : ℝ) : EReal) := rfl
    rw [h, ← EReal.coe_inv, ← EReal.coe_mul]
    norm_num
  | coe t =>
    have he : Ideal.exp (-(t : EReal)) = ((Real.exp (-t) : ℝ) : EReal) := by rw [← EReal.coe_neg]; rfl
    have h1 : (1 : EReal) + Ideal.exp (-(t : EReal)) = ((1 + Real.exp (-t) : ℝ) : EReal) := by
      rw [he, EReal.coe_add]; rfl
    have hne : ((1 + Real.exp (-t) : ℝ) : EReal) ≠ 0 := by
      have := Real.exp_pos (-t)
      exact fun h => (by linarith : (1 + Real.exp (-t) : ℝ) ≠ 0) (by exact_mod_cast h)
    rw [h1, Ideal.div, if_neg hne, ← EReal.coe_inv, ← EReal.coe_mul, Ideal.tanh_coe, ← EReal.coe_mul, ← EReal.coe_add,
      show (1 : EReal) = ((1 : ℝ) : EReal) from rfl, ← EReal.coe_mul, logistic_real]

/-! ## The feed-forward sum -/

/-- Entry `i` of part `k`. -/
def partAt (k : Fin 4) (i : Fin 1024) : Fin 4096 := ⟨1024 * k.val + i.val, by omega⟩

/-- A sum over 4096 entries is the sum of its four parts, added from the left. -/
theorem sum_parts (f : Fin 4096 → EReal) :
    ∑ i, f i = ∑ i, f (partAt 0 i) + ∑ i, f (partAt 1 i) + ∑ i, f (partAt 2 i) + ∑ i, f (partAt 3 i) := by
  have h : ∑ i : Fin (4 * 1024), f (Fin.cast (by norm_num) i) = ∑ k : Fin 4, ∑ i : Fin 1024, f (partAt k i) := by
    rw [← Finset.sum_product' (f := fun k i => f (partAt k i))]
    refine (Fintype.sum_equiv finProdFinEquiv _ _ fun p => ?_).symm
    refine congrArg f (Fin.ext ?_)
    show 1024 * p.1.val + p.2.val = p.2.val + 1024 * p.1.val
    omega
  have h' : ∑ i, f i = ∑ i : Fin (4 * 1024), f (Fin.cast (by norm_num) i) := rfl
  rw [h', h, Fin.sum_univ_four]

/-! ## The row -/

/-- A layer norm of a row: its lanes less their mean, over the root of their variance, scaled and shifted. -/
def mean (v : Fin 1024 → EReal) : EReal := Ideal.div (∑ k, v k) lanes

def normed (v g b : Fin 1024 → EReal) (l : Fin 1024) : EReal :=
  (v l - mean v) * Ideal.rsqrt (Ideal.div (∑ k, (v k - mean v) * (v k - mean v)) lanes + small) * g l + b l

/-- A row of the merged mixers' outputs. -/
def merged (x : Fin 1024 → EReal) (oa ob : Fin 512 → EReal) (wl wr : Fin 1024 → Fin 1024 → EReal)
    (wa wb : Fin 512 → Fin 1024 → EReal) (j : Fin 1024) : EReal :=
  gate (∑ k, x k * wl k j) * (∑ k, oa k * wa k j) + gate (∑ k, x k * wr k j) * (∑ k, ob k * wb k j)

/-- The row with the merged outputs' projection added. -/
def residual (x : Fin 1024 → EReal) (oa ob : Fin 512 → EReal) (wl wr : Fin 1024 → Fin 1024 → EReal)
    (wa wb : Fin 512 → Fin 1024 → EReal) (wo : Fin 1024 → Fin 1024 → EReal) (l : Fin 1024) : EReal :=
  alpha * x l + ∑ j, merged x oa ob wl wr wa wb j * wo j l

/-- The square of the positive part of an entry of the hidden layer. -/
def hidden (x : Fin 1024 → EReal) (up : Fin 1024 → EReal) : EReal :=
  max (∑ k, x k * up k) 0 * max (∑ k, x k * up k) 0

/-- The feed-forward part's residual. -/
def forwarded (x : Fin 1024 → EReal) (up : Fin 1024 → Fin 4096 → EReal) (down : Fin 4096 → Fin 1024 → EReal)
    (l : Fin 1024) : EReal :=
  alpha * x l + ∑ i, hidden x (fun k => up k i) * down i l

/-- The whole row. -/
def row (x : Fin 1024 → EReal) (oa ob : Fin 512 → EReal) (wl wr : Fin 1024 → Fin 1024 → EReal)
    (wa wb : Fin 512 → Fin 1024 → EReal) (wo : Fin 1024 → Fin 1024 → EReal) (g₁ b₁ : Fin 1024 → EReal)
    (up : Fin 1024 → Fin 4096 → EReal) (down : Fin 4096 → Fin 1024 → EReal) (g₂ b₂ : Fin 1024 → EReal) :
    Fin 1024 → EReal :=
  normed (forwarded (normed (residual x oa ob wl wr wa wb wo) g₁ b₁) up down) g₂ b₂

end Cert.Merge

end
-- ==== Proof.Merge.BlockValue.lean ====
/- What one point's block holds at a row and a lane, over the extended reals: `row` of the block's row and the weights. -/
module

public import proofs.«01_k».proof.Proof.Merge.Block
public import proofs.«01_k».proof.Proof.Merge.Row

@[expose] public section

set_option maxRecDepth 16384

noncomputable section

namespace Cert.Merge

open Cert.Kernel2Ideal Cert.Kernel2Ideal.Gen Idealize.ShloMosaic Idealize.ShloMosaic.TcCoe Idealize.SL.Sem

/-! ## The layer norm of a block -/

section Norm

variable {F : FTy → Type} [FloatOps F]

/-- The rows' means. -/
def means (v : FVec F S512x1024 .f32) : FVec F S512x1 .f32 :=
  divf (shapeCast S512x1 (multiReduction .add [1] S512 v 0x00000000#32 reduces_S512x1024_S512 (.inl rfl) rfl)
    shapeCasts_S512_S512x1) (broadcast S512x1 (Scalar.ofBits .f32 0x44800000#32))

/-- The lanes less their row's mean. -/
def centred (v : FVec F S512x1024 .f32) : FVec F S512x1024 .f32 :=
  subf v (broadcastTo S512x1024 (means v) broadcasts_S512x1_S512x1024)

/-- The layer norm of every row, its scale and shift the two rows of `w`. -/
def normBlock (v : FVec F S512x1024 .f32) (w : FVec F S2x1024 .f32) : FVec F S512x1024 .f32 :=
  addf (mulf (mulf (centred v) (broadcastTo S512x1024 (rsqrt (addf (means (mulf (centred v) (centred v)))
      (broadcast S512x1 (Scalar.ofBits .f32 0x3727C5AC#32)))) broadcasts_S512x1_S512x1024))
    (broadcastTo S512x1024 (extractStridedSlice S1x1024 ![0, 0] w slices_S2x1024_o0_0_S1x1024) broadcasts_S1x1024_S512x1024))
    (broadcastTo S512x1024 (extractStridedSlice S1x1024 ![1, 0] w slices_S2x1024_o1_0_S1x1024) broadcasts_S1x1024_S512x1024)

/-- A gate's values. -/
def gateBlock (x : Vec F S512x1024 .f32) (w : Vec F S1024x1024 .bf16) : FVec F S512x1024 .f32 := k0_pay22 x w

/-- A block times the residual's weight, and another one. -/
def addTo (x y : FVec F S512x1024 .f32) : FVec F S512x1024 .f32 :=
  addf (mulf (broadcast S512x1024 (Scalar.ofBits .f32 0x3F9837F0#32)) x) y

/-- The merged outputs' projection. -/
def projected (x0 : Vec F S512x1024 .f32) (x1 x2 : Vec F S512x512 .bf16) (x4 x5 : Vec F S512x1024 .bf16)
    (wl wr wo : Vec F S1024x1024 .bf16) : FVec F S512x1024 .f32 :=
  matmul dot_S512x1024_S1024x1024_S512x1024_1_0_0_1_n_n none (truncf .bf16 (addf
    (mulf (gateBlock x0 wl) (matmul dot_S512x512_S512x1024_S512x1024_1_0_0_1_n_n none x1 (k0_pay23 x4)
      (constant S512x1024 .f32 0x00000000#32)))
    (mulf (gateBlock x0 wr) (matmul dot_S512x512_S512x1024_S512x1024_1_0_0_1_n_n none x2 (k0_pay23 x5)
      (constant S512x1024 .f32 0x00000000#32)))) bitsLt_bf16_f32) wo (constant S512x1024 .f32 0x00000000#32)

/-- One part of the feed-forward sum. -/
def forwardPart (x : FVec F S512x1024 .f32) (up down : Vec F S1024x1024 .bf16) : FVec F S512x1024 .f32 :=
  matmul dot_S512x1024_S1024x1024_S512x1024_1_0_0_1_n_n none
    (truncf .bf16 (mulf
      (maximumf (matmul dot_S512x1024_S1024x1024_S512x1024_1_0_0_1_n_n none (truncf .bf16 x bitsLt_bf16_f32)
        (k0_pay27 up) (constant S512x1024 .f32 0x00000000#32)) (broadcast S512x1024 (Scalar.ofBits .f32 0x00000000#32)))
      (maximumf (matmul dot_S512x1024_S1024x1024_S512x1024_1_0_0_1_n_n none (truncf .bf16 x bitsLt_bf16_f32)
        (k0_pay27 up) (constant S512x1024 .f32 0x00000000#32)) (broadcast S512x1024 (Scalar.ofBits .f32 0x00000000#32))))
      bitsLt_bf16_f32) (k0_pay27 down) (constant S512x1024 .f32 0x00000000#32)

theorem mixed_eq (x0 : Vec F S512x1024 .f32) (x1 x2 : Vec F S512x512 .bf16) (x4 x5 : Vec F S512x1024 .bf16)
    (x7 : Vec F S2x1024 .f32) (wl wr wo : Vec F S1024x1024 .bf16) :
    mixed x0 x1 x2 x4 x5 x7 wl wr wo
      = normBlock (addTo (k0_pay19 x0) (projected x0 x1 x2 x4 x5 wl wr wo)) (k0_pay29 x7) := rfl

theorem forward_eq (x0 : Vec F S512x1024 .f32) (x1 x2 : Vec F S512x512 .bf16) (x4 x5 : Vec F S512x1024 .bf16)
    (x7 : Vec F S2x1024 .f32) (wl wr wo : Vec F S1024x1024 .bf16) (up down : Fin 4 → Vec F S1024x1024 .bf16) :
    forward x0 x1 x2 x4 x5 x7 wl wr wo up down
      = addf (addf (addf (forwardPart (mixed x0 x1 x2 x4 x5 x7 wl wr wo) (up 0) (down 0))
          (forwardPart (mixed x0 x1 x2 x4 x5 x7 wl wr wo) (up 1) (down 1)))
          (forwardPart (mixed x0 x1 x2 x4 x5 x7 wl wr wo) (up 2) (down 2)))
          (forwardPart (mixed x0 x1 x2 x4 x5 x7 wl wr wo) (up 3) (down 3)) := rfl

theorem bodyOf_eq (x0 : Vec F S512x1024 .f32) (x1 x2 : Vec F S512x512 .bf16) (x4 x5 : Vec F S512x1024 .bf16)
    (x7 : Vec F S2x1024 .f32) (x8 : Vec F S1024x4096 .bf16) (x9 : Vec F S4096x1024 .bf16) (x10 : Vec F S2x1024 .f32)
    (wl wr wo : Vec F S1024x1024 .bf16) :
    bodyOf x0 x1 x2 x4 x5 x7 x8 x9 x10 wl wr wo
      = normBlock (addTo (mixed x0 x1 x2 x4 x5 x7 wl wr wo)
          (forward x0 x1 x2 x4 x5 x7 wl wr wo (upAt x8) (downAt x9))) (k0_pay29 x10) := rfl

end Norm

/-! ## At an index -/

theorem means_apply (v : FVec Ideal S512x1024 .f32) (r : Fin 512) :
    means v (ix2 r 0) = mean fun k => v (ix2 r k) := by
  unfold means mean lanes
  pointwise

theorem centred_apply (v : FVec Ideal S512x1024 .f32) (r : Fin 512) (l : Fin 1024) :
    centred v (ix2 r l) = v (ix2 r l) - mean fun k => v (ix2 r k) := by
  rw [← means_apply]
  unfold centred
  generalize means v = y
  pointwise

theorem normBlock_apply (v : FVec Ideal S512x1024 .f32) (w : FVec Ideal S2x1024 .f32) (r : Fin 512) (l : Fin 1024) :
    normBlock v w (ix2 r l)
      = normed (fun k => v (ix2 r k)) (fun k => w (ix2 0 k)) (fun k => w (ix2 1 k)) l := by
  have h : ∀ y : FVec Ideal S512x1024 .f32, (y = centred v) → normBlock v w (ix2 r l)
      = y (ix2 r l) * Ideal.rsqrt (means (mulf y y) (ix2 r 0) + small) * w (ix2 0 l) + w (ix2 1 l) := by
    rintro _ rfl
    unfold normBlock small
    generalize means (mulf (centred v) (centred v)) = z
    generalize centred v = y
    pointwise
  rw [h _ rfl, means_apply, centred_apply]
  unfold normed mean
  have hm : ∀ k, mulf (centred v) (centred v) (ix2 r k)
      = (v (ix2 r k) - mean fun k => v (ix2 r k)) * (v (ix2 r k) - mean fun k => v (ix2 r k)) := fun k => by
    rw [← centred_apply]; rfl
  simp only [hm]
  rfl

theorem gateBlock_apply (x : Vec Ideal S512x1024 .f32) (w : Vec Ideal S1024x1024 .bf16) (r : Fin 512) (l : Fin 1024) :
    gateBlock x w (ix2 r l) = gate (∑ k, x (ix2 r k) * w (ix2 k l)) := by
  rw [← half_tanh]
  unfold gateBlock k0_pay22 k0_pay20 k0_pay19 half
  pointwise

theorem addTo_apply (x y : FVec Ideal S512x1024 .f32) (r : Fin 512) (l : Fin 1024) :
    addTo x y (ix2 r l) = alpha * x (ix2 r l) + y (ix2 r l) := by
  unfold addTo alpha
  pointwise

theorem projected_apply (x0 : Vec Ideal S512x1024 .f32) (x1 x2 : Vec Ideal S512x512 .bf16)
    (x4 x5 : Vec Ideal S512x1024 .bf16) (wl wr wo : Vec Ideal S1024x1024 .bf16) (r : Fin 512) (l : Fin 1024) :
    projected x0 x1 x2 x4 x5 wl wr wo (ix2 r l)
      = ∑ j, merged (fun k => x0 (ix2 r k)) (fun k => x1 (ix2 r k)) (fun k => x2 (ix2 r k)) (fun k j => wl (ix2 k j))
          (fun k j => wr (ix2 k j)) (fun k j => x4 (ix2 k j)) (fun k j => x5 (ix2 k j)) j * wo (ix2 j l) := by
  unfold merged
  simp only [← gateBlock_apply]
  unfold projected k0_pay23
  generalize gateBlock x0 wl = u
  generalize gateBlock x0 wr = v
  pointwise

theorem forwardPart_apply (x : FVec Ideal S512x1024 .f32) (up down : Vec Ideal S1024x1024 .bf16) (r : Fin 512)
    (l : Fin 1024) : forwardPart x up down (ix2 r l)
      = ∑ i, hidden (fun k => x (ix2 r k)) (fun k => up (ix2 k i)) * down (ix2 i l) := by
  unfold forwardPart hidden k0_pay27
  pointwise

theorem upAt_apply (x : Vec Ideal S1024x4096 .bf16) (k : Fin 4) (j i : Fin 1024) :
    upAt x k (ix2 j i) = x (ix2 j (partAt k i)) := by
  unfold upAt partAt
  pointwise

theorem downAt_apply (x : Vec Ideal S4096x1024 .bf16) (k : Fin 4) (i l : Fin 1024) :
    downAt x k (ix2 i l) = x (ix2 (partAt k i) l) := by
  unfold downAt partAt
  pointwise

theorem gateAt_apply (wg : Vec Ideal S1024x2048 .bf16) (k : Fin 2) (j i : Fin 1024) :
    gateAt wg k (ix2 j i) = wg (ix2 j ⟨1024 * k.val + i.val, by omega⟩) := by
  unfold gateAt
  pointwise

theorem gates_apply (x3 : Vec Ideal S2048x1024 .f32) (j : Fin 1024) (l : Fin 2048) :
    gates x3 (ix2 j l) = x3 (ix2 l j) := by
  have h : ∀ (n : Fin 16) (i : Fin 128), gateTile x3 n (ix2 j i) = x3 (ix2 ⟨128 * n.val + i.val, by omega⟩ j) := by
    intro n i
    unfold gateTile k0_pay2
    pointwise
  unfold gates
  refine (h _ _).trans (congrArg x3 (congrArg (fun y => ix2 y j) (Fin.ext ?_)))
  show 128 * (l.val / 128) + l.val % 128 = l.val
  omega

/-- The block at an index. -/
theorem bodyOf_apply (x0 : Vec Ideal S512x1024 .f32) (x1 x2 : Vec Ideal S512x512 .bf16) (x4 x5 : Vec Ideal S512x1024 .bf16)
    (x7 : Vec Ideal S2x1024 .f32) (x8 : Vec Ideal S1024x4096 .bf16) (x9 : Vec Ideal S4096x1024 .bf16)
    (x10 : Vec Ideal S2x1024 .f32) (wl wr wo : Vec Ideal S1024x1024 .bf16) (r : Fin 512) (l : Fin 1024) :
    bodyOf x0 x1 x2 x4 x5 x7 x8 x9 x10 wl wr wo (ix2 r l)
      = row (fun k => x0 (ix2 r k)) (fun k => x1 (ix2 r k)) (fun k => x2 (ix2 r k)) (fun k j => wl (ix2 k j))
          (fun k j => wr (ix2 k j)) (fun k j => x4 (ix2 k j)) (fun k j => x5 (ix2 k j)) (fun k j => wo (ix2 k j))
          (fun k => x7 (ix2 0 k)) (fun k => x7 (ix2 1 k)) (fun k i => x8 (ix2 k i)) (fun i k => x9 (ix2 i k))
          (fun k => x10 (ix2 0 k)) (fun k => x10 (ix2 1 k)) l := by
  have h29 : ∀ x : Vec Ideal S2x1024 .f32, k0_pay29 x = x := fun x => by
    funext i
    obtain ⟨a, b, rfl⟩ : ∃ a b, i = ix2 a b := ⟨_, _, ValueIdx.eq_ix2 i⟩
    unfold k0_pay29
    pointwise
  have h19 : ∀ x : Vec Ideal S512x1024 .f32, k0_pay19 x = x := fun x => by
    funext i
    obtain ⟨a, b, rfl⟩ : ∃ a b, i = ix2 a b := ⟨_, _, ValueIdx.eq_ix2 i⟩
    unfold k0_pay19
    pointwise
  have hm : ∀ k, mixed x0 x1 x2 x4 x5 x7 wl wr wo (ix2 r k)
      = normed (residual (fun k => x0 (ix2 r k)) (fun k => x1 (ix2 r k)) (fun k => x2 (ix2 r k)) (fun k j => wl (ix2 k j))
          (fun k j => wr (ix2 k j)) (fun k j => x4 (ix2 k j)) (fun k j => x5 (ix2 k j)) (fun k j => wo (ix2 k j)))
          (fun k => x7 (ix2 0 k)) (fun k => x7 (ix2 1 k)) k := by
    intro k
    rw [mixed_eq, normBlock_apply, h29, h19]
    simp only [addTo_apply, projected_apply]
    rfl
  have hf : ∀ k, forward x0 x1 x2 x4 x5 x7 wl wr wo (upAt x8) (downAt x9) (ix2 r k)
      = ∑ i, hidden (fun k => mixed x0 x1 x2 x4 x5 x7 wl wr wo (ix2 r k)) (fun k => x8 (ix2 k i)) * x9 (ix2 i k) := by
    intro k
    rw [forward_eq]
    generalize mixed x0 x1 x2 x4 x5 x7 wl wr wo = y
    rw [sum_parts]
    simp only [← upAt_apply, ← downAt_apply]
    rw [← forwardPart_apply, ← forwardPart_apply, ← forwardPart_apply, ← forwardPart_apply]
    rfl
  rw [bodyOf_eq, normBlock_apply, h29]
  simp only [addTo_apply, hf, hm]
  rfl

end Cert.Merge

end
-- ==== Proof.Merge.Array.lean ====
/- The kernel's result array: each point's block of it is `row` of the arguments at that block's rows. -/
module

public import proofs.«01_k».proof.Proof.Merge.BlockValue
public import Idealize.ShloMosaic.Lib.StableHlo.ReadAt
public import Idealize.ShloMosaic.Lib.Pipeline.ValueKit.Geometry

@[expose] public section

set_option maxRecDepth 16384

noncomputable section

namespace Cert.Merge

open Cert.Kernel2Ideal Cert.Kernel2Ideal.Gen Idealize.ShloMosaic Idealize.ShloMosaic.TcCoe Idealize.SL.Sem

/-! ## The result as a function of the arguments -/

/-- Column `k` of gate `n`'s weights. -/
def gateCol (n : Fin 2) (j : Fin 1024) : Fin 4872 := ⟨2824 + (1024 * n.val + j.val), by omega⟩

/-- The batch and the position of a row. -/
def batchOf (R : Fin 16384) : Fin 4 := ⟨R.val / 4096, by omega⟩
def posOf (R : Fin 16384) : Fin 4096 := ⟨R.val % 4096, by omega⟩

/-- Row `R`, lane `l` of the result. -/
def resultAt (x : FVec Ideal S4x4096x1024 .f32) (oa ob : FVec Ideal S16384x512 .bf16) (win : FVec Ideal S1024x4872 .f32)
    (wa wb : FVec Ideal S512x1024 .f32) (wo : FVec Ideal S1024x1024 .f32) (g₁ b₁ : FVec Ideal S1024 .f32)
    (up : FVec Ideal S1024x4096 .f32) (down : FVec Ideal S4096x1024 .f32) (g₂ b₂ : FVec Ideal S1024 .f32)
    (R : Fin 16384) (l : Fin 1024) : EReal :=
  row (fun k => x (ix3 (batchOf R) (posOf R) k)) (fun k => oa (ix2 R k)) (fun k => ob (ix2 R k))
    (fun k j => win (ix2 k (gateCol 0 j))) (fun k j => win (ix2 k (gateCol 1 j))) (fun k j => wa (ix2 k j))
    (fun k j => wb (ix2 k j)) (fun k j => wo (ix2 k j)) (fun k => g₁ (ix1 k)) (fun k => b₁ (ix1 k))
    (fun k i => up (ix2 k i)) (fun i k => down (ix2 i k)) (fun k => g₂ (ix1 k)) (fun k => b₂ (ix1 k)) l

/-- The result. -/
def result (x : FVec Ideal S4x4096x1024 .f32) (oa ob : FVec Ideal S16384x512 .bf16) (win : FVec Ideal S1024x4872 .f32)
    (wa wb : FVec Ideal S512x1024 .f32) (wo : FVec Ideal S1024x1024 .f32) (g₁ b₁ : FVec Ideal S1024 .f32)
    (up : FVec Ideal S1024x4096 .f32) (down : FVec Ideal S4096x1024 .f32) (g₂ b₂ : FVec Ideal S1024 .f32) :
    FVec Ideal S16384x1024 .f32 := fun i =>
  resultAt x oa ob win wa wb wo g₁ b₁ up down g₂ b₂ (i 0) (i 1)

variable (m : (ℓ : Loc nD τ sig) → Buf (Elt Ideal) ℓ) (ρ : Dev nD → PrngReg)

/-! ## The arguments, and the buffers the kernel reads -/

abbrev argX (c : Dev nD) : FVec Ideal S4x4096x1024 .f32 := m ((c : Thread nD τ).loc main_arg0)
abbrev argA (c : Dev nD) : FVec Ideal S16384x512 .bf16 := m ((c : Thread nD τ).loc main_arg1)
abbrev argB (c : Dev nD) : FVec Ideal S16384x512 .bf16 := m ((c : Thread nD τ).loc main_arg2)
abbrev argIn (c : Dev nD) : FVec Ideal S1024x4872 .f32 := m ((c : Thread nD τ).loc main_arg3)
abbrev argWa (c : Dev nD) : FVec Ideal S512x1024 .f32 := m ((c : Thread nD τ).loc main_arg4)
abbrev argWb (c : Dev nD) : FVec Ideal S512x1024 .f32 := m ((c : Thread nD τ).loc main_arg5)
abbrev argWo (c : Dev nD) : FVec Ideal S1024x1024 .f32 := m ((c : Thread nD τ).loc main_arg6)
abbrev argG₁ (c : Dev nD) : FVec Ideal S1024 .f32 := m ((c : Thread nD τ).loc main_arg7)
abbrev argB₁ (c : Dev nD) : FVec Ideal S1024 .f32 := m ((c : Thread nD τ).loc main_arg8)
abbrev argUp (c : Dev nD) : FVec Ideal S1024x4096 .f32 := m ((c : Thread nD τ).loc main_arg9)
abbrev argDown (c : Dev nD) : FVec Ideal S4096x1024 .f32 := m ((c : Thread nD τ).loc main_arg10)
abbrev argG₂ (c : Dev nD) : FVec Ideal S1024 .f32 := m ((c : Thread nD τ).loc main_arg11)
abbrev argB₂ (c : Dev nD) : FVec Ideal S1024 .f32 := m ((c : Thread nD τ).loc main_arg12)

abbrev bufX (c : Dev nD) : Vec Ideal S16384x1024 .f32 := V m c main_v0
abbrev bufIn (c : Dev nD) : Vec Ideal S4872x1024 .f32 := V m c main_v1
abbrev bufWa (c : Dev nD) : Vec Ideal S512x1024 .bf16 := V m c main_v2
abbrev bufWb (c : Dev nD) : Vec Ideal S512x1024 .bf16 := V m c main_v3
abbrev bufN₁ (c : Dev nD) : Vec Ideal S2x1024 .f32 := V m c main_v6
abbrev bufUp (c : Dev nD) : Vec Ideal S1024x4096 .bf16 := V m c main_v7
abbrev bufDown (c : Dev nD) : Vec Ideal S4096x1024 .bf16 := V m c main_v8
abbrev bufN₂ (c : Dev nD) : Vec Ideal S2x1024 .f32 := V m c main_v11

theorem bufX_apply (c : Dev nD) (R : Fin 16384) (l : Fin 1024) :
    bufX m c (ix2 R l) = argX m c (ix3 (batchOf R) (posOf R) l) := by
  unfold bufX V batchOf posOf
  after_reads_at

theorem bufIn_apply (c : Dev nD) (r : Fin 4872) (l : Fin 1024) : bufIn m c (ix2 r l) = argIn m c (ix2 l r) := by
  unfold bufIn V
  after_reads_at

theorem bufWa_apply (c : Dev nD) (r : Fin 512) (l : Fin 1024) : bufWa m c (ix2 r l) = argWa m c (ix2 r l) := by
  unfold bufWa V
  after_reads_at

theorem bufWb_apply (c : Dev nD) (r : Fin 512) (l : Fin 1024) : bufWb m c (ix2 r l) = argWb m c (ix2 r l) := by
  unfold bufWb V
  after_reads_at

theorem bufUp_apply (c : Dev nD) (r : Fin 1024) (l : Fin 4096) : bufUp m c (ix2 r l) = argUp m c (ix2 r l) := by
  unfold bufUp V
  after_reads_at

theorem bufDown_apply (c : Dev nD) (r : Fin 4096) (l : Fin 1024) : bufDown m c (ix2 r l) = argDown m c (ix2 r l) := by
  unfold bufDown V
  after_reads_at

theorem bufN₁_scale (c : Dev nD) (l : Fin 1024) : bufN₁ m c (ix2 0 l) = argG₁ m c (ix1 l) := by
  unfold bufN₁ V
  after_reads_at

theorem bufN₁_shift (c : Dev nD) (l : Fin 1024) : bufN₁ m c (ix2 1 l) = argB₁ m c (ix1 l) := by
  unfold bufN₁ V
  after_reads_at

theorem bufN₂_scale (c : Dev nD) (l : Fin 1024) : bufN₂ m c (ix2 0 l) = argG₂ m c (ix1 l) := by
  unfold bufN₂ V
  after_reads_at

theorem bufN₂_shift (c : Dev nD) (l : Fin 1024) : bufN₂ m c (ix2 1 l) = argB₂ m c (ix1 l) := by
  unfold bufN₂ V
  after_reads_at

/-! ## The blocks a point reads -/

theorem point_lt (t : Fin cfg0.N) : t.val < 32 := lt_of_lt_of_eq t.isLt N_0

theorem idx0 : ∀ t, win0_0.index t = ![t.val, 0] := by decide +kernel
theorem idx1 : ∀ t, win0_1.index t = ![t.val, 0] := by decide +kernel
theorem idx2 : ∀ t, win0_2.index t = ![t.val, 0] := by decide +kernel
theorem idx3 : ∀ t, win0_3.index t = ![2824, 0] := by decide +kernel
theorem idx4 : ∀ t, win0_4.index t = ![0, 0] := by decide +kernel
theorem idx5 : ∀ t, win0_5.index t = ![0, 0] := by decide +kernel
theorem idx6 : ∀ t, win0_6.index t = ![0, 0] := by decide +kernel
theorem idx7 : ∀ t, win0_7.index t = ![0, 0] := by decide +kernel
theorem idx8 : ∀ t, win0_8.index t = ![0, 0] := by decide +kernel
theorem idx9 : ∀ t, win0_9.index t = ![0, 0] := by decide +kernel
theorem idx10 : ∀ t, win0_10.index t = ![0, 0] := by decide +kernel
theorem idx11 : ∀ t, win0_11.index t = ![t.val, 0] := by decide +kernel

abbrev blk0 (c : Dev nD) (t : Fin cfg0.N) : Vec Ideal S512x1024 .f32 := iblk m c 0 t
abbrev blk1 (c : Dev nD) (t : Fin cfg0.N) : Vec Ideal S512x512 .bf16 := iblk m c 1 t
abbrev blk2 (c : Dev nD) (t : Fin cfg0.N) : Vec Ideal S512x512 .bf16 := iblk m c 2 t
abbrev blk3 (c : Dev nD) (t : Fin cfg0.N) : Vec Ideal S2048x1024 .f32 := iblk m c 3 t
abbrev blk4 (c : Dev nD) (t : Fin cfg0.N) : Vec Ideal S512x1024 .bf16 := iblk m c 4 t
abbrev blk5 (c : Dev nD) (t : Fin cfg0.N) : Vec Ideal S512x1024 .bf16 := iblk m c 5 t
abbrev blk6 (c : Dev nD) (t : Fin cfg0.N) : Vec Ideal S1024x1024 .f32 := iblk m c 6 t
abbrev blk7 (c : Dev nD) (t : Fin cfg0.N) : Vec Ideal S2x1024 .f32 := iblk m c 7 t
abbrev blk8 (c : Dev nD) (t : Fin cfg0.N) : Vec Ideal S1024x4096 .bf16 := iblk m c 8 t
abbrev blk9 (c : Dev nD) (t : Fin cfg0.N) : Vec Ideal S4096x1024 .bf16 := iblk m c 9 t
abbrev blk10 (c : Dev nD) (t : Fin cfg0.N) : Vec Ideal S2x1024 .f32 := iblk m c 10 t

theorem blk0_apply (c : Dev nD) (t : Fin cfg0.N) (r : Fin 512) (l : Fin 1024) :
    blk0 m c t (ix2 r l) = bufX m c (ix2 ⟨512 * t.val + r.val, by have := point_lt t; omega⟩ l) := by
  simp only [blk0]
  blk_simp [iblk]
  refine congrArg (bufX m c) (funext fun a => ?_)
  match a with
  | ⟨0, _⟩ => refine Fin.ext ?_; blk_simp [idx0]; exact congrArg (· + r.val) (Nat.mul_comm _ _)
  | ⟨1, _⟩ => refine Fin.ext ?_; blk_simp [idx0]

theorem blk1_apply (c : Dev nD) (t : Fin cfg0.N) (r : Fin 512) (l : Fin 512) :
    blk1 m c t (ix2 r l) = argA m c (ix2 ⟨512 * t.val + r.val, by have := point_lt t; omega⟩ l) := by
  simp only [blk1]
  blk_simp [iblk]
  refine (congrFun (show V m c main_arg1 = argA m c from by unfold V; after_reads_simp) _).trans (congrArg (argA m c) (funext fun a => ?_))
  match a with
  | ⟨0, _⟩ => refine Fin.ext ?_; blk_simp [idx1]; exact congrArg (· + r.val) (Nat.mul_comm _ _)
  | ⟨1, _⟩ => refine Fin.ext ?_; blk_simp [idx1]

theorem blk2_apply (c : Dev nD) (t : Fin cfg0.N) (r : Fin 512) (l : Fin 512) :
    blk2 m c t (ix2 r l) = argB m c (ix2 ⟨512 * t.val + r.val, by have := point_lt t; omega⟩ l) := by
  simp only [blk2]
  blk_simp [iblk]
  refine (congrFun (show V m c main_arg2 = argB m c from by unfold V; after_reads_simp) _).trans (congrArg (argB m c) (funext fun a => ?_))
  match a with
  | ⟨0, _⟩ => refine Fin.ext ?_; blk_simp [idx2]; exact congrArg (· + r.val) (Nat.mul_comm _ _)
  | ⟨1, _⟩ => refine Fin.ext ?_; blk_simp [idx2]

/-- The gates' block lies at the offsets its index map gives, in elements. -/
theorem elems_emb (t : Fin cfg0.N) (y : S2048x1024.Idx) (a : Fin 2) :
    (((win0_3.blk t).view.emb y) a : Nat) = win0_3.index t a + (y a).val :=
  ValueKit.rect_emb_unit_val (s := S4872x1024) (win0_3.index t) S2048x1024.size (hinbE0_3 (grid0.coords t)) y a

theorem blk3_apply (c : Dev nD) (t : Fin cfg0.N) (r : Fin 2048) (l : Fin 1024) :
    blk3 m c t (ix2 r l) = bufIn m c (ix2 ⟨2824 + r.val, by omega⟩ l) := by
  simp only [blk3]
  blk_simp [iblk]
  refine congrArg (bufIn m c) (funext fun a => ?_)
  match a with
  | ⟨0, _⟩ => exact Fin.ext ((elems_emb t (ix2 r l) 0).trans (congrArg (· + r.val) (congrFun (idx3 t) 0)))
  | ⟨1, _⟩ => exact Fin.ext ((elems_emb t (ix2 r l) 1).trans ((congrArg (· + l.val) (congrFun (idx3 t) 1)).trans (Nat.zero_add _)))

theorem blk4_apply (c : Dev nD) (t : Fin cfg0.N) (r : Fin 512) (l : Fin 1024) :
    blk4 m c t (ix2 r l) = bufWa m c (ix2 r l) := by
  simp only [blk4]
  blk_simp [iblk]
  refine congrArg (bufWa m c) (funext fun a => ?_)
  match a with
  | ⟨0, _⟩ => refine Fin.ext ?_; blk_simp [idx4]
  | ⟨1, _⟩ => refine Fin.ext ?_; blk_simp [idx4]

theorem blk5_apply (c : Dev nD) (t : Fin cfg0.N) (r : Fin 512) (l : Fin 1024) :
    blk5 m c t (ix2 r l) = bufWb m c (ix2 r l) := by
  simp only [blk5]
  blk_simp [iblk]
  refine congrArg (bufWb m c) (funext fun a => ?_)
  match a with
  | ⟨0, _⟩ => refine Fin.ext ?_; blk_simp [idx5]
  | ⟨1, _⟩ => refine Fin.ext ?_; blk_simp [idx5]

theorem blk6_apply (c : Dev nD) (t : Fin cfg0.N) (r : Fin 1024) (l : Fin 1024) :
    blk6 m c t (ix2 r l) = argWo m c (ix2 r l) := by
  simp only [blk6]
  blk_simp [iblk]
  refine (congrFun (show V m c main_arg6 = argWo m c from by unfold V; after_reads_simp) _).trans (congrArg (argWo m c) (funext fun a => ?_))
  match a with
  | ⟨0, _⟩ => refine Fin.ext ?_; blk_simp [idx6]
  | ⟨1, _⟩ => refine Fin.ext ?_; blk_simp [idx6]

theorem blk7_apply (c : Dev nD) (t : Fin cfg0.N) (r : Fin 2) (l : Fin 1024) :
    blk7 m c t (ix2 r l) = bufN₁ m c (ix2 r l) := by
  simp only [blk7]
  blk_simp [iblk]
  refine congrArg (bufN₁ m c) (funext fun a => ?_)
  match a with
  | ⟨0, _⟩ => refine Fin.ext ?_; blk_simp [idx7]
  | ⟨1, _⟩ => refine Fin.ext ?_; blk_simp [idx7]

theorem blk8_apply (c : Dev nD) (t : Fin cfg0.N) (r : Fin 1024) (l : Fin 4096) :
    blk8 m c t (ix2 r l) = bufUp m c (ix2 r l) := by
  simp only [blk8]
  blk_simp [iblk]
  refine congrArg (bufUp m c) (funext fun a => ?_)
  match a with
  | ⟨0, _⟩ => refine Fin.ext ?_; blk_simp [idx8]
  | ⟨1, _⟩ => refine Fin.ext ?_; blk_simp [idx8]

theorem blk9_apply (c : Dev nD) (t : Fin cfg0.N) (r : Fin 4096) (l : Fin 1024) :
    blk9 m c t (ix2 r l) = bufDown m c (ix2 r l) := by
  simp only [blk9]
  blk_simp [iblk]
  refine congrArg (bufDown m c) (funext fun a => ?_)
  match a with
  | ⟨0, _⟩ => refine Fin.ext ?_; blk_simp [idx9]
  | ⟨1, _⟩ => refine Fin.ext ?_; blk_simp [idx9]

theorem blk10_apply (c : Dev nD) (t : Fin cfg0.N) (r : Fin 2) (l : Fin 1024) :
    blk10 m c t (ix2 r l) = bufN₂ m c (ix2 r l) := by
  simp only [blk10]
  blk_simp [iblk]
  refine congrArg (bufN₂ m c) (funext fun a => ?_)
  match a with
  | ⟨0, _⟩ => refine Fin.ext ?_; blk_simp [idx10]
  | ⟨1, _⟩ => refine Fin.ext ?_; blk_simp [idx10]

/-! ## The buffers the first point fills -/

/-- A block of weights is the same at every point. -/
theorem blk3_const (c : Dev nD) (t t' : Fin cfg0.N) : blk3 m c t = blk3 m c t' := by
  funext i
  obtain ⟨a, b, rfl⟩ : ∃ a b, i = ix2 a b := ⟨_, _, ValueIdx.eq_ix2 i⟩
  rw [blk3_apply, blk3_apply]

theorem blk6_const (c : Dev nD) (t t' : Fin cfg0.N) : blk6 m c t = blk6 m c t' := by
  funext i
  obtain ⟨a, b, rfl⟩ : ∃ a b, i = ix2 a b := ⟨_, _, ValueIdx.eq_ix2 i⟩
  rw [blk6_apply, blk6_apply]

theorem first_gates (c : Dev nD) (t : Fin cfg0.N) (h0 : t.val % 32 = 0) :
    (outsAt0 m c t.val t.isLt).2.1 = gates (blk3 m c t) := by
  rw [outsAt0_A m c t h0]
  dsimp only
  rw [gates_first]

theorem first_weights (c : Dev nD) (t : Fin cfg0.N) (h0 : t.val % 32 = 0) :
    (outsAt0 m c t.val t.isLt).2.2 = k0_pay18 (blk6 m c t) := by
  rw [outsAt0_A m c t h0]
  dsimp only
  rw [weights_first]

theorem later_gates (c : Dev nD) (t : Fin cfg0.N) (h0 : ¬ t.val % 32 = 0) : (outsAt0 m c t.val t.isLt).2.1
    = (outsAt0 m c (t.val - 1) (Nat.lt_of_le_of_lt (Nat.sub_le _ _) t.isLt)).2.1 := by
  rw [outsAt0_B m c t h0]
  dsimp only [sout0_B_0]

theorem later_weights (c : Dev nD) (t : Fin cfg0.N) (h0 : ¬ t.val % 32 = 0) : (outsAt0 m c t.val t.isLt).2.2
    = (outsAt0 m c (t.val - 1) (Nat.lt_of_le_of_lt (Nat.sub_le _ _) t.isLt)).2.2 := by
  rw [outsAt0_B m c t h0]
  dsimp only [sout0_B_1]

/-- After every point the two buffers hold the gates' and the output projection's weights. -/
theorem buffers (c : Dev nD) : ∀ (n : ℕ) (hn : n < cfg0.N),
    (outsAt0 m c n hn).2.1 = gates (blk3 m c ⟨n, hn⟩) ∧ (outsAt0 m c n hn).2.2 = k0_pay18 (blk6 m c ⟨n, hn⟩)
  | 0, hn => ⟨first_gates m c ⟨0, hn⟩ rfl, first_weights m c ⟨0, hn⟩ rfl⟩
  | n + 1, hn => by
    have hlt : n + 1 < 32 := point_lt ⟨n + 1, hn⟩
    have hB : ¬ (n + 1) % 32 = 0 := by omega
    obtain ⟨h1, h2⟩ := buffers c n (Nat.lt_of_succ_lt hn)
    exact ⟨(later_gates m c ⟨n + 1, hn⟩ hB).trans (h1.trans (congrArg gates (blk3_const m c _ _))),
      (later_weights m c ⟨n + 1, hn⟩ hB).trans (h2.trans (congrArg k0_pay18 (blk6_const m c _ _)))⟩

/-- Every point leaves the block of its rows. -/
theorem out_eq (c : Dev nD) (t : Fin cfg0.N) : (outsAt0 m c t.val t.isLt).1
    = body (blk0 m c t) (blk1 m c t) (blk2 m c t) (blk4 m c t) (blk5 m c t) (blk7 m c t) (blk8 m c t) (blk9 m c t)
        (blk10 m c t) (gates (blk3 m c t)) (k0_pay18 (blk6 m c t)) := by
  by_cases h0 : t.val % 32 = 0
  · rw [outsAt0_A m c t h0]
    dsimp only
    rw [out_first]
  · obtain ⟨h1, h2⟩ := buffers m c (t.val - 1) (Nat.lt_of_le_of_lt (Nat.sub_le _ _) t.isLt)
    rw [outsAt0_B m c t h0]
    dsimp only
    rw [out_later, h1, h2, blk3_const m c _ t, blk6_const m c _ t]

theorem weights_apply (x : Vec Ideal S1024x1024 .f32) (j l : Fin 1024) : k0_pay18 x (ix2 j l) = x (ix2 j l) := by
  unfold k0_pay18
  pointwise

theorem blk0_arg (c : Dev nD) (t : Fin cfg0.N) (r : Fin 512) (l : Fin 1024) :
    blk0 m c t (ix2 r l) = argX m c (ix3 (batchOf ⟨512 * t.val + r.val, by have := point_lt t; omega⟩) (posOf ⟨512 * t.val + r.val, by have := point_lt t; omega⟩) l) :=
  (blk0_apply m c t r l).trans (bufX_apply m c _ l)

theorem blk4_arg (c : Dev nD) (t : Fin cfg0.N) (r : Fin 512) (l : Fin 1024) :
    blk4 m c t (ix2 r l) = argWa m c (ix2 r l) :=
  (blk4_apply m c t r l).trans (bufWa_apply m c _ l)

theorem blk5_arg (c : Dev nD) (t : Fin cfg0.N) (r : Fin 512) (l : Fin 1024) :
    blk5 m c t (ix2 r l) = argWb m c (ix2 r l) :=
  (blk5_apply m c t r l).trans (bufWb_apply m c _ l)

theorem blk8_arg (c : Dev nD) (t : Fin cfg0.N) (r : Fin 1024) (l : Fin 4096) :
    blk8 m c t (ix2 r l) = argUp m c (ix2 r l) :=
  (blk8_apply m c t r l).trans (bufUp_apply m c _ l)

theorem blk9_arg (c : Dev nD) (t : Fin cfg0.N) (r : Fin 4096) (l : Fin 1024) :
    blk9 m c t (ix2 r l) = argDown m c (ix2 r l) :=
  (blk9_apply m c t r l).trans (bufDown_apply m c _ l)

theorem blk7_arg0 (c : Dev nD) (t : Fin cfg0.N) (l : Fin 1024) : blk7 m c t (ix2 0 l) = argG₁ m c (ix1 l) :=
  (blk7_apply m c t 0 l).trans (bufN₁_scale m c l)

theorem blk7_arg1 (c : Dev nD) (t : Fin cfg0.N) (l : Fin 1024) : blk7 m c t (ix2 1 l) = argB₁ m c (ix1 l) :=
  (blk7_apply m c t 1 l).trans (bufN₁_shift m c l)

theorem blk10_arg0 (c : Dev nD) (t : Fin cfg0.N) (l : Fin 1024) : blk10 m c t (ix2 0 l) = argG₂ m c (ix1 l) :=
  (blk10_apply m c t 0 l).trans (bufN₂_scale m c l)

theorem blk10_arg1 (c : Dev nD) (t : Fin cfg0.N) (l : Fin 1024) : blk10 m c t (ix2 1 l) = argB₂ m c (ix1 l) :=
  (blk10_apply m c t 1 l).trans (bufN₂_shift m c l)

/-- The block of point `t` is `row` of the arguments. -/
theorem body_blocks (c : Dev nD) (t : Fin cfg0.N) (r : Fin 512) (l : Fin 1024) :
    body (blk0 m c t) (blk1 m c t) (blk2 m c t) (blk4 m c t) (blk5 m c t) (blk7 m c t) (blk8 m c t) (blk9 m c t)
        (blk10 m c t) (gates (blk3 m c t)) (k0_pay18 (blk6 m c t)) (ix2 r l)
      = resultAt (argX m c) (argA m c) (argB m c) (argIn m c) (argWa m c) (argWb m c) (argWo m c) (argG₁ m c)
          (argB₁ m c) (argUp m c) (argDown m c) (argG₂ m c) (argB₂ m c)
          ⟨512 * t.val + r.val, by have := point_lt t; omega⟩ l := by
  unfold body
  rw [bodyOf_apply]
  unfold resultAt
  have hg : ∀ (n : Fin 2) (k j : Fin 1024), gateAt (gates (blk3 m c t)) n (ix2 k j) = argIn m c (ix2 k (gateCol n j)) := by
    intro n k j
    rw [gateAt_apply, gates_apply, blk3_apply, bufIn_apply]
    rfl
  simp only [hg, weights_apply, blk0_arg, blk1_apply, blk2_apply, blk4_arg, blk5_arg, blk6_apply, blk7_arg0, blk7_arg1,
    blk8_arg, blk9_arg, blk10_arg0, blk10_arg1]

/-- The result array. -/
theorem array_eq (c : Dev nD) : (dats m 0 c).arrAt 11 cfg0.N
    = result (argX m c) (argA m c) (argB m c) (argIn m c) (argWa m c) (argWb m c) (argWo m c) (argG₁ m c)
        (argB₁ m c) (argUp m c) (argDown m c) (argG₂ m c) (argB₂ m c) := by
  refine (dats m 0 c).arrAt_eq_of_covers 11 _ (by decide +kernel) fun t hf y => ?_
  blk_simp
  rw [after0_11, out_eq]
  have h0 : (y 0).val < 512 := (y 0).isLt
  have h1 : (y 1).val < 1024 := (y 1).isLt
  have ht := point_lt t
  have e0 : (((win0_11.blk t).view.emb y) 0 : Nat) = 512 * t.val + (y 0).val := by
    blk_simp [idx11]; exact congrArg (· + (y 0).val) (Nat.mul_comm _ _)
  have e1 : (((win0_11.blk t).view.emb y) 1 : Nat) = (y 1).val := by
    blk_simp [idx11]
  suffices H : ∀ i : S16384x1024.Idx, (i 0).val = 512 * t.val + (y 0).val → (i 1).val = (y 1).val →
      body (blk0 m c t) (blk1 m c t) (blk2 m c t) (blk4 m c t) (blk5 m c t) (blk7 m c t) (blk8 m c t) (blk9 m c t)
        (blk10 m c t) (gates (blk3 m c t)) (k0_pay18 (blk6 m c t)) (y : S512x1024.Idx)
        = result (argX m c) (argA m c) (argB m c) (argIn m c) (argWa m c) (argWb m c) (argWo m c) (argG₁ m c)
            (argB₁ m c) (argUp m c) (argDown m c) (argG₂ m c) (argB₂ m c) i from H _ e0 e1
  intro i hi0 hi1
  unfold result
  have hy : (y : S512x1024.Idx) = ix2 ⟨(y 0).val, h0⟩ ⟨(y 1).val, h1⟩ := by
    funext a
    match a with
    | ⟨0, _⟩ => rfl
    | ⟨1, _⟩ => rfl
  rw [hy]
  refine (body_blocks m c t _ _).trans ?_
  congr 1
  · exact Fin.ext hi0.symm
  · exact Fin.ext hi1.symm

end Cert.Merge

end
-- ==== Proof.Merge.Reference.lean ====
/- The reference's result read at an index: `row` of the arguments at that row. -/
module

public import proofs.«01_k».proof.Proof.Merge.Array
public import proofs.«01_k».proof.Proof.Gen.Reference2Ideal.Run
public import Idealize.ShloMosaic.Lib.Pointwise

@[expose] public section

set_option maxRecDepth 16384

noncomputable section

namespace Cert.Merge.Ref

open Cert.Reference2Ideal Cert.Reference2Ideal.Gen Idealize.ShloMosaic Idealize.ShloMosaic.TcCoe Idealize.SL.Sem

/-! ## The reference, stage by stage -/

/-- Activations, and a lane's weights. -/
abbrev Acts := FVec Ideal S4x4096x1024 .f32
abbrev Lanes := FVec Ideal S1024 .f32

/-- The rows' means. -/
def means (v : Acts) : FVec Ideal S4x4096x1 .f32 :=
  Host.divf (broadcastInDim S4x4096x1 ![0, 1] bcast_S4x4096_S4x4096x1_0_1
      (Host.reduceAdd v (constant S_ .f32 0x00000000#32) reducesTo_S4x4096x1024_S4x4096_d2 h_S_))
    (broadcastInDim S4x4096x1 ![] bcast_S_S4x4096x1 (constant S_ .f32 0x44800000#32))

/-- The rows without their means. -/
def centred (v : Acts) : Acts :=
  subf v (broadcastInDim S4x4096x1024 ![0, 1, 2] bcast_S4x4096x1_S4x4096x1024_0_1_2 (means v))

/-- The reciprocal square roots of the variances. -/
def scales (v : Acts) : FVec Ideal S4x4096x1 .f32 :=
  Host.rsqrt (addf (means (mulf (centred v) (centred v)))
    (broadcastInDim S4x4096x1 ![] bcast_S_S4x4096x1 (constant S_ .f32 0x3727C5AC#32)))

/-- A lane's weights for every row. -/
def spread (g : Lanes) : Acts :=
  broadcastInDim S4x4096x1024 ![0, 1, 2] bcast_S1x1x1024_S4x4096x1024_0_1_2
    (broadcastInDim S1x1x1024 ![2] bcast_S1024_S1x1x1024_2 g)

/-- Layer normalisation. -/
def layerNorm (v : Acts) (g b : Lanes) : Acts :=
  addf (mulf (mulf (centred v) (broadcastInDim S4x4096x1024 ![0, 1, 2] bcast_S4x4096x1_S4x4096x1024_0_1_2 (scales v)))
    (spread g)) (spread b)

/-- The gates before the logistic function. -/
def gateSums (x : Acts) (win : FVec Ideal S1024x4872 .f32) : FVec Ideal S4x4096x2048 .f32 :=
  Host.dotGeneral dot_S4x4096x1024_S1024x2048_S4x4096x2048_2_0_01_1_n_n none x
    (extractStridedSlice S1024x2048 ![0, 2824] win slices_S1024x4872_S1024x2048_0_2824)

/-- The logistic function. -/
def logistic (t : Acts) : Acts :=
  Host.divf (broadcastInDim S4x4096x1024 ![] bcast_S_S4x4096x1024 (constant S_ .f32 0x3F800000#32))
    (addf (broadcastInDim S4x4096x1024 ![] bcast_S_S4x4096x1024 (constant S_ .f32 0x3F800000#32))
      (Host.exp (Host.negf t)))

/-- A mixer's output through its projection. -/
def mixer (o : FVec Ideal S16384x512 .bf16) (w : FVec Ideal S512x1024 .f32) : Acts :=
  Host.dotGeneral dot_S4x4096x512_S512x1024_S4x4096x1024_2_0_01_1_n_n none
    (shapeCast _ (extf .f32 o bitsLt_bf16_f32) shapeCasts_S16384x512_S4x4096x512) w

/-- The gated mixers. -/
def gated (x : Acts) (oa ob : FVec Ideal S16384x512 .bf16) (win : FVec Ideal S1024x4872 .f32)
    (wa wb : FVec Ideal S512x1024 .f32) : Acts :=
  addf (mulf (logistic (extractStridedSlice S4x4096x1024 ![0, 0, 0] (gateSums x win)
      slices_S4x4096x2048_S4x4096x1024_0_0_0)) (mixer oa wa))
    (mulf (logistic (extractStridedSlice S4x4096x1024 ![0, 0, 1024] (gateSums x win)
      slices_S4x4096x2048_S4x4096x1024_0_0_1024)) (mixer ob wb))

/-- The weighted activations. -/
def scaled (x : Acts) : Acts :=
  mulf (broadcastInDim S4x4096x1024 ![] bcast_S_S4x4096x1024 (constant S_ .f32 0x3F9837F0#32)) x

/-- The activations with the merged mixers' projection. -/
def afterMixers (x : Acts) (oa ob : FVec Ideal S16384x512 .bf16) (win : FVec Ideal S1024x4872 .f32)
    (wa wb : FVec Ideal S512x1024 .f32) (wo : FVec Ideal S1024x1024 .f32) : Acts :=
  addf (scaled x) (Host.dotGeneral dot_S4x4096x1024_S1024x1024_S4x4096x1024_2_0_01_1_n_n none (gated x oa ob win wa wb) wo)

/-- The hidden layer's positive parts. -/
def positive (x : Acts) (up : FVec Ideal S1024x4096 .f32) : FVec Ideal S4x4096x4096 .f32 :=
  maximumf (Host.dotGeneral dot_S4x4096x1024_S1024x4096_S4x4096x4096_2_0_01_1_n_n none x up)
    (broadcastInDim S4x4096x4096 ![] bcast_S_S4x4096x4096 (constant S_ .f32 0x00000000#32))

/-- The activations with the feed-forward part. -/
def afterForward (x : Acts) (up : FVec Ideal S1024x4096 .f32) (down : FVec Ideal S4096x1024 .f32) : Acts :=
  addf (scaled x) (Host.dotGeneral dot_S4x4096x4096_S4096x1024_S4x4096x1024_2_0_01_1_n_n none
    (mulf (positive x up) (positive x up)) down)

/-- The whole reference. -/
def layer (x : Acts) (oa ob : FVec Ideal S16384x512 .bf16) (win : FVec Ideal S1024x4872 .f32)
    (wa wb : FVec Ideal S512x1024 .f32) (wo : FVec Ideal S1024x1024 .f32) (g₁ b₁ : Lanes)
    (up : FVec Ideal S1024x4096 .f32) (down : FVec Ideal S4096x1024 .f32) (g₂ b₂ : Lanes) :
    FVec Ideal S16384x1024 .f32 :=
  shapeCast _ (layerNorm (afterForward (layerNorm (afterMixers x oa ob win wa wb wo) g₁ b₁) up down) g₂ b₂)
    shapeCasts_S4x4096x1024_S16384x1024

/-! ## The stages at an index -/

theorem one_eq : Ideal.ofBits .f32 0x3F800000#32 = (1 : EReal) := by
  simp [Ideal.ofBits, Ideal.ieee, -EReal.coe_mul]
  norm_num

theorem zero_eq : Ideal.ofBits .f32 0x00000000#32 = (0 : EReal) := by
  simp [Ideal.ofBits, Ideal.ieee]

theorem reduces_last : Shape.Reduces S4x4096x1024 [2] S4x4096 := by decide

theorem lift_last (a : Fin 4) (p : Fin 4096) (i : Fin 1024) : reduces_last.lift (ix2 a p) i = ix3 a p i := by
  funext k
  fin_cases k <;> rfl

theorem rowSum (v : Acts) (a : Fin 4) (p : Fin 4096) :
    Host.reduceAdd v (constant S_ .f32 0x00000000#32) reducesTo_S4x4096x1024_S4x4096_d2 h_S_ (ix2 a p)
      = ∑ k : Fin 1024, v (ix3 a p k) := by
  refine (Ideal.hostReduceAdd_single _ reduces_last v _ _).trans ?_
  refine (congrArg₂ (· + ·) (show _ = (0 : EReal) from ?_) (Finset.sum_congr rfl fun i _ =>
    congrArg v (lift_last a p i))).trans (zero_add _)
  simp [Ideal.ofBits, Ideal.ieee, constant]

theorem means_apply (v : Acts) (a : Fin 4) (p : Fin 4096) :
    means v (ix3 a p 0) = mean fun k => v (ix3 a p k) := by
  unfold mean
  rw [← rowSum]
  unfold means lanes
  generalize Host.reduceAdd v (constant S_ .f32 0x00000000#32) reducesTo_S4x4096x1024_S4x4096_d2 h_S_ = y
  pointwise

theorem centred_apply (v : Acts) (a : Fin 4) (p : Fin 4096) (l : Fin 1024) :
    centred v (ix3 a p l) = v (ix3 a p l) - mean fun k => v (ix3 a p k) := by
  rw [← means_apply]
  unfold centred
  generalize means v = y
  pointwise

theorem scales_apply (v : Acts) (a : Fin 4) (p : Fin 4096) : scales v (ix3 a p 0)
    = Ideal.rsqrt (Ideal.div (∑ k, (v (ix3 a p k) - mean fun k => v (ix3 a p k)) * (v (ix3 a p k) - mean fun k => v (ix3 a p k)))
        lanes + small) := by
  have h : means (mulf (centred v) (centred v)) (ix3 a p 0)
      = Ideal.div (∑ k, (v (ix3 a p k) - mean fun k => v (ix3 a p k)) * (v (ix3 a p k) - mean fun k => v (ix3 a p k))) lanes := by
    rw [means_apply]
    unfold mean
    refine congrArg (Ideal.div · lanes) (Finset.sum_congr rfl fun k _ => ?_)
    exact congrArg₂ (· * ·) (centred_apply v a p k) (centred_apply v a p k)
  rw [← h]
  unfold scales small
  generalize means (mulf (centred v) (centred v)) = y
  pointwise

theorem spread_apply (g : Lanes) (a : Fin 4) (p : Fin 4096) (l : Fin 1024) : spread g (ix3 a p l) = g (ix1 l) := by
  unfold spread
  pointwise

theorem layerNorm_apply (v : Acts) (g b : Lanes) (a : Fin 4) (p : Fin 4096) (l : Fin 1024) :
    layerNorm v g b (ix3 a p l)
      = normed (fun k => v (ix3 a p k)) (fun k => g (ix1 k)) (fun k => b (ix1 k)) l := by
  unfold normed
  rw [← scales_apply, ← centred_apply]
  dsimp only
  unfold layerNorm
  rw [← spread_apply g a p l, ← spread_apply b a p l]
  generalize centred v = c
  generalize scales v = s
  generalize spread g = g'
  generalize spread b = b'
  pointwise

theorem gateSums_apply (x : Acts) (win : FVec Ideal S1024x4872 .f32) (a : Fin 4) (p : Fin 4096) (n : Fin 2)
    (j : Fin 1024) : gateSums x win (ix3 a p ⟨1024 * n.val + j.val, by omega⟩)
      = ∑ k, x (ix3 a p k) * win (ix2 k (gateCol n j)) := by
  unfold gateSums gateCol
  pointwise

theorem logistic_apply (t : Acts) (a : Fin 4) (p : Fin 4096) (l : Fin 1024) :
    logistic t (ix3 a p l) = gate (t (ix3 a p l)) := by
  unfold logistic gate
  rw [← one_eq]
  pointwise

theorem mixer_apply (o : FVec Ideal S16384x512 .bf16) (w : FVec Ideal S512x1024 .f32) (R : Fin 16384) (l : Fin 1024) :
    mixer o w (ix3 (batchOf R) (posOf R) l) = ∑ k, o (ix2 R k) * w (ix2 k l) := by
  unfold mixer
  pointwise
  refine Finset.sum_congr rfl fun k _ => congrArg (· * _) (congrArg o (congrArg (ix2 · k) (Fin.ext ?_)))
  simp only [batchOf, posOf]
  omega

theorem gated_apply (x : Acts) (oa ob : FVec Ideal S16384x512 .bf16) (win : FVec Ideal S1024x4872 .f32)
    (wa wb : FVec Ideal S512x1024 .f32) (R : Fin 16384) (l : Fin 1024) :
    gated x oa ob win wa wb (ix3 (batchOf R) (posOf R) l)
      = merged (fun k => x (ix3 (batchOf R) (posOf R) k)) (fun k => oa (ix2 R k)) (fun k => ob (ix2 R k))
          (fun k j => win (ix2 k (gateCol 0 j))) (fun k j => win (ix2 k (gateCol 1 j))) (fun k j => wa (ix2 k j))
          (fun k j => wb (ix2 k j)) l := by
  unfold merged
  rw [← mixer_apply, ← mixer_apply, ← gateSums_apply, ← gateSums_apply]
  unfold gated
  generalize gateSums x win = s
  generalize mixer oa wa = ma
  generalize mixer ob wb = mb
  have h0 := logistic_apply (extractStridedSlice S4x4096x1024 ![0, 0, 0] s slices_S4x4096x2048_S4x4096x1024_0_0_0)
    (batchOf R) (posOf R) l
  have h1 := logistic_apply (extractStridedSlice S4x4096x1024 ![0, 0, 1024] s slices_S4x4096x2048_S4x4096x1024_0_0_1024)
    (batchOf R) (posOf R) l
  have e0 : extractStridedSlice S4x4096x1024 ![0, 0, 0] s slices_S4x4096x2048_S4x4096x1024_0_0_0
      (ix3 (batchOf R) (posOf R) l) = s (ix3 (batchOf R) (posOf R) ⟨1024 * (0 : Fin 2).val + l.val, by omega⟩) := by
    generalize batchOf R = a
    generalize posOf R = p
    pointwise
  have e1 : extractStridedSlice S4x4096x1024 ![0, 0, 1024] s slices_S4x4096x2048_S4x4096x1024_0_0_1024
      (ix3 (batchOf R) (posOf R) l) = s (ix3 (batchOf R) (posOf R) ⟨1024 * (1 : Fin 2).val + l.val, by omega⟩) := by
    generalize batchOf R = a
    generalize posOf R = p
    pointwise
  rw [e0] at h0
  rw [e1] at h1
  rw [← h0, ← h1]
  rfl

theorem scaled_apply (x : Acts) (a : Fin 4) (p : Fin 4096) (l : Fin 1024) :
    scaled x (ix3 a p l) = alpha * x (ix3 a p l) := by
  unfold scaled alpha
  pointwise

theorem afterMixers_apply (x : Acts) (oa ob : FVec Ideal S16384x512 .bf16) (win : FVec Ideal S1024x4872 .f32)
    (wa wb : FVec Ideal S512x1024 .f32) (wo : FVec Ideal S1024x1024 .f32) (R : Fin 16384) (l : Fin 1024) :
    afterMixers x oa ob win wa wb wo (ix3 (batchOf R) (posOf R) l)
      = residual (fun k => x (ix3 (batchOf R) (posOf R) k)) (fun k => oa (ix2 R k)) (fun k => ob (ix2 R k))
          (fun k j => win (ix2 k (gateCol 0 j))) (fun k j => win (ix2 k (gateCol 1 j))) (fun k j => wa (ix2 k j))
          (fun k j => wb (ix2 k j)) (fun k j => wo (ix2 k j)) l := by
  unfold residual
  rw [← scaled_apply]
  simp only [← gated_apply]
  unfold afterMixers
  generalize gated x oa ob win wa wb = y
  generalize scaled x = s
  generalize batchOf R = a
  generalize posOf R = p
  pointwise

theorem positive_apply (x : Acts) (up : FVec Ideal S1024x4096 .f32) (a : Fin 4) (p : Fin 4096) (i : Fin 4096) :
    positive x up (ix3 a p i) = max (∑ k, x (ix3 a p k) * up (ix2 k i)) 0 := by
  rw [← zero_eq]
  unfold positive
  pointwise

theorem afterForward_apply (x : Acts) (up : FVec Ideal S1024x4096 .f32) (down : FVec Ideal S4096x1024 .f32) (a : Fin 4)
    (p : Fin 4096) (l : Fin 1024) : afterForward x up down (ix3 a p l)
      = forwarded (fun k => x (ix3 a p k)) (fun k i => up (ix2 k i)) (fun i k => down (ix2 i k)) l := by
  unfold forwarded hidden
  simp only [← positive_apply]
  rw [← scaled_apply]
  unfold afterForward
  generalize positive x up = y
  generalize scaled x = s
  pointwise

/-- The reference's rows. -/
theorem layer_apply (x : Acts) (oa ob : FVec Ideal S16384x512 .bf16) (win : FVec Ideal S1024x4872 .f32)
    (wa wb : FVec Ideal S512x1024 .f32) (wo : FVec Ideal S1024x1024 .f32) (g₁ b₁ : Lanes)
    (up : FVec Ideal S1024x4096 .f32) (down : FVec Ideal S4096x1024 .f32) (g₂ b₂ : Lanes) (R : Fin 16384) (l : Fin 1024) :
    layer x oa ob win wa wb wo g₁ b₁ up down g₂ b₂ (ix2 R l)
      = resultAt x oa ob win wa wb wo g₁ b₁ up down g₂ b₂ R l := by
  have h : layer x oa ob win wa wb wo g₁ b₁ up down g₂ b₂ (ix2 R l)
      = layerNorm (afterForward (layerNorm (afterMixers x oa ob win wa wb wo) g₁ b₁) up down) g₂ b₂
          (ix3 (batchOf R) (posOf R) l) := by
    unfold layer batchOf posOf
    generalize layerNorm (afterForward (layerNorm (afterMixers x oa ob win wa wb wo) g₁ b₁) up down) g₂ b₂ = y
    pointwise
  rw [h, layerNorm_apply]
  simp only [afterForward_apply, layerNorm_apply, afterMixers_apply]
  rfl

/-- The reference computes `result`. -/
theorem layer_eq (x : Acts) (oa ob : FVec Ideal S16384x512 .bf16) (win : FVec Ideal S1024x4872 .f32)
    (wa wb : FVec Ideal S512x1024 .f32) (wo : FVec Ideal S1024x1024 .f32) (g₁ b₁ : Lanes)
    (up : FVec Ideal S1024x4096 .f32) (down : FVec Ideal S4096x1024 .f32) (g₂ b₂ : Lanes) :
    layer x oa ob win wa wb wo g₁ b₁ up down g₂ b₂ = result x oa ob win wa wb wo g₁ b₁ up down g₂ b₂ := by
  funext i
  refine (congrArg _ (ValueIdx.eq_ix2 i)).trans ?_
  exact layer_apply x oa ob win wa wb wo g₁ b₁ up down g₂ b₂ _ _

set_option maxHeartbeats 4000000 in
/-- Every run of the reference ends with `layer` of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v85) = layer
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun _ h c => ⟨(h c).1.trans ?_, (h c).2⟩) (Value.run (F := Ideal) m ρ)
  unfold Value.res_main_v66 Value.res_main_v64 Value.res_main_v60 Value.res_main_v55 Value.res_main_v52 Value.res_main_v34
    Value.res_main_v32 Value.res_main_v28 Value.res_main_v1
  rfl

end Cert.Merge.Ref

end
-- ==== Proof.Merge.Claims.lean ====
/- The claims of the merge and feed-forward call: the frames of the two kernels and of the reference, and that kernel and
   reference compute one function of the arguments. -/
module

public import proofs.«01_k».proof.Defs
public import proofs.«01_k».proof.Proof.Gen.Kernel2
public import proofs.«01_k».proof.Proof.Merge.Array
public import proofs.«01_k».proof.Proof.Merge.Reference

@[expose] public section

set_option maxRecDepth 16384

noncomputable section

namespace Cert.Merge

open Idealize.ShloMosaic Idealize.SL.Sem

/-- The two kernels have the same text, so one run is the other's. -/
theorem bodies_eq : Cert.Kernel2.defs₀ (F := Bits) = Cert.Kernel2Ideal.defs₀ (F := Bits) := by
  unfold Cert.Kernel2.defs₀ Cert.Kernel2Ideal.defs₀
  refine congrArg Defs.onTc (funext fun l => ?_)
  funext x
  match l, x with
  | 0, (t, s) => rfl

theorem defs_eq : Cert.Kernel2.defs (F := Bits) = Cert.Kernel2Ideal.defs (F := Bits) :=
  congrArg (Pipeline.defs (Cert.Kernel2.pcfgs (F := Bits))) bodies_eq

theorem frame_p : Cert.quiescent_Kernel2 := by
  intro m ρ _
  rw [defs_eq]
  exact Cert.Kernel2Ideal.Gen.frame (F := Bits) m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference end with one result. -/
theorem algebraic : Cert.algebraic_Kernel2Ideal_Reference2Ideal := by
  intro m ρ m' ρ' _ hagree
  refine ⟨fun c => result (argX m c) (argA m c) (argB m c) (argIn m c) (argWa m c) (argWb m c) (argWo m c) (argG₁ m c)
      (argB₁ m c) (argUp m c) (argDown m c) (argG₂ m c) (argB₂ m c),
    (θ_run Cert.Kernel2Ideal.defs _ _).mono (fun _ h c => ⟨(h c).1.trans (array_eq m c), (h c).2⟩)
      (Cert.Kernel2Ideal.Value.run_blocks (F := Ideal) m ρ),
    (θ_run Cert.Reference2Ideal.defs _ _).mono (fun _ h c => ⟨(h c).1.trans ?_, (h c).2⟩) (Ref.run m' ρ')⟩
  obtain ⟨h0, h1, h2, h3, h4, h5, h6, h7, h8, h9, h10, h11, h12⟩ := hagree c
  rw [h0, h1, h2, h3, h4, h5, h6, h7, h8, h9, h10, h11, h12]
  exact Ref.layer_eq _ _ _ _ _ _ _ _ _ _ _ _ _

end Cert.Merge

end
-- ==== Proof.Project.Body.lean ====
/- What one grid point of the projections' kernel stores, as lists of pieces over its blocks and its scratch buffers, over
   any float values: the products with the four groups of weights, the short convolution with its activation, the rows of
   unit length and the gates. Each list is in the order of the stores, the last first. -/
module

public import proofs.«01_k».proof.Proof.Gen.Kernel3Ideal.Value
public import Idealize.ShloMosaic.Lib.Tactic
public import Idealize.ShloMosaic.Lib.Pipeline.ValueKit.Basic
public import Idealize.ShloMosaic.Lib.Pointwise

@[expose] public section

set_option maxRecDepth 16384

noncomputable section

namespace Cert.Project

open Cert.Kernel3Ideal Cert.Kernel3Ideal.Gen Idealize.ShloMosaic Idealize.ShloMosaic.TcCoe Idealize.SL.Sem

variable {F : FTy → Type} [FloatOps F]

/-- Every piece of a list holds the array `G` over its rectangle. -/
def Agree {S : Shape} {e : EltTy} (L : List (View.Piece (Elt F) S e)) (G : Vec F S e) : Prop :=
  ∀ pc ∈ L, ∀ x, pc.2 x = G (pc.1.emb x)

/-- Pieces that hold `G` and cover an index leave `G` there, whatever was stored before them. -/
theorem canon_agree {S : Shape} {e : EltTy} (G : Vec F S e) : ∀ (L L' : List (View.Piece (Elt F) S e)) (y : S.Idx),
    Agree L G → (∃ p ∈ L, y ∈ p.1.set) → View.canon (L ++ L') y = G y
  | [], _, _, _, hc => by obtain ⟨p, hp, _⟩ := hc; exact absurd hp List.not_mem_nil
  | p :: L, L', y, h, hc => by
    by_cases hm : y ∈ p.1.set
    · obtain ⟨x, rfl⟩ := p.1.exists_idx_of_mem hm
      rw [show p.1.idx x = p.1.emb x from rfl]
      exact (View.canon_cons_emb p.1 p.2 (L ++ L') x).trans (h p (List.mem_cons_self ..) x)
    · refine (View.canon_cons_of_not_mem p (L ++ L') hm).trans (canon_agree G L L' y (fun pc hpc => h pc (List.mem_cons_of_mem _ hpc)) ?_)
      obtain ⟨q, hq, hy⟩ := hc
      rcases List.mem_cons.1 hq with rfl | hq
      · exact absurd hy hm
      · exact ⟨q, hq, hy⟩

theorem zeros (a : Fin 2) : (![0, 0] : Fin 2 → Nat) a = 0 := by fin_cases a <;> rfl
theorem zeros3 (a : Fin 3) : (![0, 0, 0] : Fin 3 → Nat) a = 0 := by fin_cases a <;> rfl

/-! ## The weights' buffers -/

theorem inb_rows (n : Fin 38) : ∀ a, (![128 * n.val, 0] : Fin 2 → Nat) a + S128x1024.size a ≤ S4872x1024.size a := by
  revert n; decide

theorem inb_lanes8 (j : Fin 8) : ∀ a, (![0, 128 * j.val] : Fin 2 → Nat) a + S1024x128.size a ≤ S1024x1024.size a := by
  revert j; decide

theorem inb_lanes12 (j : Fin 12) : ∀ a, (![0, 128 * j.val] : Fin 2 → Nat) a + S1024x128.size a ≤ S1024x1536.size a := by
  revert j; decide

theorem inb_lanes4 (j : Fin 4) : ∀ a, (![0, 128 * j.val] : Fin 2 → Nat) a + S1024x128.size a ≤ S1024x512.size a := by
  revert j; decide

/-- Rows `128 n …` of the weights, transposed. -/
def cols (x1 : Vec F S4872x1024 .f32) (n : Fin 38) : FVec F S1024x128 .f32 :=
  transpose S1024x128 [1, 0] (shapeCast S128x1024 (View.ld x1 (Rect.unit ![128 * n.val, 0] S128x1024.size (inb_rows n)))
    shapeCasts_S128x1024_S128x1024) transposes_S128x1024_p1_0_S1024x128

def toBf (w : FVec F S1024x128 .f32) : FVec F S1024x128 .bf16 :=
  shapeCast S1024x128 (truncf .bf16 w bitsLt_bf16_f32) shapeCasts_S1024x128_S1024x128

/-- The lanes below 64. -/
def low : IVec S1024x128 1 := cmpi .slt (iota .tc S1024x128 32 [1] iota_S1024x128_d1_w32) (broadcast S1024x128 64#32)

def rolled (w : FVec F S1024x128 .f32) : FVec F S1024x128 .f32 := dynamicRotate 1 64#32 none w rotates_S1024x128_d1

/-- The attention's weights: the queries' scaled, each key head and each value head twice. -/
def attnTile (x1 : Vec F S4872x1024 .f32) (j : Fin 8) : FVec F S1024x128 .bf16 :=
  match j with
  | 0 => toBf (mulf (cols x1 0) (broadcast S1024x128 (Scalar.ofBits .f32 0x3E000000#32)))
  | 1 => toBf (mulf (cols x1 1) (broadcast S1024x128 (Scalar.ofBits .f32 0x3E000000#32)))
  | 2 => toBf (mulf (cols x1 2) (broadcast S1024x128 (Scalar.ofBits .f32 0x3E000000#32)))
  | 3 => toBf (mulf (cols x1 3) (broadcast S1024x128 (Scalar.ofBits .f32 0x3E000000#32)))
  | 4 => toBf (select low (cols x1 4) (rolled (cols x1 4)))
  | 5 => toBf (select low (rolled (cols x1 4)) (cols x1 4))
  | 6 => toBf (select low (cols x1 5) (rolled (cols x1 5)))
  | 7 => toBf (select low (rolled (cols x1 5)) (cols x1 5))

def attnPieces (x1 : Vec F S4872x1024 .f32) : List (View.Piece (Elt F) S1024x1024 .bf16) :=
  [7, 6, 5, 4, 3, 2, 1, 0].map fun j => ⟨Rect.unit ![0, 128 * j.val] S1024x128.size (inb_lanes8 j), attnTile x1 j⟩

/-- The weights of the delta rule's queries, keys and values. -/
def convPieces (x1 : Vec F S4872x1024 .f32) : List (View.Piece (Elt F) S1024x1536 .bf16) :=
  [11, 10, 9, 8, 7, 6, 5, 4, 3, 2, 1, 0].map fun j : Fin 12 =>
    ⟨Rect.unit ![0, 128 * j.val] S1024x128.size (inb_lanes12 j), toBf (cols x1 ⟨6 + j.val, by omega⟩)⟩

/-- The weights of its output gate. -/
def zPieces (x1 : Vec F S4872x1024 .f32) : List (View.Piece (Elt F) S1024x512 .bf16) :=
  [3, 2, 1, 0].map fun j : Fin 4 =>
    ⟨Rect.unit ![0, 128 * j.val] S1024x128.size (inb_lanes4 j), toBf (cols x1 ⟨18 + j.val, by omega⟩)⟩

/-- The weights of its gates: the lanes from 8 on are zero. -/
def gateW (x1 : Vec F S4872x1024 .f32) : FVec F S1024x128 .bf16 :=
  toBf (select (cmpi .slt (iota .tc S1024x128 32 [1] iota_S1024x128_d1_w32) (broadcast S1024x128 8#32)) (cols x1 22)
    (broadcast S1024x128 (Scalar.ofBits .f32 0x00000000#32)))

/-! ## The attention's block and the output gate's -/

theorem inb_halfW (k : Fin 2) : ∀ a, (![0, 512 * k.val] : Fin 2 → Nat) a + S1024x512.size a ≤ S1024x1024.size a := by
  revert k; decide

theorem inb_half (k : Fin 2) : ∀ a, (![0, 512 * k.val] : Fin 2 → Nat) a + S512x512.size a ≤ S512x1024.size a := by
  revert k; decide

/-- The point's rows times 512 columns of weights. -/
def prod (x0 : Vec F S512x1024 .f32) (w : Vec F S1024x512 .bf16) : FVec F S512x512 .f32 :=
  matmul dot_S512x1024_S1024x512_S512x512_1_0_0_1_n_n none
    (truncf .bf16 (shapeCast S512x1024 x0 shapeCasts_S512x1024_S512x1024) bitsLt_bf16_f32) w (constant S512x512 .f32 0x00000000#32)

/-- The two halves, from those of the weights. -/
def aqkvOf (x0 : Vec F S512x1024 .f32) (w0 w1 : Vec F S1024x512 .bf16) : List (View.Piece (Elt F) S512x1024 .bf16) :=
  [⟨Rect.unit ![0, 512 * ((1 : Fin 2) : Nat)] S512x512.size (inb_half 1), truncf .bf16 (prod x0 w1) bitsLt_bf16_f32⟩,
    ⟨Rect.unit ![0, 512 * ((0 : Fin 2) : Nat)] S512x512.size (inb_half 0), truncf .bf16 (prod x0 w0) bitsLt_bf16_f32⟩]

def aqkvPieces (x0 : Vec F S512x1024 .f32) (w : Vec F S1024x1024 .bf16) : List (View.Piece (Elt F) S512x1024 .bf16) :=
  aqkvOf x0 (View.ld w (Rect.unit ![0, 512 * ((0 : Fin 2) : Nat)] S1024x512.size (inb_halfW 0)))
    (View.ld w (Rect.unit ![0, 512 * ((1 : Fin 2) : Nat)] S1024x512.size (inb_halfW 1)))

theorem aqkv_cov (v : View sig .tc .vmem S1024x1024 .bf16) (L : List (View.Piece (Elt F) S1024x1024 .bf16)) (X : Vec F S1024x1024 .bf16)
    (h : View.canon L = X) (y0 x0 : Vec F S512x1024 .f32) (hx : y0 = x0) :
    View.canon (aqkvOf y0 (v.readCov L (Rect.unit (s := S1024x1024) ![0, 512 * ((0 : Fin 2) : Nat)] S1024x512.size (inb_halfW 0)).toLoadRect)
      (v.readCov L (Rect.unit (s := S1024x1024) ![0, 512 * ((1 : Fin 2) : Nat)] S1024x512.size (inb_halfW 1)).toLoadRect))
      = View.canon (aqkvPieces x0 X) := by
  subst h hx
  have h0 := View.readCov_eq_canon' v L (Rect.unit (s := S1024x1024) ![0, 512 * ((0 : Fin 2) : Nat)] S1024x512.size (inb_halfW 0)).toLoadRect
  have h1 := View.readCov_eq_canon' v L (Rect.unit (s := S1024x1024) ![0, 512 * ((1 : Fin 2) : Nat)] S1024x512.size (inb_halfW 1)).toLoadRect
  exact congrArg View.canon (congrArg₂ (aqkvOf y0) h0 h1)

/-- `h + h tanh h`. -/
def twiceSilu (h : FVec F S512x512 .f32) : FVec F S512x512 .f32 := addf h (mulf h (tanh h))

def dzs (x0 : Vec F S512x1024 .f32) (w : Vec F S1024x512 .bf16) : FVec F S512x512 .bf16 :=
  truncf .bf16 (twiceSilu (mulf (broadcast S512x512 (Scalar.ofBits .f32 0x3F000000#32)) (prod x0 w))) bitsLt_bf16_f32

/-! ## The convolution -/

theorem inb_group (g : Fin 3) : ∀ a, (![0, 512 * g.val] : Fin 2 → Nat) a + S1024x512.size a ≤ S1024x1536.size a := by
  revert g; decide

theorem inb_tap (s : Fin 4) : ∀ a, (![8 - s.val, 0] : Fin 2 → Nat) a + S512x512.size a ≤ S520x512.size a := by
  revert s; decide

theorem slices_tap (g : Fin 3) (s : Fin 4) : S4x1536.Slices ![3 - s.val, 512 * g.val] S1x512 := by
  match g, s with
  | 0, 0 => exact slices_S4x1536_o3_0_S1x512
  | 0, 1 => exact slices_S4x1536_o2_0_S1x512
  | 0, 2 => exact slices_S4x1536_o1_0_S1x512
  | 0, 3 => exact slices_S4x1536_o0_0_S1x512
  | 1, 0 => exact slices_S4x1536_o3_512_S1x512
  | 1, 1 => exact slices_S4x1536_o2_512_S1x512
  | 1, 2 => exact slices_S4x1536_o1_512_S1x512
  | 1, 3 => exact slices_S4x1536_o0_512_S1x512
  | 2, 0 => exact slices_S4x1536_o3_1024_S1x512
  | 2, 1 => exact slices_S4x1536_o2_1024_S1x512
  | 2, 2 => exact slices_S4x1536_o1_1024_S1x512
  | 2, 3 => exact slices_S4x1536_o0_1024_S1x512

/-- The first point of a sequence, as the kernel decides it. -/
def isFirst (i : grid0.Coords) : BitVec 1 :=
  let arg0 : BitVec 32 := BitVec.ofNat 32 (i 0).val
  let v4 : BitVec 32 := Scalar.select (Scalar.cmpi .eq 8#32 0#32) 1#32 8#32
  let v5 : BitVec 32 := Scalar.remsi arg0 v4
  Scalar.cmpi .eq (Scalar.select (Scalar.andi (Scalar.xori (Scalar.cmpi .slt v5 0#32) (Scalar.cmpi .slt v4 0#32)) (Scalar.cmpi .ne v5 0#32))
    (Scalar.addi v5 v4) v5) 0#32

/-- The eight rows kept in front of a point's own: those carried from the point before, or zeros. -/
def halo (i : grid0.Coords) (carry : Vec F S8x512 .f32) : FVec F S8x512 .f32 :=
  shapeCast S8x512 (Scalar.select (isFirst i) (broadcast S8x512 (Scalar.ofBits .f32 0x00000000#32)) carry) shapeCasts_S8x512_S8x512

/-- What a group's buffer is filled with, from the group's weights. -/
def fillOf (i : grid0.Coords) (x0 : Vec F S512x1024 .f32) (w : Vec F S1024x512 .bf16) (carry : Vec F S8x512 .f32) :
    List (View.Piece (Elt F) S520x512 .f32) :=
  [⟨Rect.unit (s := S520x512) ![8, 0] S512x512.size inb_S520x512_S512x512_8_0,
      shapeCast S512x512 (prod x0 w) shapeCasts_S512x512_S512x512⟩,
    ⟨Rect.unit (s := S520x512) ![0, 0] S8x512.size inb_S520x512_S8x512_0_0, halo i carry⟩]

def fillPieces (g : Fin 3) (i : grid0.Coords) (x0 : Vec F S512x1024 .f32) (w : Vec F S1024x1536 .bf16) (carry : Vec F S8x512 .f32) :
    List (View.Piece (Elt F) S520x512 .f32) :=
  fillOf i x0 (View.ld w (Rect.unit ![0, 512 * g.val] S1024x512.size (inb_group g))) carry

/-- The rows a point leaves for the next. -/
def carried (b : Vec F S520x512 .f32) : Vec F S8x512 .f32 :=
  View.ld b (Rect.unit (s := S520x512) ![512, 0] S8x512.size inb_S520x512_S8x512_512_0)

/-- The rows of a buffer `s` rows back. -/
def tap (b : Vec F S520x512 .f32) (s : Fin 4) : Vec F S512x512 .f32 :=
  View.ld b (Rect.unit ![8 - s.val, 0] S512x512.size (inb_tap s))

/-- Half of the convolution of group `g`, from its taps. -/
def convOf (g : Fin 3) (x2 : Vec F S4x1536 .f32) (b0 b1 b2 b3 : Vec F S512x512 .f32) : FVec F S512x512 .f32 :=
  let hw := mulf (broadcast S4x1536 (Scalar.ofBits .f32 0x3F000000#32)) x2
  let t := fun s : Fin 4 => broadcastTo S512x512 (extractStridedSlice S1x512 ![3 - s.val, 512 * g.val] hw (slices_tap g s)) broadcasts_S1x512_S512x512
  addf (addf (addf (mulf b0 (t 0)) (mulf b1 (t 1))) (mulf b2 (t 2))) (mulf b3 (t 3))

/-- The convolution's activation. -/
def act (g : Fin 3) (x2 : Vec F S4x1536 .f32) (b : Vec F S520x512 .f32) : FVec F S512x512 .f32 :=
  twiceSilu (convOf g x2 (tap b 0) (tap b 1) (tap b 2) (tap b 3))

/-! ## Rows of unit length -/

theorem slices_head (h : Fin 4) : S512x512.Slices ![0, 128 * h.val] S512x128 := by
  match h with
  | 0 => exact slices_S512x512_o0_0_S512x128
  | 1 => exact slices_S512x512_o0_128_S512x128
  | 2 => exact slices_S512x512_o0_256_S512x128
  | 3 => exact slices_S512x512_o0_384_S512x128

theorem inb_head (h : Fin 4) : ∀ a, (![0, 128 * h.val] : Fin 2 → Nat) a + S512x128.size a ≤ S512x512.size a := by
  revert h; decide

theorem inb_headT (h : Fin 4) : ∀ a, (![0, 128 * h.val, 0] : Fin 3 → Nat) a + S1x128x512.size a ≤ S1x512x512.size a := by
  revert h; decide

def headOf (h : Fin 4) (y : FVec F S512x512 .f32) : FVec F S512x128 .f32 :=
  extractStridedSlice S512x128 ![0, 128 * h.val] y (slices_head h)

/-- The rows divided by their lengths, times a constant. -/
def unitRows (scale : BitVec 32) (y : FVec F S512x128 .f32) : FVec F S512x128 .bf16 :=
  truncf .bf16 (mulf y (broadcastTo S512x128 (mulf (rsqrt (addf
    (shapeCast S512x1 (multiReduction .add [1] S512 (mulf y y) 0x00000000#32 reduces_S512x128_S512 (.inl rfl) rfl) shapeCasts_S512_S512x1)
    (broadcast S512x1 (Scalar.ofBits .f32 0x358637BD#32)))) (broadcast S512x1 (Scalar.ofBits .f32 scale))) broadcasts_S512x1_S512x128)) bitsLt_bf16_f32

def unitPieces (scale : BitVec 32) (y : FVec F S512x512 .f32) : List (View.Piece (Elt F) S512x512 .bf16) :=
  [3, 2, 1, 0].map fun h : Fin 4 => ⟨Rect.unit ![0, 128 * h.val] S512x128.size (inb_head h), unitRows scale (headOf h y)⟩

def unitPiecesT (scale : BitVec 32) (y : FVec F S512x512 .f32) : List (View.Piece (Elt F) S1x512x512 .bf16) :=
  [3, 2, 1, 0].map fun h : Fin 4 => ⟨Rect.unit ![0, 128 * h.val, 0] S1x128x512.size (inb_headT h),
    shapeCast S1x128x512 (truncf .bf16 (transpose S128x512 [1, 0] (extf .f32 (unitRows scale (headOf h y)) bitsLt_bf16_f32)
      transposes_S512x128_p1_0_S128x512) bitsLt_bf16_f32) shapeCasts_S128x512_S1x128x512⟩

/-! The same pieces as the kernel names them. -/

def qList (x2 : Vec F S4x1536 .f32) (b0 b1 b2 b3 : Vec F S512x512 .f32) : List (View.Piece (Elt F) S512x512 .bf16) :=
  let w := k0_pay37 x2
  let y := k0_pay45 w b0 b1 b2 b3
  [⟨Rect.unit (s := S512x512) ![0, 384] S512x128.size inb_S512x512_S512x128_0_384, k0_pay52 y⟩,
    ⟨Rect.unit (s := S512x512) ![0, 256] S512x128.size inb_S512x512_S512x128_0_256, k0_pay51 y⟩,
    ⟨Rect.unit (s := S512x512) ![0, 128] S512x128.size inb_S512x512_S512x128_0_128, k0_pay50 (k0_pay47 w b0 b1 b2 b3) (k0_pay48 w b0 b1 b2 b3) k0_pay49⟩,
    ⟨Rect.unit (s := S512x512) ![0, 0] S512x128.size inb_S512x512_S512x128_0_0, k0_pay46 w b0 b1 b2 b3⟩]

theorem qList_eq (x2 : Vec F S4x1536 .f32) (b0 b1 b2 b3 : Vec F S512x512 .f32) :
    qList x2 b0 b1 b2 b3 = unitPieces 0x3DB504F3#32 (twiceSilu (convOf 0 x2 b0 b1 b2 b3)) := rfl

def kList (x2 : Vec F S4x1536 .f32) (b0 b1 b2 b3 : Vec F S512x512 .f32) : List (View.Piece (Elt F) S512x512 .bf16) :=
  let w := k0_pay37 x2
  let y := k0_pay58 w b0 b1 b2 b3
  [⟨Rect.unit (s := S512x512) ![0, 384] S512x128.size inb_S512x512_S512x128_0_384, k0_pay70 y⟩,
    ⟨Rect.unit (s := S512x512) ![0, 256] S512x128.size inb_S512x512_S512x128_0_256, k0_pay68 (k0_pay66 y) (k0_pay67 y)⟩,
    ⟨Rect.unit (s := S512x512) ![0, 128] S512x128.size inb_S512x512_S512x128_0_128, k0_pay64 y⟩,
    ⟨Rect.unit (s := S512x512) ![0, 0] S512x128.size inb_S512x512_S512x128_0_0, k0_pay62 (k0_pay59 w b0 b1 b2 b3) (k0_pay60 w b0 b1 b2 b3) k0_pay61⟩]

theorem kList_eq (x2 : Vec F S4x1536 .f32) (b0 b1 b2 b3 : Vec F S512x512 .f32) :
    kList x2 b0 b1 b2 b3 = unitPieces 0x3F800000#32 (twiceSilu (convOf 1 x2 b0 b1 b2 b3)) := rfl

def kListT (x2 : Vec F S4x1536 .f32) (b0 b1 b2 b3 : Vec F S512x512 .f32) : List (View.Piece (Elt F) S1x512x512 .bf16) :=
  let w := k0_pay37 x2
  let y := k0_pay58 w b0 b1 b2 b3
  [⟨Rect.unit (s := S1x512x512) ![0, 384, 0] S1x128x512.size inb_S1x512x512_S1x128x512_0_384_0, k0_pay71 y⟩,
    ⟨Rect.unit (s := S1x512x512) ![0, 256, 0] S1x128x512.size inb_S1x512x512_S1x128x512_0_256_0, k0_pay69 (k0_pay66 y) (k0_pay67 y)⟩,
    ⟨Rect.unit (s := S1x512x512) ![0, 128, 0] S1x128x512.size inb_S1x512x512_S1x128x512_0_128_0, k0_pay65 y⟩,
    ⟨Rect.unit (s := S1x512x512) ![0, 0, 0] S1x128x512.size inb_S1x512x512_S1x128x512_0_0_0, k0_pay63 (k0_pay59 w b0 b1 b2 b3) (k0_pay60 w b0 b1 b2 b3) k0_pay61⟩]

theorem kListT_eq (x2 : Vec F S4x1536 .f32) (b0 b1 b2 b3 : Vec F S512x512 .f32) :
    kListT x2 b0 b1 b2 b3 = unitPiecesT 0x3F800000#32 (twiceSilu (convOf 1 x2 b0 b1 b2 b3)) := rfl

def vList (x2 : Vec F S4x1536 .f32) (b0 b1 b2 b3 : Vec F S512x512 .f32) : List (View.Piece (Elt F) S512x512 .bf16) :=
  [⟨Rect.unit (s := S512x512) ![0, 0] S512x512.size inb_S512x512_S512x512_0_0, k0_pay76 (k0_pay37 x2) b0 b1 b2 b3⟩]

theorem vList_eq (x2 : Vec F S4x1536 .f32) (b0 b1 b2 b3 : Vec F S512x512 .f32) :
    View.canon (vList x2 b0 b1 b2 b3) = truncf .bf16 (twiceSilu (convOf 2 x2 b0 b1 b2 b3)) bitsLt_bf16_f32 :=
  View.canon_cons_unit_lit _ _ _ zeros

/-! The same from the pieces of the buffer the taps are read from. -/

theorem tap_cov (v : View sig .tc .vmem S520x512 .f32) (L : List (View.Piece (Elt F) S520x512 .f32)) (X : Vec F S520x512 .f32)
    (h : View.canon L = X) (s : Fin 4) :
    v.readCov L (Rect.unit (s := S520x512) ![8 - s.val, 0] S512x512.size (inb_tap s)).toLoadRect = tap X s := by
  subst h
  exact View.readCov_eq_canon' v L _

theorem qList_cov (v : View sig .tc .vmem S520x512 .f32) (L : List (View.Piece (Elt F) S520x512 .f32)) (X : Vec F S520x512 .f32)
    (h : View.canon L = X) (y2 x2 : Vec F S4x1536 .f32) (hx : y2 = x2) :
    View.canon (qList y2 (v.readCov L (Rect.unit (s := S520x512) ![8, 0] S512x512.size inb_S520x512_S512x512_8_0).toLoadRect)
      (v.readCov L (Rect.unit (s := S520x512) ![7, 0] S512x512.size inb_S520x512_S512x512_7_0).toLoadRect)
      (v.readCov L (Rect.unit (s := S520x512) ![6, 0] S512x512.size inb_S520x512_S512x512_6_0).toLoadRect)
      (v.readCov L (Rect.unit (s := S520x512) ![5, 0] S512x512.size inb_S520x512_S512x512_5_0).toLoadRect)) = View.canon (unitPieces 0x3DB504F3#32 (act 0 x2 X)) := by
  have h0 : (v.readCov L (Rect.unit (s := S520x512) ![8, 0] S512x512.size inb_S520x512_S512x512_8_0).toLoadRect) = tap X 0 := tap_cov v L X h 0
  have h1 : (v.readCov L (Rect.unit (s := S520x512) ![7, 0] S512x512.size inb_S520x512_S512x512_7_0).toLoadRect) = tap X 1 := tap_cov v L X h 1
  have h2 : (v.readCov L (Rect.unit (s := S520x512) ![6, 0] S512x512.size inb_S520x512_S512x512_6_0).toLoadRect) = tap X 2 := tap_cov v L X h 2
  have h3 : (v.readCov L (Rect.unit (s := S520x512) ![5, 0] S512x512.size inb_S520x512_S512x512_5_0).toLoadRect) = tap X 3 := tap_cov v L X h 3
  generalize (v.readCov L (Rect.unit (s := S520x512) ![8, 0] S512x512.size inb_S520x512_S512x512_8_0).toLoadRect) = b0 at h0 ⊢
  generalize (v.readCov L (Rect.unit (s := S520x512) ![7, 0] S512x512.size inb_S520x512_S512x512_7_0).toLoadRect) = b1 at h1 ⊢
  generalize (v.readCov L (Rect.unit (s := S520x512) ![6, 0] S512x512.size inb_S520x512_S512x512_6_0).toLoadRect) = b2 at h2 ⊢
  generalize (v.readCov L (Rect.unit (s := S520x512) ![5, 0] S512x512.size inb_S520x512_S512x512_5_0).toLoadRect) = b3 at h3 ⊢
  subst h0 h1 h2 h3
  exact hx ▸ congrArg View.canon (qList_eq y2 _ _ _ _)

theorem kList_cov (v : View sig .tc .vmem S520x512 .f32) (L : List (View.Piece (Elt F) S520x512 .f32)) (X : Vec F S520x512 .f32)
    (h : View.canon L = X) (y2 x2 : Vec F S4x1536 .f32) (hx : y2 = x2) :
    View.canon (kList y2 (v.readCov L (Rect.unit (s := S520x512) ![8, 0] S512x512.size inb_S520x512_S512x512_8_0).toLoadRect)
      (v.readCov L (Rect.unit (s := S520x512) ![7, 0] S512x512.size inb_S520x512_S512x512_7_0).toLoadRect)
      (v.readCov L (Rect.unit (s := S520x512) ![6, 0] S512x512.size inb_S520x512_S512x512_6_0).toLoadRect)
      (v.readCov L (Rect.unit (s := S520x512) ![5, 0] S512x512.size inb_S520x512_S512x512_5_0).toLoadRect)) = View.canon (unitPieces 0x3F800000#32 (act 1 x2 X)) := by
  have h0 : (v.readCov L (Rect.unit (s := S520x512) ![8, 0] S512x512.size inb_S520x512_S512x512_8_0).toLoadRect) = tap X 0 := tap_cov v L X h 0
  have h1 : (v.readCov L (Rect.unit (s := S520x512) ![7, 0] S512x512.size inb_S520x512_S512x512_7_0).toLoadRect) = tap X 1 := tap_cov v L X h 1
  have h2 : (v.readCov L (Rect.unit (s := S520x512) ![6, 0] S512x512.size inb_S520x512_S512x512_6_0).toLoadRect) = tap X 2 := tap_cov v L X h 2
  have h3 : (v.readCov L (Rect.unit (s := S520x512) ![5, 0] S512x512.size inb_S520x512_S512x512_5_0).toLoadRect) = tap X 3 := tap_cov v L X h 3
  generalize (v.readCov L (Rect.unit (s := S520x512) ![8, 0] S512x512.size inb_S520x512_S512x512_8_0).toLoadRect) = b0 at h0 ⊢
  generalize (v.readCov L (Rect.unit (s := S520x512) ![7, 0] S512x512.size inb_S520x512_S512x512_7_0).toLoadRect) = b1 at h1 ⊢
  generalize (v.readCov L (Rect.unit (s := S520x512) ![6, 0] S512x512.size inb_S520x512_S512x512_6_0).toLoadRect) = b2 at h2 ⊢
  generalize (v.readCov L (Rect.unit (s := S520x512) ![5, 0] S512x512.size inb_S520x512_S512x512_5_0).toLoadRect) = b3 at h3 ⊢
  subst h0 h1 h2 h3
  exact hx ▸ congrArg View.canon (kList_eq y2 _ _ _ _)

theorem kListT_cov (v : View sig .tc .vmem S520x512 .f32) (L : List (View.Piece (Elt F) S520x512 .f32)) (X : Vec F S520x512 .f32)
    (h : View.canon L = X) (y2 x2 : Vec F S4x1536 .f32) (hx : y2 = x2) :
    View.canon (kListT y2 (v.readCov L (Rect.unit (s := S520x512) ![8, 0] S512x512.size inb_S520x512_S512x512_8_0).toLoadRect)
      (v.readCov L (Rect.unit (s := S520x512) ![7, 0] S512x512.size inb_S520x512_S512x512_7_0).toLoadRect)
      (v.readCov L (Rect.unit (s := S520x512) ![6, 0] S512x512.size inb_S520x512_S512x512_6_0).toLoadRect)
      (v.readCov L (Rect.unit (s := S520x512) ![5, 0] S512x512.size inb_S520x512_S512x512_5_0).toLoadRect)) = View.canon (unitPiecesT 0x3F800000#32 (act 1 x2 X)) := by
  have h0 : (v.readCov L (Rect.unit (s := S520x512) ![8, 0] S512x512.size inb_S520x512_S512x512_8_0).toLoadRect) = tap X 0 := tap_cov v L X h 0
  have h1 : (v.readCov L (Rect.unit (s := S520x512) ![7, 0] S512x512.size inb_S520x512_S512x512_7_0).toLoadRect) = tap X 1 := tap_cov v L X h 1
  have h2 : (v.readCov L (Rect.unit (s := S520x512) ![6, 0] S512x512.size inb_S520x512_S512x512_6_0).toLoadRect) = tap X 2 := tap_cov v L X h 2
  have h3 : (v.readCov L (Rect.unit (s := S520x512) ![5, 0] S512x512.size inb_S520x512_S512x512_5_0).toLoadRect) = tap X 3 := tap_cov v L X h 3
  generalize (v.readCov L (Rect.unit (s := S520x512) ![8, 0] S512x512.size inb_S520x512_S512x512_8_0).toLoadRect) = b0 at h0 ⊢
  generalize (v.readCov L (Rect.unit (s := S520x512) ![7, 0] S512x512.size inb_S520x512_S512x512_7_0).toLoadRect) = b1 at h1 ⊢
  generalize (v.readCov L (Rect.unit (s := S520x512) ![6, 0] S512x512.size inb_S520x512_S512x512_6_0).toLoadRect) = b2 at h2 ⊢
  generalize (v.readCov L (Rect.unit (s := S520x512) ![5, 0] S512x512.size inb_S520x512_S512x512_5_0).toLoadRect) = b3 at h3 ⊢
  subst h0 h1 h2 h3
  exact hx ▸ congrArg View.canon (kListT_eq y2 _ _ _ _)

theorem vList_cov (v : View sig .tc .vmem S520x512 .f32) (L : List (View.Piece (Elt F) S520x512 .f32)) (X : Vec F S520x512 .f32)
    (h : View.canon L = X) (y2 x2 : Vec F S4x1536 .f32) (hx : y2 = x2) :
    View.canon (vList y2 (v.readCov L (Rect.unit (s := S520x512) ![8, 0] S512x512.size inb_S520x512_S512x512_8_0).toLoadRect)
      (v.readCov L (Rect.unit (s := S520x512) ![7, 0] S512x512.size inb_S520x512_S512x512_7_0).toLoadRect)
      (v.readCov L (Rect.unit (s := S520x512) ![6, 0] S512x512.size inb_S520x512_S512x512_6_0).toLoadRect)
      (v.readCov L (Rect.unit (s := S520x512) ![5, 0] S512x512.size inb_S520x512_S512x512_5_0).toLoadRect)) = truncf .bf16 (act 2 x2 X) bitsLt_bf16_f32 := by
  have h0 : (v.readCov L (Rect.unit (s := S520x512) ![8, 0] S512x512.size inb_S520x512_S512x512_8_0).toLoadRect) = tap X 0 := tap_cov v L X h 0
  have h1 : (v.readCov L (Rect.unit (s := S520x512) ![7, 0] S512x512.size inb_S520x512_S512x512_7_0).toLoadRect) = tap X 1 := tap_cov v L X h 1
  have h2 : (v.readCov L (Rect.unit (s := S520x512) ![6, 0] S512x512.size inb_S520x512_S512x512_6_0).toLoadRect) = tap X 2 := tap_cov v L X h 2
  have h3 : (v.readCov L (Rect.unit (s := S520x512) ![5, 0] S512x512.size inb_S520x512_S512x512_5_0).toLoadRect) = tap X 3 := tap_cov v L X h 3
  generalize (v.readCov L (Rect.unit (s := S520x512) ![8, 0] S512x512.size inb_S520x512_S512x512_8_0).toLoadRect) = b0 at h0 ⊢
  generalize (v.readCov L (Rect.unit (s := S520x512) ![7, 0] S512x512.size inb_S520x512_S512x512_7_0).toLoadRect) = b1 at h1 ⊢
  generalize (v.readCov L (Rect.unit (s := S520x512) ![6, 0] S512x512.size inb_S520x512_S512x512_6_0).toLoadRect) = b2 at h2 ⊢
  generalize (v.readCov L (Rect.unit (s := S520x512) ![5, 0] S512x512.size inb_S520x512_S512x512_5_0).toLoadRect) = b3 at h3 ⊢
  subst h0 h1 h2 h3
  exact hx ▸ vList_eq y2 _ _ _ _

/-! ## The gates -/

def lane : IVec S512x128 32 := iota .tc S512x128 32 [1] iota_S512x128_d1_w32
def row : IVec S512x128 32 := iota .tc S512x128 32 [0] iota_S512x128_d0_w32

/-- The row's position in its chunk of 64, as the kernel computes it. -/
def position : IVec S512x128 32 :=
  let m : BitVec 32 := Scalar.select (Scalar.cmpi .eq 64#32 0#32) 1#32 64#32
  let r : IVec S512x128 32 := remsi row (broadcast S512x128 m)
  select (andi (xori (cmpi .slt r (broadcast S512x128 0#32)) (broadcastTo S512x128 (broadcast S512x128 (Scalar.cmpi .slt m 0#32)) broadcasts_S512x128_S512x128))
    (cmpi .ne r (broadcast S512x128 0#32))) (addi r (broadcast S512x128 m)) r

/-- One step of the cumulated sum: each row adds the row `s` above it in the same chunk. -/
def step (s : BitVec 32) (g : FVec F S512x128 .f32) : FVec F S512x128 .f32 :=
  addf g (select (cmpi .sge position (broadcast S512x128 s)) (dynamicRotate 0 s none g rotates_S512x128_d0)
    (broadcast S512x128 (Scalar.ofBits .f32 0x00000000#32)))

def prodG (x0 : Vec F S512x1024 .f32) (w : Vec F S1024x128 .bf16) : FVec F S512x128 .f32 :=
  matmul dot_S512x1024_S1024x128_S512x128_1_0_0_1_n_n none
    (truncf .bf16 (shapeCast S512x1024 x0 shapeCasts_S512x1024_S512x1024) bitsLt_bf16_f32) w (constant S512x128 .f32 0x00000000#32)

/-- The logarithms of the decays. -/
def decay (p : FVec F S512x128 .f32) (x3 : Vec F S2x128 .f32) : FVec F S512x128 .f32 :=
  let par := shapeCast S2x128 x3 shapeCasts_S2x128_S2x128
  let z := addf p (broadcastTo S512x128 (extractStridedSlice S1x128 ![1, 0] par slices_S2x128_o1_0_S1x128) broadcasts_S1x128_S512x128)
  mulf (broadcastTo S512x128 (subf (broadcast S1x128 (Scalar.ofBits .f32 0x00000000#32))
      (exp (extractStridedSlice S1x128 ![0, 0] par slices_S2x128_o0_0_S1x128))) broadcasts_S1x128_S512x128)
    (addf (maximumf z (broadcast S512x128 (Scalar.ofBits .f32 0x00000000#32)))
      (log1p (exp (subf (broadcast S512x128 (Scalar.ofBits .f32 0x00000000#32)) (absf z)))))

/-- The gate that the first lanes hold. -/
def beta (p : FVec F S512x128 .f32) : FVec F S512x128 .f32 :=
  addf (broadcast S512x128 (Scalar.ofBits .f32 0x3F000000#32)) (mulf (broadcast S512x128 (Scalar.ofBits .f32 0x3F000000#32))
    (tanh (mulf (broadcast S512x128 (Scalar.ofBits .f32 0x3F000000#32)) p)))

def gates (p : FVec F S512x128 .f32) (x3 : Vec F S2x128 .f32) : FVec F S512x128 .f32 :=
  select (cmpi .slt lane (broadcast S512x128 4#32)) (beta p)
    (select (cmpi .slt lane (broadcast S512x128 8#32)) (step 32#32 (step 16#32 (step 8#32 (step 4#32 (step 2#32 (step 1#32 (decay p x3)))))))
      (broadcast S512x128 (Scalar.ofBits .f32 0x00000000#32)))

def gatesT (g : FVec F S512x128 .f32) : FVec F S1x8x512 .f32 :=
  shapeCast S1x8x512 (extractStridedSlice S8x512 ![0, 0] (transpose S128x512 [1, 0] g transposes_S512x128_p1_0_S128x512)
    slices_S128x512_o0_0_S8x512) shapeCasts_S8x512_S1x8x512

end Cert.Project

end
-- ==== Proof.Project.First.lean ====
/- What each grid point of the projections' kernel leaves: the pieces of its stores are those of `Body`, the first point's
   scratch buffers being the weights transposed, and a later point's those it finds. Each theorem names the pieces of one
   output or one scratch buffer in one of the two cases. -/
module

public import proofs.«01_k».proof.Proof.Project.Body

@[expose] public section

set_option maxRecDepth 65536

noncomputable section

namespace Cert.Project

open Cert.Kernel3Ideal Cert.Kernel3Ideal.Gen Idealize.ShloMosaic Idealize.ShloMosaic.TcCoe Idealize.SL.Sem

variable {F : FTy → Type} [FloatOps F]

variable (c : Dev nD) (i : grid0.Coords) (arg1 : Memref sig .tc .vmem S512x1024 .f32) (harg1 : arg1.IsWhole) (arg2 : Memref sig .tc .vmem S4872x1024 .f32) (harg2 : arg2.IsWhole) (arg3 : Memref sig .tc .vmem S4x1536 .f32) (harg3 : arg3.IsWhole) (arg4 : Memref sig .tc .vmem S2x128 .f32) (harg4 : arg4.IsWhole) (arg5 : Memref sig .tc .vmem S512x1024 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x128 .f32) (harg11 : arg11.IsWhole) (arg12 : Memref sig .tc .vmem S1x8x512 .f32) (harg12 : arg12.IsWhole) (arg13 : Memref sig .tc .vmem S1024x1024 .bf16) (harg13 : arg13.IsWhole) (arg14 : Memref sig .tc .vmem S1024x1536 .bf16) (harg14 : arg14.IsWhole) (arg15 : Memref sig .tc .vmem S1024x512 .bf16) (harg15 : arg15.IsWhole) (arg16 : Memref sig .tc .vmem S1024x128 .bf16) (harg16 : arg16.IsWhole) (arg17 : Memref sig .tc .vmem S520x512 .f32) (harg17 : arg17.IsWhole) (arg18 : Memref sig .tc .vmem S520x512 .f32) (harg18 : arg18.IsWhole) (arg19 : Memref sig .tc .vmem S520x512 .f32) (harg19 : arg19.IsWhole) (hc0 : cond0_0 i)
    (x0 : Vec F S512x1024 .f32) (x1 : Vec F S4872x1024 .f32) (x2 : Vec F S4x1536 .f32) (x3 : Vec F S2x128 .f32)

theorem attn_first : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 = View.canon (attnPieces x1) := by
  have key : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.1
      = attnPieces (arg2.view.read (Elt F) (harg2.unread x1)) := by
    unfold kernelRun0_A
    dsimp only
    sl_unfold_words
    rfl
  refine (funext fun y => View.read_writes_junk_apply_eq_canon VS0_0 y _).trans ?_
  rw [key, harg2.read_unread]

theorem conv_first : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 = View.canon (convPieces x1) := by
  have key : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.1
      = convPieces (arg2.view.read (Elt F) (harg2.unread x1)) := by
    unfold kernelRun0_A
    dsimp only
    sl_unfold_words
    rfl
  refine (funext fun y => View.read_writes_junk_apply_eq_canon VS0_1 y _).trans ?_
  rw [key, harg2.read_unread]

theorem z_first : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 = View.canon (zPieces x1) := by
  have key : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.1
      = zPieces (arg2.view.read (Elt F) (harg2.unread x1)) := by
    unfold kernelRun0_A
    dsimp only
    sl_unfold_words
    rfl
  refine (funext fun y => View.read_writes_junk_apply_eq_canon VS0_2 y _).trans ?_
  rw [key, harg2.read_unread]

theorem gateW_first : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 = gateW x1 := by
  have key : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.1
      = [⟨Rect.unit (s := S1024x128) ![0, 0] S1024x128.size inb_S1024x128_S1024x128_0_0, gateW (arg2.view.read (Elt F) (harg2.unread x1))⟩] := by
    unfold kernelRun0_A
    dsimp only
    sl_unfold_words
    rfl
  refine (funext fun y => View.read_writes_junk_apply_eq_canon VS0_3 y _).trans ?_
  rw [key, harg2.read_unread]
  exact View.canon_cons_unit_lit _ _ _ zeros

theorem fill0_first : ∃ carry rest, sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3
    = View.canon (fillPieces 0 i x0 (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3) carry ++ rest) := by
  have key : ∃ carry rest, (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.1
      = fillOf i (View.ld (arg1.view.read (Elt F) (harg1.unread x0)) (Rect.unit (s := S512x1024) ![0, 0] S512x1024.size inb_S512x1024_S512x1024_0_0)) (arg14.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.1 (Rect.unit (s := S1024x1536) ![0, 512 * ((0 : Fin 3) : Nat)] S1024x512.size (inb_group 0)).toLoadRect) carry ++ rest := by
    unfold kernelRun0_A
    dsimp only
    sl_unfold_words
    exact ⟨_, [_], rfl⟩
  obtain ⟨carry, rest, key⟩ := key
  have h1 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.1 = sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 := funext fun y => (View.read_writes_junk_apply_eq_canon VS0_1 y _).symm
  refine ⟨carry, rest, (funext fun y => View.read_writes_junk_apply_eq_canon VS0_4 y _).trans ?_⟩
  rw [key, View.readCov_eq_canon', h1, harg1.read_unread, View.ld_unit_lit _ x0 zeros]
  rfl

theorem fill1_first : ∃ carry rest, sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3
    = View.canon (fillPieces 1 i x0 (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3) carry ++ rest) := by
  have key : ∃ carry rest, (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.1
      = fillOf i (View.ld (arg1.view.read (Elt F) (harg1.unread x0)) (Rect.unit (s := S512x1024) ![0, 0] S512x1024.size inb_S512x1024_S512x1024_0_0)) (arg14.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.1 (Rect.unit (s := S1024x1536) ![0, 512 * ((1 : Fin 3) : Nat)] S1024x512.size (inb_group 1)).toLoadRect) carry ++ rest := by
    unfold kernelRun0_A
    dsimp only
    sl_unfold_words
    exact ⟨_, [_], rfl⟩
  obtain ⟨carry, rest, key⟩ := key
  have h1 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.1 = sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 := funext fun y => (View.read_writes_junk_apply_eq_canon VS0_1 y _).symm
  refine ⟨carry, rest, (funext fun y => View.read_writes_junk_apply_eq_canon VS0_5 y _).trans ?_⟩
  rw [key, View.readCov_eq_canon', h1, harg1.read_unread, View.ld_unit_lit _ x0 zeros]
  rfl

theorem fill2_first : ∃ carry rest, sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3
    = View.canon (fillPieces 2 i x0 (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3) carry ++ rest) := by
  have key : ∃ carry rest, (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.2.1
      = fillOf i (View.ld (arg1.view.read (Elt F) (harg1.unread x0)) (Rect.unit (s := S512x1024) ![0, 0] S512x1024.size inb_S512x1024_S512x1024_0_0)) (arg14.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.1 (Rect.unit (s := S1024x1536) ![0, 512 * ((2 : Fin 3) : Nat)] S1024x512.size (inb_group 2)).toLoadRect) carry ++ rest := by
    unfold kernelRun0_A
    dsimp only
    sl_unfold_words
    exact ⟨_, [_], rfl⟩
  obtain ⟨carry, rest, key⟩ := key
  have h1 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.1 = sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 := funext fun y => (View.read_writes_junk_apply_eq_canon VS0_1 y _).symm
  refine ⟨carry, rest, (funext fun y => View.read_writes_junk_apply_eq_canon VS0_6 y _).trans ?_⟩
  rw [key, View.readCov_eq_canon', h1, harg1.read_unread, View.ld_unit_lit _ x0 zeros]
  rfl

theorem aqkv_first : out0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 = View.canon (aqkvPieces x0 (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3)) := by
  have key : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).1
      = aqkvOf (View.ld (arg1.view.read (Elt F) (harg1.unread x0)) (Rect.unit (s := S512x1024) ![0, 0] S512x1024.size inb_S512x1024_S512x1024_0_0)) (arg13.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.1 (Rect.unit (s := S1024x1024) ![0, 512 * ((0 : Fin 2) : Nat)] S1024x512.size (inb_halfW 0)).toLoadRect) (arg13.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.1 (Rect.unit (s := S1024x1024) ![0, 512 * ((1 : Fin 2) : Nat)] S1024x512.size (inb_halfW 1)).toLoadRect) := by
    unfold kernelRun0_A
    dsimp only
    sl_unfold_words
    rfl
  have h0 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.1 = sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 := funext fun y => (View.read_writes_junk_apply_eq_canon VS0_0 y _).symm
  refine (funext fun y => View.read_writes_junk_apply_eq_canon VO0_4 y _).trans ?_
  exact (congrArg View.canon key).trans (aqkv_cov arg13.view _ _ h0 _ x0 (by rw [harg1.read_unread, View.ld_unit_lit _ x0 zeros]))

theorem dq_first : out0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 = View.canon (unitPieces 0x3DB504F3#32 (act 0 x2 (sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3))) := by
  have key : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.1
      = qList (View.ld (arg3.view.read (Elt F) (harg3.unread x2)) (Rect.unit (s := S4x1536) ![0, 0] S4x1536.size inb_S4x1536_S4x1536_0_0)) (arg17.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.1 (Rect.unit (s := S520x512) ![8, 0] S512x512.size inb_S520x512_S512x512_8_0).toLoadRect) (arg17.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.1 (Rect.unit (s := S520x512) ![7, 0] S512x512.size inb_S520x512_S512x512_7_0).toLoadRect) (arg17.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.1 (Rect.unit (s := S520x512) ![6, 0] S512x512.size inb_S520x512_S512x512_6_0).toLoadRect) (arg17.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.1 (Rect.unit (s := S520x512) ![5, 0] S512x512.size inb_S520x512_S512x512_5_0).toLoadRect) := by
    unfold kernelRun0_A
    dsimp only
    sl_unfold_words
    rfl
  have h4 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.1 = sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 := funext fun y => (View.read_writes_junk_apply_eq_canon VS0_4 y _).symm
  refine (funext fun y => View.read_writes_junk_apply_eq_canon VO0_5 y _).trans ?_
  exact (congrArg View.canon key).trans (qList_cov arg17.view _ _ h4 _ x2 (by rw [harg3.read_unread, View.ld_unit_lit _ x2 zeros]))

theorem dk_first : out0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 = View.canon (unitPieces 0x3F800000#32 (act 1 x2 (sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3))) := by
  have key : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.1
      = kList (View.ld (arg3.view.read (Elt F) (harg3.unread x2)) (Rect.unit (s := S4x1536) ![0, 0] S4x1536.size inb_S4x1536_S4x1536_0_0)) (arg18.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.1 (Rect.unit (s := S520x512) ![8, 0] S512x512.size inb_S520x512_S512x512_8_0).toLoadRect) (arg18.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.1 (Rect.unit (s := S520x512) ![7, 0] S512x512.size inb_S520x512_S512x512_7_0).toLoadRect) (arg18.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.1 (Rect.unit (s := S520x512) ![6, 0] S512x512.size inb_S520x512_S512x512_6_0).toLoadRect) (arg18.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.1 (Rect.unit (s := S520x512) ![5, 0] S512x512.size inb_S520x512_S512x512_5_0).toLoadRect) := by
    unfold kernelRun0_A
    dsimp only
    sl_unfold_words
    rfl
  have h5 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.1 = sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 := funext fun y => (View.read_writes_junk_apply_eq_canon VS0_5 y _).symm
  refine (funext fun y => View.read_writes_junk_apply_eq_canon VO0_6 y _).trans ?_
  exact (congrArg View.canon key).trans (kList_cov arg18.view _ _ h5 _ x2 (by rw [harg3.read_unread, View.ld_unit_lit _ x2 zeros]))

theorem dkt_first : out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 = View.canon (unitPiecesT 0x3F800000#32 (act 1 x2 (sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3))) := by
  have key : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.1
      = kListT (View.ld (arg3.view.read (Elt F) (harg3.unread x2)) (Rect.unit (s := S4x1536) ![0, 0] S4x1536.size inb_S4x1536_S4x1536_0_0)) (arg18.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.1 (Rect.unit (s := S520x512) ![8, 0] S512x512.size inb_S520x512_S512x512_8_0).toLoadRect) (arg18.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.1 (Rect.unit (s := S520x512) ![7, 0] S512x512.size inb_S520x512_S512x512_7_0).toLoadRect) (arg18.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.1 (Rect.unit (s := S520x512) ![6, 0] S512x512.size inb_S520x512_S512x512_6_0).toLoadRect) (arg18.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.1 (Rect.unit (s := S520x512) ![5, 0] S512x512.size inb_S520x512_S512x512_5_0).toLoadRect) := by
    unfold kernelRun0_A
    dsimp only
    sl_unfold_words
    rfl
  have h5 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.1 = sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 := funext fun y => (View.read_writes_junk_apply_eq_canon VS0_5 y _).symm
  refine (funext fun y => View.read_writes_junk_apply_eq_canon VO0_7 y _).trans ?_
  exact (congrArg View.canon key).trans (kListT_cov arg18.view _ _ h5 _ x2 (by rw [harg3.read_unread, View.ld_unit_lit _ x2 zeros]))

theorem dv_first : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 = truncf .bf16 (act 2 x2 (sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3)) bitsLt_bf16_f32 := by
  have key : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.1
      = vList (View.ld (arg3.view.read (Elt F) (harg3.unread x2)) (Rect.unit (s := S4x1536) ![0, 0] S4x1536.size inb_S4x1536_S4x1536_0_0)) (arg19.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.2.1 (Rect.unit (s := S520x512) ![8, 0] S512x512.size inb_S520x512_S512x512_8_0).toLoadRect) (arg19.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.2.1 (Rect.unit (s := S520x512) ![7, 0] S512x512.size inb_S520x512_S512x512_7_0).toLoadRect) (arg19.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.2.1 (Rect.unit (s := S520x512) ![6, 0] S512x512.size inb_S520x512_S512x512_6_0).toLoadRect) (arg19.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.2.1 (Rect.unit (s := S520x512) ![5, 0] S512x512.size inb_S520x512_S512x512_5_0).toLoadRect) := by
    unfold kernelRun0_A
    dsimp only
    sl_unfold_words
    rfl
  have h6 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.2.2.2.1 = sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 := funext fun y => (View.read_writes_junk_apply_eq_canon VS0_6 y _).symm
  refine (funext fun y => View.read_writes_junk_apply_eq_canon VO0_8 y _).trans ?_
  exact (congrArg View.canon key).trans (vList_cov arg19.view _ _ h6 _ x2 (by rw [harg3.read_unread, View.ld_unit_lit _ x2 zeros]))

theorem dzs_first : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 = dzs x0 (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3) := by
  have key : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.1
      = [⟨Rect.unit (s := S512x512) ![0, 0] S512x512.size inb_S512x512_S512x512_0_0, dzs (View.ld (arg1.view.read (Elt F) (harg1.unread x0)) (Rect.unit (s := S512x1024) ![0, 0] S512x1024.size inb_S512x1024_S512x1024_0_0)) (arg15.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.1 (Rect.unit (s := S1024x512) ![0, 0] S1024x512.size inb_S1024x512_S1024x512_0_0).toLoadRect)⟩] := by
    unfold kernelRun0_A
    dsimp only
    sl_unfold_words
    rfl
  have h2 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.1 = sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 := funext fun y => (View.read_writes_junk_apply_eq_canon VS0_2 y _).symm
  refine (funext fun y => View.read_writes_junk_apply_eq_canon VO0_9 y _).trans ?_
  rw [key, View.readCov_eq_canon', h2, harg1.read_unread, View.ld_unit_lit _ x0 zeros]
  refine (View.canon_cons_unit_lit _ _ _ zeros).trans (congrArg (dzs x0) ?_)
  exact View.ld_unit_lit _ _ zeros

theorem gates_first : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 = gates (prodG x0 (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3)) x3 := by
  have key : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.1
      = [⟨Rect.unit (s := S512x128) ![0, 0] S512x128.size inb_S512x128_S512x128_0_0, gates (prodG (View.ld (arg1.view.read (Elt F) (harg1.unread x0)) (Rect.unit (s := S512x1024) ![0, 0] S512x1024.size inb_S512x1024_S512x1024_0_0)) (arg16.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.1 (Rect.unit (s := S1024x128) ![0, 0] S1024x128.size inb_S1024x128_S1024x128_0_0).toLoadRect)) (View.ld (arg4.view.read (Elt F) (harg4.unread x3)) (Rect.unit (s := S2x128) ![0, 0] S2x128.size inb_S2x128_S2x128_0_0))⟩] := by
    unfold kernelRun0_A
    dsimp only
    sl_unfold_words
    rfl
  have h3 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.1 = sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 := funext fun y => (View.read_writes_junk_apply_eq_canon VS0_3 y _).symm
  refine (funext fun y => View.read_writes_junk_apply_eq_canon VO0_10 y _).trans ?_
  rw [key, View.readCov_eq_canon', h3, harg1.read_unread, View.ld_unit_lit _ x0 zeros, harg4.read_unread, View.ld_unit_lit _ x3 zeros]
  refine (View.canon_cons_unit_lit _ _ _ zeros).trans (congrArg (fun w => gates (prodG x0 w) x3) ?_)
  exact View.ld_unit_lit _ _ zeros

theorem gatesT_first : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 = gatesT (gates (prodG x0 (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3)) x3) := by
  have key : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.1
      = [⟨Rect.unit (s := S1x8x512) ![0, 0, 0] S1x8x512.size inb_S1x8x512_S1x8x512_0_0_0, gatesT (gates (prodG (View.ld (arg1.view.read (Elt F) (harg1.unread x0)) (Rect.unit (s := S512x1024) ![0, 0] S512x1024.size inb_S512x1024_S512x1024_0_0)) (arg16.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.1 (Rect.unit (s := S1024x128) ![0, 0] S1024x128.size inb_S1024x128_S1024x128_0_0).toLoadRect)) (View.ld (arg4.view.read (Elt F) (harg4.unread x3)) (Rect.unit (s := S2x128) ![0, 0] S2x128.size inb_S2x128_S2x128_0_0)))⟩] := by
    unfold kernelRun0_A
    dsimp only
    sl_unfold_words
    rfl
  have h3 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3).2.2.2.2.2.2.2.2.2.2.2.1 = sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 := funext fun y => (View.read_writes_junk_apply_eq_canon VS0_3 y _).symm
  refine (funext fun y => View.read_writes_junk_apply_eq_canon VO0_11 y _).trans ?_
  rw [key, View.readCov_eq_canon', h3, harg1.read_unread, View.ld_unit_lit _ x0 zeros, harg4.read_unread, View.ld_unit_lit _ x3 zeros]
  refine (View.canon_cons_unit_lit _ _ _ zeros3).trans (congrArg (fun w => gatesT (gates (prodG x0 w) x3)) ?_)
  exact View.ld_unit_lit _ _ zeros

end Cert.Project

end
-- ==== Proof.Project.Later.lean ====
/- What each grid point of the projections' kernel leaves: the pieces of its stores are those of `Body`, the first point's
   scratch buffers being the weights transposed, and a later point's those it finds. Each theorem names the pieces of one
   output or one scratch buffer in one of the two cases. -/
module

public import proofs.«01_k».proof.Proof.Project.Body

@[expose] public section

set_option maxRecDepth 65536

noncomputable section

namespace Cert.Project

open Cert.Kernel3Ideal Cert.Kernel3Ideal.Gen Idealize.ShloMosaic Idealize.ShloMosaic.TcCoe Idealize.SL.Sem

variable {F : FTy → Type} [FloatOps F]

variable (c : Dev nD) (i : grid0.Coords) (arg1 : Memref sig .tc .vmem S512x1024 .f32) (harg1 : arg1.IsWhole) (arg2 : Memref sig .tc .vmem S4872x1024 .f32) (harg2 : arg2.IsWhole) (arg3 : Memref sig .tc .vmem S4x1536 .f32) (harg3 : arg3.IsWhole) (arg4 : Memref sig .tc .vmem S2x128 .f32) (harg4 : arg4.IsWhole) (arg5 : Memref sig .tc .vmem S512x1024 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x128 .f32) (harg11 : arg11.IsWhole) (arg12 : Memref sig .tc .vmem S1x8x512 .f32) (harg12 : arg12.IsWhole) (arg13 : Memref sig .tc .vmem S1024x1024 .bf16) (harg13 : arg13.IsWhole) (arg14 : Memref sig .tc .vmem S1024x1536 .bf16) (harg14 : arg14.IsWhole) (arg15 : Memref sig .tc .vmem S1024x512 .bf16) (harg15 : arg15.IsWhole) (arg16 : Memref sig .tc .vmem S1024x128 .bf16) (harg16 : arg16.IsWhole) (arg17 : Memref sig .tc .vmem S520x512 .f32) (harg17 : arg17.IsWhole) (arg18 : Memref sig .tc .vmem S520x512 .f32) (harg18 : arg18.IsWhole) (arg19 : Memref sig .tc .vmem S520x512 .f32) (harg19 : arg19.IsWhole) (hc0 : ¬cond0_0 i)
    (x0 : Vec F S512x1024 .f32) (x1 : Vec F S4872x1024 .f32) (x2 : Vec F S4x1536 .f32) (x3 : Vec F S2x128 .f32)
    (xs0 : Vec F S1024x1024 .bf16) (xs1 : Vec F S1024x1536 .bf16) (xs2 : Vec F S1024x512 .bf16) (xs3 : Vec F S1024x128 .bf16) (xs4 : Vec F S520x512 .f32) (xs5 : Vec F S520x512 .f32) (xs6 : Vec F S520x512 .f32)

theorem fill0_later : sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6 = View.canon (fillPieces 0 i x0 xs1 (carried xs4)) := by
  have key : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.1
      = fillPieces 0 i (View.ld (arg1.view.read (Elt F) (harg1.unread x0)) (Rect.unit (s := S512x1024) ![0, 0] S512x1024.size inb_S512x1024_S512x1024_0_0)) (arg14.view.read (Elt F) (harg14.unread xs1)) (carried (arg17.view.read (Elt F) (harg17.unread xs4))) := by
    unfold kernelRun0_B
    dsimp only
    sl_unfold_words
    rfl
  refine (funext fun y => View.read_writes_junk_apply_eq_canon VS0_4 y _).trans ?_
  rw [key, harg1.read_unread, View.ld_unit_lit _ x0 zeros, harg14.read_unread, harg17.read_unread]

theorem fill1_later : sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6 = View.canon (fillPieces 1 i x0 xs1 (carried xs5)) := by
  have key : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.1
      = fillPieces 1 i (View.ld (arg1.view.read (Elt F) (harg1.unread x0)) (Rect.unit (s := S512x1024) ![0, 0] S512x1024.size inb_S512x1024_S512x1024_0_0)) (arg14.view.read (Elt F) (harg14.unread xs1)) (carried (arg18.view.read (Elt F) (harg18.unread xs5))) := by
    unfold kernelRun0_B
    dsimp only
    sl_unfold_words
    rfl
  refine (funext fun y => View.read_writes_junk_apply_eq_canon VS0_5 y _).trans ?_
  rw [key, harg1.read_unread, View.ld_unit_lit _ x0 zeros, harg14.read_unread, harg18.read_unread]

theorem fill2_later : sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6 = View.canon (fillPieces 2 i x0 xs1 (carried xs6)) := by
  have key : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.2.1
      = fillPieces 2 i (View.ld (arg1.view.read (Elt F) (harg1.unread x0)) (Rect.unit (s := S512x1024) ![0, 0] S512x1024.size inb_S512x1024_S512x1024_0_0)) (arg14.view.read (Elt F) (harg14.unread xs1)) (carried (arg19.view.read (Elt F) (harg19.unread xs6))) := by
    unfold kernelRun0_B
    dsimp only
    sl_unfold_words
    rfl
  refine (funext fun y => View.read_writes_junk_apply_eq_canon VS0_6 y _).trans ?_
  rw [key, harg1.read_unread, View.ld_unit_lit _ x0 zeros, harg14.read_unread, harg19.read_unread]

theorem aqkv_later : out0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6 = View.canon (aqkvPieces x0 xs0) := by
  have key : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).1
      = aqkvOf (View.ld (arg1.view.read (Elt F) (harg1.unread x0)) (Rect.unit (s := S512x1024) ![0, 0] S512x1024.size inb_S512x1024_S512x1024_0_0)) (View.ld (arg13.view.read (Elt F) (harg13.unread xs0)) (Rect.unit (s := S1024x1024) ![0, 512 * ((0 : Fin 2) : Nat)] S1024x512.size (inb_halfW 0))) (View.ld (arg13.view.read (Elt F) (harg13.unread xs0)) (Rect.unit (s := S1024x1024) ![0, 512 * ((1 : Fin 2) : Nat)] S1024x512.size (inb_halfW 1))) := by
    unfold kernelRun0_B
    dsimp only
    sl_unfold_words
    rfl
  refine (funext fun y => View.read_writes_junk_apply_eq_canon VO0_4 y _).trans ?_
  rw [key, harg13.read_unread, harg1.read_unread, View.ld_unit_lit _ x0 zeros]
  rfl

theorem dq_later : out0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6 = View.canon (unitPieces 0x3DB504F3#32 (act 0 x2 (sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6))) := by
  have key : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.1
      = qList (View.ld (arg3.view.read (Elt F) (harg3.unread x2)) (Rect.unit (s := S4x1536) ![0, 0] S4x1536.size inb_S4x1536_S4x1536_0_0)) (arg17.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.1 (Rect.unit (s := S520x512) ![8, 0] S512x512.size inb_S520x512_S512x512_8_0).toLoadRect) (arg17.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.1 (Rect.unit (s := S520x512) ![7, 0] S512x512.size inb_S520x512_S512x512_7_0).toLoadRect) (arg17.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.1 (Rect.unit (s := S520x512) ![6, 0] S512x512.size inb_S520x512_S512x512_6_0).toLoadRect) (arg17.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.1 (Rect.unit (s := S520x512) ![5, 0] S512x512.size inb_S520x512_S512x512_5_0).toLoadRect) := by
    unfold kernelRun0_B
    dsimp only
    sl_unfold_words
    rfl
  have h4 : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.1 = sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6 := funext fun y => (View.read_writes_junk_apply_eq_canon VS0_4 y _).symm
  refine (funext fun y => View.read_writes_junk_apply_eq_canon VO0_5 y _).trans ?_
  exact (congrArg View.canon key).trans (qList_cov arg17.view _ _ h4 _ x2 (by rw [harg3.read_unread, View.ld_unit_lit _ x2 zeros]))

theorem dk_later : out0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6 = View.canon (unitPieces 0x3F800000#32 (act 1 x2 (sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6))) := by
  have key : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.1
      = kList (View.ld (arg3.view.read (Elt F) (harg3.unread x2)) (Rect.unit (s := S4x1536) ![0, 0] S4x1536.size inb_S4x1536_S4x1536_0_0)) (arg18.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.1 (Rect.unit (s := S520x512) ![8, 0] S512x512.size inb_S520x512_S512x512_8_0).toLoadRect) (arg18.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.1 (Rect.unit (s := S520x512) ![7, 0] S512x512.size inb_S520x512_S512x512_7_0).toLoadRect) (arg18.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.1 (Rect.unit (s := S520x512) ![6, 0] S512x512.size inb_S520x512_S512x512_6_0).toLoadRect) (arg18.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.1 (Rect.unit (s := S520x512) ![5, 0] S512x512.size inb_S520x512_S512x512_5_0).toLoadRect) := by
    unfold kernelRun0_B
    dsimp only
    sl_unfold_words
    rfl
  have h5 : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.1 = sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6 := funext fun y => (View.read_writes_junk_apply_eq_canon VS0_5 y _).symm
  refine (funext fun y => View.read_writes_junk_apply_eq_canon VO0_6 y _).trans ?_
  exact (congrArg View.canon key).trans (kList_cov arg18.view _ _ h5 _ x2 (by rw [harg3.read_unread, View.ld_unit_lit _ x2 zeros]))

theorem dkt_later : out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6 = View.canon (unitPiecesT 0x3F800000#32 (act 1 x2 (sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6))) := by
  have key : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.1
      = kListT (View.ld (arg3.view.read (Elt F) (harg3.unread x2)) (Rect.unit (s := S4x1536) ![0, 0] S4x1536.size inb_S4x1536_S4x1536_0_0)) (arg18.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.1 (Rect.unit (s := S520x512) ![8, 0] S512x512.size inb_S520x512_S512x512_8_0).toLoadRect) (arg18.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.1 (Rect.unit (s := S520x512) ![7, 0] S512x512.size inb_S520x512_S512x512_7_0).toLoadRect) (arg18.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.1 (Rect.unit (s := S520x512) ![6, 0] S512x512.size inb_S520x512_S512x512_6_0).toLoadRect) (arg18.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.1 (Rect.unit (s := S520x512) ![5, 0] S512x512.size inb_S520x512_S512x512_5_0).toLoadRect) := by
    unfold kernelRun0_B
    dsimp only
    sl_unfold_words
    rfl
  have h5 : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.1 = sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6 := funext fun y => (View.read_writes_junk_apply_eq_canon VS0_5 y _).symm
  refine (funext fun y => View.read_writes_junk_apply_eq_canon VO0_7 y _).trans ?_
  exact (congrArg View.canon key).trans (kListT_cov arg18.view _ _ h5 _ x2 (by rw [harg3.read_unread, View.ld_unit_lit _ x2 zeros]))

theorem dv_later : out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6 = truncf .bf16 (act 2 x2 (sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6)) bitsLt_bf16_f32 := by
  have key : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.1
      = vList (View.ld (arg3.view.read (Elt F) (harg3.unread x2)) (Rect.unit (s := S4x1536) ![0, 0] S4x1536.size inb_S4x1536_S4x1536_0_0)) (arg19.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.2.1 (Rect.unit (s := S520x512) ![8, 0] S512x512.size inb_S520x512_S512x512_8_0).toLoadRect) (arg19.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.2.1 (Rect.unit (s := S520x512) ![7, 0] S512x512.size inb_S520x512_S512x512_7_0).toLoadRect) (arg19.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.2.1 (Rect.unit (s := S520x512) ![6, 0] S512x512.size inb_S520x512_S512x512_6_0).toLoadRect) (arg19.view.readCov (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.2.1 (Rect.unit (s := S520x512) ![5, 0] S512x512.size inb_S520x512_S512x512_5_0).toLoadRect) := by
    unfold kernelRun0_B
    dsimp only
    sl_unfold_words
    rfl
  have h6 : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.2.2.2.2.2.2.2.1 = sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6 := funext fun y => (View.read_writes_junk_apply_eq_canon VS0_6 y _).symm
  refine (funext fun y => View.read_writes_junk_apply_eq_canon VO0_8 y _).trans ?_
  exact (congrArg View.canon key).trans (vList_cov arg19.view _ _ h6 _ x2 (by rw [harg3.read_unread, View.ld_unit_lit _ x2 zeros]))

theorem dzs_later : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6 = dzs x0 xs2 := by
  have key : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.1
      = [⟨Rect.unit (s := S512x512) ![0, 0] S512x512.size inb_S512x512_S512x512_0_0, dzs (View.ld (arg1.view.read (Elt F) (harg1.unread x0)) (Rect.unit (s := S512x1024) ![0, 0] S512x1024.size inb_S512x1024_S512x1024_0_0)) (View.ld (arg15.view.read (Elt F) (harg15.unread xs2)) (Rect.unit (s := S1024x512) ![0, 0] S1024x512.size inb_S1024x512_S1024x512_0_0))⟩] := by
    unfold kernelRun0_B
    dsimp only
    sl_unfold_words
    rfl
  refine (funext fun y => View.read_writes_junk_apply_eq_canon VO0_9 y _).trans ?_
  rw [key, harg15.read_unread, harg1.read_unread, View.ld_unit_lit _ x0 zeros]
  refine (View.canon_cons_unit_lit _ _ _ zeros).trans (congrArg (dzs x0) ?_)
  exact View.ld_unit_lit _ _ zeros

theorem gates_later : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6 = gates (prodG x0 xs3) x3 := by
  have key : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.1
      = [⟨Rect.unit (s := S512x128) ![0, 0] S512x128.size inb_S512x128_S512x128_0_0, gates (prodG (View.ld (arg1.view.read (Elt F) (harg1.unread x0)) (Rect.unit (s := S512x1024) ![0, 0] S512x1024.size inb_S512x1024_S512x1024_0_0)) (View.ld (arg16.view.read (Elt F) (harg16.unread xs3)) (Rect.unit (s := S1024x128) ![0, 0] S1024x128.size inb_S1024x128_S1024x128_0_0))) (View.ld (arg4.view.read (Elt F) (harg4.unread x3)) (Rect.unit (s := S2x128) ![0, 0] S2x128.size inb_S2x128_S2x128_0_0))⟩] := by
    unfold kernelRun0_B
    dsimp only
    sl_unfold_words
    rfl
  refine (funext fun y => View.read_writes_junk_apply_eq_canon VO0_10 y _).trans ?_
  rw [key, harg16.read_unread, harg1.read_unread, View.ld_unit_lit _ x0 zeros, harg4.read_unread, View.ld_unit_lit _ x3 zeros]
  refine (View.canon_cons_unit_lit _ _ _ zeros).trans (congrArg (fun w => gates (prodG x0 w) x3) ?_)
  exact View.ld_unit_lit _ _ zeros

theorem gatesT_later : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6 = gatesT (gates (prodG x0 xs3) x3) := by
  have key : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 xs0 xs1 xs2 xs3 xs4 xs5 xs6).2.2.2.2.2.2.2.1
      = [⟨Rect.unit (s := S1x8x512) ![0, 0, 0] S1x8x512.size inb_S1x8x512_S1x8x512_0_0_0, gatesT (gates (prodG (View.ld (arg1.view.read (Elt F) (harg1.unread x0)) (Rect.unit (s := S512x1024) ![0, 0] S512x1024.size inb_S512x1024_S512x1024_0_0)) (View.ld (arg16.view.read (Elt F) (harg16.unread xs3)) (Rect.unit (s := S1024x128) ![0, 0] S1024x128.size inb_S1024x128_S1024x128_0_0))) (View.ld (arg4.view.read (Elt F) (harg4.unread x3)) (Rect.unit (s := S2x128) ![0, 0] S2x128.size inb_S2x128_S2x128_0_0)))⟩] := by
    unfold kernelRun0_B
    dsimp only
    sl_unfold_words
    rfl
  refine (funext fun y => View.read_writes_junk_apply_eq_canon VO0_11 y _).trans ?_
  rw [key, harg16.read_unread, harg1.read_unread, View.ld_unit_lit _ x0 zeros, harg4.read_unread, View.ld_unit_lit _ x3 zeros]
  refine (View.canon_cons_unit_lit _ _ _ zeros3).trans (congrArg (fun w => gatesT (gates (prodG x0 w) x3)) ?_)
  exact View.ld_unit_lit _ _ zeros

end Cert.Project

end
-- ==== Proof.Project.Weights.lean ====
/- The buffers of weights that the first point fills, at an index, over the extended reals: columns of the projection's
   weights, those of the attention scaled or twice side by side. -/
module

public import proofs.«01_k».proof.Proof.Project.Body

@[expose] public section

set_option maxRecDepth 16384

noncomputable section

namespace Cert.Project

open Cert.Kernel3Ideal Cert.Kernel3Ideal.Gen Idealize.ShloMosaic Idealize.ShloMosaic.TcCoe Idealize.SL.Sem

theorem mem_unit {s : Shape} (off size : Fin s.rank → Nat) (inb : ∀ a, off a + size a ≤ s.size a) (y : s.Idx)
    (h : ∀ a, off a ≤ (y a).val ∧ (y a).val < off a + size a) : y ∈ (Rect.unit off size inb).set := Rect.mem_set_unit.2 h

theorem cols_apply (x1 : Vec Ideal S4872x1024 .f32) (n : Fin 38) (k : Fin 1024) (l : Fin 128) :
    cols x1 n (ix2 k l) = x1 (ix2 ⟨128 * n.val + l.val, by omega⟩ k) := by
  unfold cols
  pointwise

theorem toBf_apply (w : FVec Ideal S1024x128 .f32) (k : Fin 1024) (l : Fin 128) : toBf w (ix2 k l) = w (ix2 k l) := by
  unfold toBf
  pointwise

theorem low_apply (k : Fin 1024) (l : Fin 128) : low (ix2 k l) = if l.val < 64 then 1#1 else 0#1 := by
  unfold low
  revert l
  have : ∀ l : Fin 128, IntOp.cmpi .slt (BitVec.ofNat 32 l.val) 64#32 = if l.val < 64 then 1#1 else 0#1 := by decide
  intro l
  rw [← this l]
  pointwise

theorem rolled_apply (w : FVec Ideal S1024x128 .f32) (k : Fin 1024) (l : Fin 128) :
    rolled w (ix2 k l) = w (ix2 k ⟨(l.val + 128 - 64) % 128, by omega⟩) := by
  unfold rolled
  pointwise

def eighth : EReal := Ideal.ofBits .f32 0x3E000000#32

/-- The column of the weights that lane `l` of the attention's block is made of. -/
def srcCol (l : Fin 1024) : Fin 4872 :=
  if l.val < 512 then ⟨l.val, by omega⟩ else ⟨512 + 128 * ((l.val - 512) / 256) + 64 * ((l.val - 512) / 128 % 2) + l.val % 64, by omega⟩

theorem scaled_apply (w : FVec Ideal S1024x128 .f32) (k : Fin 1024) (l : Fin 128) :
    toBf (mulf w (broadcast S1024x128 (Scalar.ofBits .f32 0x3E000000#32))) (ix2 k l) = w (ix2 k l) * eighth := by
  unfold toBf eighth
  pointwise

theorem select_low (a b : FVec Ideal S1024x128 .f32) (k : Fin 1024) (l : Fin 128) :
    toBf (select low a b) (ix2 k l) = if l.val < 64 then a (ix2 k l) else b (ix2 k l) := by
  rw [toBf_apply]
  show (if low (ix2 k l) = 1#1 then _ else _) = _
  rw [low_apply]
  by_cases h : l.val < 64
  · rw [if_pos h, if_pos h]; rfl
  · rw [if_neg h, if_neg h]; rfl

theorem attnTile_scaled (x1 : Vec Ideal S4872x1024 .f32) (j : Fin 8) (hj : j.val < 4) (k : Fin 1024) (l : Fin 128) :
    attnTile x1 j (ix2 k l) = x1 (ix2 ⟨128 * j.val + l.val, by omega⟩ k) * eighth := by
  match j, hj with
  | 0, _ => exact (scaled_apply _ k l).trans (congrArg (· * eighth) (cols_apply x1 0 k l))
  | 1, _ => exact (scaled_apply _ k l).trans (congrArg (· * eighth) (cols_apply x1 1 k l))
  | 2, _ => exact (scaled_apply _ k l).trans (congrArg (· * eighth) (cols_apply x1 2 k l))
  | 3, _ => exact (scaled_apply _ k l).trans (congrArg (· * eighth) (cols_apply x1 3 k l))

/-- Lane `l` of two heads side by side, the first of them twice, or the second. -/
theorem twice_low (x1 : Vec Ideal S4872x1024 .f32) (n : Fin 38) (k : Fin 1024) (l : Fin 128) :
    toBf (select low (cols x1 n) (rolled (cols x1 n))) (ix2 k l) = x1 (ix2 ⟨128 * n.val + l.val % 64, by omega⟩ k) := by
  rw [select_low, rolled_apply, cols_apply, cols_apply]
  split
  · exact congrArg x1 (congrArg (fun y => ix2 y k) (Fin.ext (by show 128 * n.val + l.val = 128 * n.val + l.val % 64; omega)))
  · exact congrArg x1 (congrArg (fun y => ix2 y k) (Fin.ext (by show 128 * n.val + (l.val + 128 - 64) % 128 = 128 * n.val + l.val % 64; omega)))

theorem twice_high (x1 : Vec Ideal S4872x1024 .f32) (n : Fin 38) (k : Fin 1024) (l : Fin 128) :
    toBf (select low (rolled (cols x1 n)) (cols x1 n)) (ix2 k l) = x1 (ix2 ⟨128 * n.val + 64 + l.val % 64, by omega⟩ k) := by
  rw [select_low, rolled_apply, cols_apply, cols_apply]
  split
  · exact congrArg x1 (congrArg (fun y => ix2 y k) (Fin.ext (by show 128 * n.val + (l.val + 128 - 64) % 128 = 128 * n.val + 64 + l.val % 64; omega)))
  · exact congrArg x1 (congrArg (fun y => ix2 y k) (Fin.ext (by show 128 * n.val + l.val = 128 * n.val + 64 + l.val % 64; omega)))

theorem attnTile_twice (x1 : Vec Ideal S4872x1024 .f32) (j : Fin 8) (hj : 4 ≤ j.val) (k : Fin 1024) (l : Fin 128) :
    attnTile x1 j (ix2 k l) = x1 (ix2 ⟨512 + 128 * ((j.val - 4) / 2) + 64 * (j.val % 2) + l.val % 64, by omega⟩ k) := by
  match j, hj with
  | 4, _ => exact twice_low x1 4 k l
  | 5, _ => exact twice_high x1 4 k l
  | 6, _ => exact twice_low x1 5 k l
  | 7, _ => exact twice_high x1 5 k l

/-- The tiles side by side. -/
def attnArray (x1 : Vec Ideal S4872x1024 .f32) : Vec Ideal S1024x1024 .bf16 := fun y =>
  attnTile x1 ⟨(y 1).val / 128, by have := ValueIdx.idx2_lt1 y; omega⟩ (ix2 ⟨(y 0).val, ValueIdx.idx2_lt0 y⟩ ⟨(y 1).val % 128, by omega⟩)

theorem attn_canon (x1 : Vec Ideal S4872x1024 .f32) (k : Fin 1024) (l : Fin 1024) :
    View.canon (attnPieces x1) (ix2 k l) = attnTile x1 ⟨l.val / 128, by omega⟩ (ix2 k ⟨l.val % 128, by omega⟩) := by
  have h := canon_agree (attnArray x1) (attnPieces x1) [] (ix2 k l) (fun pc hpc => ?_) ?_
  · rw [List.append_nil] at h
    exact h
  · obtain ⟨j, -, rfl⟩ := List.mem_map.1 hpc
    intro x
    have h1 := ValueIdx.idx2_lt1 x
    have e0 : (((Rect.unit (s := S1024x1024) ![0, 128 * j.val] S1024x128.size (inb_lanes8 j)).emb x) 0).val = (x 0).val := by
      show 0 + 1 * (x _).val = _; rw [one_mul, zero_add]
    have e1 : (((Rect.unit (s := S1024x1024) ![0, 128 * j.val] S1024x128.size (inb_lanes8 j)).emb x) 1).val = 128 * j.val + (x 1).val := by
      show 128 * _ + 1 * (x _).val = _; rw [one_mul]
    unfold attnArray
    dsimp only
    have hj : (⟨(((Rect.unit (s := S1024x1024) ![0, 128 * j.val] S1024x128.size (inb_lanes8 j)).emb x) 1).val / 128, by rw [e1]; omega⟩ : Fin 8) = j :=
      Fin.ext (by show _ / 128 = _; rw [e1]; omega)
    refine (congrArg₂ (fun a b => attnTile x1 a b) hj ?_).symm
    funext a
    match a with
    | ⟨0, _⟩ => exact Fin.ext e0
    | ⟨1, _⟩ => exact Fin.ext (by show _ % 128 = (x 1).val; rw [e1]; omega)
  · have hl := l.isLt
    refine ⟨⟨Rect.unit (s := S1024x1024) ![0, 128 * (l.val / 128)] S1024x128.size (inb_lanes8 ⟨l.val / 128, by omega⟩), attnTile x1 ⟨l.val / 128, by omega⟩⟩,
      List.mem_map.2 ⟨⟨l.val / 128, by omega⟩, ?_, rfl⟩, mem_unit _ _ (inb_lanes8 ⟨l.val / 128, by omega⟩) _ fun a => ?_⟩
    · generalize (⟨l.val / 128, by omega⟩ : Fin 8) = j
      revert j; decide
    · match a with
      | ⟨0, _⟩ => exact ⟨Nat.zero_le _, by show k.val < 0 + 1024; omega⟩
      | ⟨1, _⟩ => exact ⟨by show 128 * (l.val / 128) ≤ l.val; omega, by show l.val < 128 * (l.val / 128) + 128; omega⟩

/-- The attention's weights. -/
theorem attn_apply (x1 : Vec Ideal S4872x1024 .f32) (k l : Fin 1024) :
    View.canon (attnPieces x1) (ix2 k l) = if l.val < 512 then x1 (ix2 (srcCol l) k) * eighth else x1 (ix2 (srcCol l) k) := by
  rw [attn_canon]
  unfold srcCol
  by_cases h : l.val < 512
  · rw [if_pos h, if_pos h, attnTile_scaled _ _ (by show l.val / 128 < 4; omega)]
    exact congrArg (x1 · * eighth) (congrArg (fun y => ix2 y k) (Fin.ext (by show 128 * (l.val / 128) + l.val % 128 = l.val; omega)))
  · have hl := l.isLt
    rw [if_neg h, if_neg h, attnTile_twice _ _ (by show 4 ≤ l.val / 128; omega)]
    exact congrArg x1 (congrArg (fun y => ix2 y k) (Fin.ext (by
      show 512 + 128 * ((l.val / 128 - 4) / 2) + 64 * (l.val / 128 % 2) + l.val % 128 % 64
        = 512 + 128 * ((l.val - 512) / 256) + 64 * ((l.val - 512) / 128 % 2) + l.val % 64
      omega)))

def convTile (x1 : Vec Ideal S4872x1024 .f32) (j : Fin 12) : FVec Ideal S1024x128 .bf16 := toBf (cols x1 ⟨6 + j.val, by omega⟩)
def zTile (x1 : Vec Ideal S4872x1024 .f32) (j : Fin 4) : FVec Ideal S1024x128 .bf16 := toBf (cols x1 ⟨18 + j.val, by omega⟩)

/-- The tiles side by side. -/
def convArray (x1 : Vec Ideal S4872x1024 .f32) : Vec Ideal S1024x1536 .bf16 := fun y =>
  convTile x1 ⟨(y 1).val / 128, by have := ValueIdx.idx2_lt1 y; omega⟩ (ix2 ⟨(y 0).val, ValueIdx.idx2_lt0 y⟩ ⟨(y 1).val % 128, by omega⟩)

theorem conv_canon (x1 : Vec Ideal S4872x1024 .f32) (k : Fin 1024) (l : Fin 1536) :
    View.canon (convPieces x1) (ix2 k l) = convTile x1 ⟨l.val / 128, by omega⟩ (ix2 k ⟨l.val % 128, by omega⟩) := by
  have h := canon_agree (convArray x1) (convPieces x1) [] (ix2 k l) (fun pc hpc => ?_) ?_
  · rw [List.append_nil] at h
    exact h
  · obtain ⟨j, -, rfl⟩ := List.mem_map.1 hpc
    intro x
    have h1 := ValueIdx.idx2_lt1 x
    have e0 : (((Rect.unit (s := S1024x1536) ![0, 128 * j.val] S1024x128.size (inb_lanes12 j)).emb x) 0).val = (x 0).val := by
      show 0 + 1 * (x _).val = _; rw [one_mul, zero_add]
    have e1 : (((Rect.unit (s := S1024x1536) ![0, 128 * j.val] S1024x128.size (inb_lanes12 j)).emb x) 1).val = 128 * j.val + (x 1).val := by
      show 128 * _ + 1 * (x _).val = _; rw [one_mul]
    unfold convArray
    dsimp only
    have hj : (⟨(((Rect.unit (s := S1024x1536) ![0, 128 * j.val] S1024x128.size (inb_lanes12 j)).emb x) 1).val / 128, by rw [e1]; omega⟩ : Fin 12) = j :=
      Fin.ext (by show _ / 128 = _; rw [e1]; omega)
    refine (congrArg₂ (fun a b => convTile x1 a b) hj ?_).symm
    funext a
    match a with
    | ⟨0, _⟩ => exact Fin.ext e0
    | ⟨1, _⟩ => exact Fin.ext (by show _ % 128 = (x 1).val; rw [e1]; omega)
  · have hl := l.isLt
    refine ⟨⟨Rect.unit (s := S1024x1536) ![0, 128 * (l.val / 128)] S1024x128.size (inb_lanes12 ⟨l.val / 128, by omega⟩), convTile x1 ⟨l.val / 128, by omega⟩⟩,
      List.mem_map.2 ⟨⟨l.val / 128, by omega⟩, ?_, rfl⟩, mem_unit _ _ (inb_lanes12 ⟨l.val / 128, by omega⟩) _ fun a => ?_⟩
    · generalize (⟨l.val / 128, by omega⟩ : Fin 12) = j
      revert j; decide
    · match a with
      | ⟨0, _⟩ => exact ⟨Nat.zero_le _, by show k.val < 0 + 1024; omega⟩
      | ⟨1, _⟩ => exact ⟨by show 128 * (l.val / 128) ≤ l.val; omega, by show l.val < 128 * (l.val / 128) + 128; omega⟩

/-- The tiles side by side. -/
def zArray (x1 : Vec Ideal S4872x1024 .f32) : Vec Ideal S1024x512 .bf16 := fun y =>
  zTile x1 ⟨(y 1).val / 128, by have := ValueIdx.idx2_lt1 y; omega⟩ (ix2 ⟨(y 0).val, ValueIdx.idx2_lt0 y⟩ ⟨(y 1).val % 128, by omega⟩)

theorem z_canon (x1 : Vec Ideal S4872x1024 .f32) (k : Fin 1024) (l : Fin 512) :
    View.canon (zPieces x1) (ix2 k l) = zTile x1 ⟨l.val / 128, by omega⟩ (ix2 k ⟨l.val % 128, by omega⟩) := by
  have h := canon_agree (zArray x1) (zPieces x1) [] (ix2 k l) (fun pc hpc => ?_) ?_
  · rw [List.append_nil] at h
    exact h
  · obtain ⟨j, -, rfl⟩ := List.mem_map.1 hpc
    intro x
    have h1 := ValueIdx.idx2_lt1 x
    have e0 : (((Rect.unit (s := S1024x512) ![0, 128 * j.val] S1024x128.size (inb_lanes4 j)).emb x) 0).val = (x 0).val := by
      show 0 + 1 * (x _).val = _; rw [one_mul, zero_add]
    have e1 : (((Rect.unit (s := S1024x512) ![0, 128 * j.val] S1024x128.size (inb_lanes4 j)).emb x) 1).val = 128 * j.val + (x 1).val := by
      show 128 * _ + 1 * (x _).val = _; rw [one_mul]
    unfold zArray
    dsimp only
    have hj : (⟨(((Rect.unit (s := S1024x512) ![0, 128 * j.val] S1024x128.size (inb_lanes4 j)).emb x) 1).val / 128, by rw [e1]; omega⟩ : Fin 4) = j :=
      Fin.ext (by show _ / 128 = _; rw [e1]; omega)
    refine (congrArg₂ (fun a b => zTile x1 a b) hj ?_).symm
    funext a
    match a with
    | ⟨0, _⟩ => exact Fin.ext e0
    | ⟨1, _⟩ => exact Fin.ext (by show _ % 128 = (x 1).val; rw [e1]; omega)
  · have hl := l.isLt
    refine ⟨⟨Rect.unit (s := S1024x512) ![0, 128 * (l.val / 128)] S1024x128.size (inb_lanes4 ⟨l.val / 128, by omega⟩), zTile x1 ⟨l.val / 128, by omega⟩⟩,
      List.mem_map.2 ⟨⟨l.val / 128, by omega⟩, ?_, rfl⟩, mem_unit _ _ (inb_lanes4 ⟨l.val / 128, by omega⟩) _ fun a => ?_⟩
    · generalize (⟨l.val / 128, by omega⟩ : Fin 4) = j
      revert j; decide
    · match a with
      | ⟨0, _⟩ => exact ⟨Nat.zero_le _, by show k.val < 0 + 1024; omega⟩
      | ⟨1, _⟩ => exact ⟨by show 128 * (l.val / 128) ≤ l.val; omega, by show l.val < 128 * (l.val / 128) + 128; omega⟩

/-- The convolved columns' weights. -/
theorem conv_apply (x1 : Vec Ideal S4872x1024 .f32) (k : Fin 1024) (l : Fin 1536) :
    View.canon (convPieces x1) (ix2 k l) = x1 (ix2 ⟨768 + l.val, by omega⟩ k) := by
  rw [conv_canon]
  unfold convTile
  rw [toBf_apply, cols_apply]
  exact congrArg x1 (congrArg (fun y => ix2 y k) (Fin.ext (by show 128 * (6 + l.val / 128) + l.val % 128 = 768 + l.val; omega)))

/-- The output gate's. -/
theorem z_apply (x1 : Vec Ideal S4872x1024 .f32) (k : Fin 1024) (l : Fin 512) :
    View.canon (zPieces x1) (ix2 k l) = x1 (ix2 ⟨2304 + l.val, by omega⟩ k) := by
  rw [z_canon]
  unfold zTile
  rw [toBf_apply, cols_apply]
  exact congrArg x1 (congrArg (fun y => ix2 y k) (Fin.ext (by show 128 * (18 + l.val / 128) + l.val % 128 = 2304 + l.val; omega)))

/-- The gates', in the lanes that hold any. -/
theorem gateW_apply (x1 : Vec Ideal S4872x1024 .f32) (k : Fin 1024) (l : Fin 128) (h : l.val < 8) :
    gateW x1 (ix2 k l) = x1 (ix2 ⟨2816 + l.val, by omega⟩ k) := by
  unfold gateW
  rw [toBf_apply]
  have hl : (cmpi .slt (iota .tc S1024x128 32 [1] iota_S1024x128_d1_w32) (broadcast S1024x128 8#32)) (ix2 k l) = 1#1 := by
    have : ∀ l : Fin 128, l.val < 8 → IntOp.cmpi .slt (BitVec.ofNat 32 l.val) 8#32 = 1#1 := by decide
    rw [← this l h]
    pointwise
  show (if _ = 1#1 then _ else _) = _
  rw [hl]
  exact cols_apply x1 22 k l

end Cert.Project

end
-- ==== Proof.Project.BlockValue.lean ====
/- What a grid point stores, at an index, over the extended reals. -/
module

public import proofs.«01_k».proof.Proof.Project.Weights
public import proofs.«01_k».proof.Proof.Merge.Row

@[expose] public section

set_option maxRecDepth 16384

noncomputable section

namespace Cert.Project

open Cert.Kernel3Ideal Cert.Kernel3Ideal.Gen Idealize.ShloMosaic Idealize.ShloMosaic.TcCoe Idealize.SL.Sem

open Cert.Merge (half gate)

def small : EReal := Ideal.ofBits .f32 0x358637BD#32

/-! ## Products -/

theorem prod_apply (x0 : Vec Ideal S512x1024 .f32) (w : Vec Ideal S1024x512 .bf16) (r l : Fin 512) :
    prod x0 w (ix2 r l) = ∑ k, x0 (ix2 r k) * w (ix2 k l) := by
  unfold prod
  pointwise

theorem prodG_apply (x0 : Vec Ideal S512x1024 .f32) (w : Vec Ideal S1024x128 .bf16) (r : Fin 512) (l : Fin 128) :
    prodG x0 w (ix2 r l) = ∑ k, x0 (ix2 r k) * w (ix2 k l) := by
  unfold prodG
  pointwise

/-- The attention's block. -/
theorem aqkv_canon (x0 : Vec Ideal S512x1024 .f32) (w : Vec Ideal S1024x1024 .bf16) (r : Fin 512) (l : Fin 1024) :
    View.canon (aqkvPieces x0 w) (ix2 r l) = ∑ k, x0 (ix2 r k) * w (ix2 k l) := by
  have key : ∀ (h : Fin 2) (a b : Fin 512),
      truncf .bf16 (prod x0 (View.ld w (Rect.unit (s := S1024x1024) ![0, 512 * h.val] S1024x512.size (inb_halfW h)))) bitsLt_bf16_f32 (ix2 a b)
        = ∑ k, x0 (ix2 a k) * w (ix2 k ⟨512 * h.val + b.val, by omega⟩) := by
    intro h a b
    have hp : ∀ v : FVec Ideal S512x512 .f32, truncf (F := Ideal) .bf16 v bitsLt_bf16_f32 (ix2 a b) = v (ix2 a b) := fun v => by pointwise
    rw [hp, prod_apply]
    refine Finset.sum_congr rfl fun k _ => congrArg (x0 (ix2 a k) * ·) ?_
    pointwise
  let G : Vec Ideal S512x1024 .bf16 := fun y => ∑ k, x0 (ix2 ⟨(y 0).val, ValueIdx.idx2_lt0 y⟩ k) * w (ix2 k ⟨(y 1).val, ValueIdx.idx2_lt1 y⟩)
  have hG : ∀ (h : Fin 2) (x : S512x512.Idx),
      truncf .bf16 (prod x0 (View.ld w (Rect.unit (s := S1024x1024) ![0, 512 * h.val] S1024x512.size (inb_halfW h)))) bitsLt_bf16_f32 x
        = G ((Rect.unit (s := S512x1024) ![0, 512 * h.val] S512x512.size (inb_half h)).emb x) := by
    intro h x
    obtain ⟨a, b, rfl⟩ : ∃ a b, x = ix2 a b := ⟨_, _, ValueIdx.eq_ix2 x⟩
    rw [key]
    refine Finset.sum_congr rfl fun k _ => ?_
    congr 1
    · exact congrArg x0 (congrArg (fun y => ix2 y k) (Fin.ext (by show a.val = 0 + 1 * a.val; omega)))
    · exact congrArg w (congrArg (fun y => ix2 k y) (Fin.ext (by show 512 * h.val + b.val = 512 * h.val + 1 * b.val; omega)))
  have h := canon_agree G (aqkvPieces x0 w) [] (ix2 r l) (fun pc hpc => ?_) ?_
  · rw [List.append_nil] at h
    exact h
  · rcases List.mem_cons.1 hpc with rfl | hpc
    · exact hG 1
    · obtain rfl := List.mem_singleton.1 hpc
      exact hG 0
  · by_cases hl : l.val < 512
    · refine ⟨_, List.mem_cons_of_mem _ (List.mem_singleton.2 rfl), mem_unit _ _ (inb_half 0) _ fun a => ?_⟩
      match a with
      | ⟨0, _⟩ => exact ⟨Nat.zero_le _, by show r.val < 0 + 512; omega⟩
      | ⟨1, _⟩ => exact ⟨Nat.zero_le _, by show l.val < 0 + 512; omega⟩
    · refine ⟨_, List.mem_cons_self .., mem_unit _ _ (inb_half 1) _ fun a => ?_⟩
      match a with
      | ⟨0, _⟩ => exact ⟨Nat.zero_le _, by show r.val < 0 + 512; omega⟩
      | ⟨1, _⟩ => exact ⟨by show 512 ≤ l.val; omega, by show l.val < 512 + 512; omega⟩

/-! ## The buffer of a group -/

theorem fill_own (i : grid0.Coords) (x0 : Vec Ideal S512x1024 .f32) (w : Vec Ideal S1024x512 .bf16) (carry : Vec Ideal S8x512 .f32)
    (rest : List (View.Piece (Elt Ideal) S520x512 .f32)) (r l : Fin 512) :
    View.canon (fillOf i x0 w carry ++ rest) (ix2 ⟨8 + r.val, by omega⟩ l) = prod x0 w (ix2 r l) := by
  have h := View.canon_cons_emb (Rect.unit (s := S520x512) ![8, 0] S512x512.size inb_S520x512_S512x512_8_0)
    (shapeCast S512x512 (prod x0 w) shapeCasts_S512x512_S512x512)
    (⟨Rect.unit (s := S520x512) ![0, 0] S8x512.size inb_S520x512_S8x512_0_0, halo i carry⟩ :: rest) (ix2 r l)
  have e : (Rect.unit (s := S520x512) ![8, 0] S512x512.size inb_S520x512_S512x512_8_0).emb (ix2 r l) = ix2 (⟨8 + r.val, by omega⟩ : Fin 520) l := by
    funext a
    match a with
    | ⟨0, _⟩ => exact Fin.ext (by show 8 + 1 * r.val = 8 + r.val; omega)
    | ⟨1, _⟩ => exact Fin.ext (by show 0 + 1 * l.val = l.val; omega)
  rw [e] at h
  refine Eq.trans (b := shapeCast S512x512 (prod x0 w) shapeCasts_S512x512_S512x512 (ix2 r l)) h ?_
  generalize prod x0 w = v
  pointwise

theorem zero_eq : Ideal.ofBits .f32 0x00000000#32 = (0 : EReal) := by simp [Ideal.ofBits, Ideal.ieee]

theorem select_apply (f : BitVec 1) (carry : Vec Ideal S8x512 .f32) (r : Fin 8) (l : Fin 512) :
    shapeCast S8x512 (Scalar.select f (broadcast S8x512 (Scalar.ofBits (F := Ideal) .f32 0x00000000#32)) carry) shapeCasts_S8x512_S8x512 (ix2 r l)
      = if f = 1#1 then 0 else carry (ix2 r l) := by
  have hc : ∀ v : FVec Ideal S8x512 .f32, shapeCast S8x512 v shapeCasts_S8x512_S8x512 (ix2 r l) = v (ix2 r l) := fun v => by pointwise
  rw [hc]
  unfold Scalar.select
  show (if f = 1#1 then broadcast S8x512 (Scalar.ofBits (F := Ideal) .f32 0x00000000#32) else carry) (ix2 r l) = _
  by_cases hf : f = 1#1
  · rw [if_pos hf, if_pos hf]; exact zero_eq
  · rw [if_neg hf, if_neg hf]

theorem halo_apply (i : grid0.Coords) (carry : Vec Ideal S8x512 .f32) (r : Fin 8) (l : Fin 512) :
    halo i carry (ix2 r l) = if isFirst i = 1#1 then 0 else carry (ix2 r l) := select_apply (isFirst i) carry r l

theorem fill_halo (i : grid0.Coords) (x0 : Vec Ideal S512x1024 .f32) (w : Vec Ideal S1024x512 .bf16) (carry : Vec Ideal S8x512 .f32)
    (rest : List (View.Piece (Elt Ideal) S520x512 .f32)) (r : Fin 8) (l : Fin 512) :
    View.canon (fillOf i x0 w carry ++ rest) (ix2 ⟨r.val, by omega⟩ l) = if isFirst i = 1#1 then 0 else carry (ix2 r l) := by
  have hn : (ix2 (⟨r.val, by omega⟩ : Fin 520) l : S520x512.Idx) ∉ (Rect.unit (s := S520x512) ![8, 0] S512x512.size inb_S520x512_S512x512_8_0).set := by
    intro h
    have h8 : 8 ≤ r.val := (Rect.mem_set_unit.1 h 0).1
    omega
  have h := View.canon_cons_emb (Rect.unit (s := S520x512) ![0, 0] S8x512.size inb_S520x512_S8x512_0_0) (halo i carry) rest (ix2 r l)
  have e : (Rect.unit (s := S520x512) ![0, 0] S8x512.size inb_S520x512_S8x512_0_0).emb (ix2 r l) = ix2 (⟨r.val, by omega⟩ : Fin 520) l := by
    funext a
    match a with
    | ⟨0, _⟩ => exact Fin.ext (by show 0 + 1 * r.val = r.val; omega)
    | ⟨1, _⟩ => exact Fin.ext (by show 0 + 1 * l.val = l.val; omega)
  rw [e] at h
  rw [halo_apply] at h
  unfold fillOf
  rw [List.cons_append, List.cons_append, List.nil_append]
  exact (View.canon_cons_of_not_mem (⟨Rect.unit (s := S520x512) ![8, 0] S512x512.size inb_S520x512_S512x512_8_0,
    shapeCast S512x512 (prod x0 w) shapeCasts_S512x512_S512x512⟩ : View.Piece (Elt Ideal) S520x512 .f32)
    (⟨Rect.unit (s := S520x512) ![0, 0] S8x512.size inb_S520x512_S8x512_0_0, halo i carry⟩ :: rest) hn).trans h

theorem carried_apply (b : Vec Ideal S520x512 .f32) (r : Fin 8) (l : Fin 512) : carried b (ix2 r l) = b (ix2 ⟨512 + r.val, by omega⟩ l) := by
  unfold carried
  pointwise

theorem tap_apply (b : Vec Ideal S520x512 .f32) (s : Fin 4) (r l : Fin 512) : tap b s (ix2 r l) = b (ix2 ⟨8 - s.val + r.val, by omega⟩ l) := by
  unfold tap
  pointwise

theorem group_apply (w : Vec Ideal S1024x1536 .bf16) (g : Fin 3) (k : Fin 1024) (l : Fin 512) :
    View.ld w (Rect.unit (s := S1024x1536) ![0, 512 * g.val] S1024x512.size (inb_group g)) (ix2 k l) = w (ix2 k ⟨512 * g.val + l.val, by omega⟩) := by
  pointwise

/-! ## The convolution -/

theorem convOf_apply (g : Fin 3) (x2 : Vec Ideal S4x1536 .f32) (b0 b1 b2 b3 : Vec Ideal S512x512 .f32) (r l : Fin 512) :
    convOf g x2 b0 b1 b2 b3 (ix2 r l)
      = b0 (ix2 r l) * (half * x2 (ix2 3 ⟨512 * g.val + l.val, by omega⟩)) + b1 (ix2 r l) * (half * x2 (ix2 2 ⟨512 * g.val + l.val, by omega⟩))
        + b2 (ix2 r l) * (half * x2 (ix2 1 ⟨512 * g.val + l.val, by omega⟩)) + b3 (ix2 r l) * (half * x2 (ix2 0 ⟨512 * g.val + l.val, by omega⟩)) := by
  unfold convOf half
  pointwise

theorem twiceSilu_apply (h : FVec Ideal S512x512 .f32) (i : S512x512.Idx) : twiceSilu h i = h i + h i * Ideal.tanh (h i) := rfl

theorem dzs_apply (x0 : Vec Ideal S512x1024 .f32) (w : Vec Ideal S1024x512 .bf16) (r l : Fin 512) :
    dzs x0 w (ix2 r l) = half * prod x0 w (ix2 r l) + half * prod x0 w (ix2 r l) * Ideal.tanh (half * prod x0 w (ix2 r l)) := rfl

/-! ## Rows of unit length -/

theorem headOf_apply (h : Fin 4) (y : FVec Ideal S512x512 .f32) (r : Fin 512) (l : Fin 128) :
    headOf h y (ix2 r l) = y (ix2 r ⟨128 * h.val + l.val, by omega⟩) := by
  unfold headOf
  pointwise

theorem unitRows_apply (scale : BitVec 32) (y : FVec Ideal S512x128 .f32) (r : Fin 512) (l : Fin 128) :
    unitRows scale y (ix2 r l) = y (ix2 r l) * (Ideal.rsqrt ((∑ d, y (ix2 r d) * y (ix2 r d)) + small) * Ideal.ofBits .f32 scale) := by
  unfold unitRows small
  pointwise

/-- Lane `l` of a row whose heads are made of unit length. -/
def unitAt (y : Fin 512 → EReal) (c : EReal) (l : Fin 512) : EReal :=
  y l * (Ideal.rsqrt ((∑ d : Fin 128, y ⟨128 * (l.val / 128) + d.val, by omega⟩ * y ⟨128 * (l.val / 128) + d.val, by omega⟩) + small) * c)

def unitTile (scale : BitVec 32) (y : FVec Ideal S512x512 .f32) (h : Fin 4) : FVec Ideal S512x128 .bf16 := unitRows scale (headOf h y)

/-- The tiles side by side. -/
def unitArray (scale : BitVec 32) (y : FVec Ideal S512x512 .f32) : Vec Ideal S512x512 .bf16 := fun i =>
  unitTile scale y ⟨(i 1).val / 128, by have := ValueIdx.idx2_lt1 i; omega⟩ (ix2 ⟨(i 0).val, ValueIdx.idx2_lt0 i⟩ ⟨(i 1).val % 128, by omega⟩)

theorem unit_canon (scale : BitVec 32) (y : FVec Ideal S512x512 .f32) (k : Fin 512) (l : Fin 512) :
    View.canon (unitPieces scale y) (ix2 k l) = unitTile scale y ⟨l.val / 128, by omega⟩ (ix2 k ⟨l.val % 128, by omega⟩) := by
  have h := canon_agree (unitArray scale y) (unitPieces scale y) [] (ix2 k l) (fun pc hpc => ?_) ?_
  · rw [List.append_nil] at h
    exact h
  · obtain ⟨j, -, rfl⟩ := List.mem_map.1 hpc
    intro x
    have h1 := ValueIdx.idx2_lt1 x
    have e0 : (((Rect.unit (s := S512x512) ![0, 128 * j.val] S512x128.size (inb_head j)).emb x) 0).val = (x 0).val := by
      show 0 + 1 * (x _).val = _; rw [one_mul, zero_add]
    have e1 : (((Rect.unit (s := S512x512) ![0, 128 * j.val] S512x128.size (inb_head j)).emb x) 1).val = 128 * j.val + (x 1).val := by
      show 128 * _ + 1 * (x _).val = _; rw [one_mul]
    unfold unitArray
    dsimp only
    have hj : (⟨(((Rect.unit (s := S512x512) ![0, 128 * j.val] S512x128.size (inb_head j)).emb x) 1).val / 128, by rw [e1]; omega⟩ : Fin 4) = j :=
      Fin.ext (by show _ / 128 = _; rw [e1]; omega)
    refine (congrArg₂ (fun a b => unitTile scale y a b) hj ?_).symm
    funext a
    match a with
    | ⟨0, _⟩ => exact Fin.ext e0
    | ⟨1, _⟩ => exact Fin.ext (by show _ % 128 = (x 1).val; rw [e1]; omega)
  · have hl := l.isLt
    refine ⟨⟨Rect.unit (s := S512x512) ![0, 128 * (l.val / 128)] S512x128.size (inb_head ⟨l.val / 128, by omega⟩), unitTile scale y ⟨l.val / 128, by omega⟩⟩,
      List.mem_map.2 ⟨⟨l.val / 128, by omega⟩, ?_, rfl⟩, mem_unit _ _ (inb_head ⟨l.val / 128, by omega⟩) _ fun a => ?_⟩
    · generalize (⟨l.val / 128, by omega⟩ : Fin 4) = j
      revert j; decide
    · match a with
      | ⟨0, _⟩ => exact ⟨Nat.zero_le _, by show k.val < 0 + 512; omega⟩
      | ⟨1, _⟩ => exact ⟨by show 128 * (l.val / 128) ≤ l.val; omega, by show l.val < 128 * (l.val / 128) + 128; omega⟩

theorem unitTile_apply (scale : BitVec 32) (y : FVec Ideal S512x512 .f32) (r l : Fin 512) :
    unitTile scale y ⟨l.val / 128, by omega⟩ (ix2 r ⟨l.val % 128, by omega⟩) = unitAt (fun d => y (ix2 r d)) (Ideal.ofBits .f32 scale) l := by
  unfold unitTile
  rw [unitRows_apply]
  simp only [headOf_apply]
  unfold unitAt
  refine congrArg (· * _) (congrArg y (congrArg (fun z => ix2 r z) (Fin.ext ?_)))
  show 128 * (l.val / 128) + l.val % 128 = l.val
  omega

theorem unit_apply (scale : BitVec 32) (y : FVec Ideal S512x512 .f32) (r l : Fin 512) :
    View.canon (unitPieces scale y) (ix2 r l) = unitAt (fun d => y (ix2 r d)) (Ideal.ofBits .f32 scale) l :=
  (unit_canon scale y r l).trans (unitTile_apply scale y r l)

/-- The same with the positions last. -/
theorem unitT_apply (scale : BitVec 32) (y : FVec Ideal S512x512 .f32) (r l : Fin 512) :
    View.canon (unitPiecesT scale y) (ix3 0 l r) = unitAt (fun d => y (ix2 r d)) (Ideal.ofBits .f32 scale) l := by
  have ht : ∀ (u : FVec Ideal S512x128 .bf16) (d : Fin 128) (r : Fin 512),
      shapeCast S1x128x512 (truncf (F := Ideal) .bf16 (transpose S128x512 [1, 0] (extf .f32 u bitsLt_bf16_f32)
        transposes_S512x128_p1_0_S128x512) bitsLt_bf16_f32) shapeCasts_S128x512_S1x128x512 (ix3 0 d r) = u (ix2 r d) := by
    intro u d r
    pointwise
  let G : Vec Ideal S1x512x512 .bf16 := fun i => unitTile scale y ⟨(i 1).val / 128, by have : (i 1).val < 512 := (i 1).isLt; omega⟩
    (ix2 ⟨(i 2).val, (i 2).isLt⟩ ⟨(i 1).val % 128, by omega⟩)
  have h := canon_agree G (unitPiecesT scale y) [] (ix3 0 l r) (fun pc hpc => ?_) ?_
  · rw [List.append_nil] at h
    exact h.trans (unitTile_apply scale y r l)
  · obtain ⟨j, -, rfl⟩ := List.mem_map.1 hpc
    intro x
    obtain ⟨a, d, q, rfl⟩ : ∃ (a : Fin 1) (d : Fin 128) (q : Fin 512), x = ix3 a d q :=
      ⟨x 0, x 1, x 2, by funext a; fin_cases a <;> rfl⟩
    obtain rfl : a = 0 := Subsingleton.elim _ _
    refine (ht (unitRows scale (headOf j y)) d q).trans ?_
    have hj : (⟨(128 * j.val + 1 * d.val) / 128, by omega⟩ : Fin 4) = j := Fin.ext (by show _ / 128 = _; omega)
    have hd : (ix2 q d : S512x128.Idx) = ix2 (⟨0 + 1 * q.val, by omega⟩ : Fin 512) (⟨(128 * j.val + 1 * d.val) % 128, by omega⟩ : Fin 128) := by
      funext a
      match a with
      | ⟨0, _⟩ => exact Fin.ext (by show q.val = 0 + 1 * q.val; omega)
      | ⟨1, _⟩ => exact Fin.ext (by show d.val = _ % 128; omega)
    exact congrArg₂ (fun a b => unitTile scale y a b) hj.symm hd
  · have hl := l.isLt
    refine ⟨⟨Rect.unit (s := S1x512x512) ![0, 128 * (l.val / 128), 0] S1x128x512.size (inb_headT ⟨l.val / 128, by omega⟩), _⟩,
      List.mem_map.2 ⟨⟨l.val / 128, by omega⟩, ?_, rfl⟩, mem_unit _ _ (inb_headT ⟨l.val / 128, by omega⟩) _ fun a => ?_⟩
    · generalize (⟨l.val / 128, by omega⟩ : Fin 4) = j
      revert j; decide
    · match a with
      | ⟨0, _⟩ => exact ⟨Nat.zero_le _, by show 0 < 0 + 1; omega⟩
      | ⟨1, _⟩ => exact ⟨by show 128 * (l.val / 128) ≤ l.val; omega, by show l.val < 128 * (l.val / 128) + 128; omega⟩
      | ⟨2, _⟩ => exact ⟨Nat.zero_le _, by show r.val < 0 + 512; omega⟩

end Cert.Project

end
-- ==== Proof.Project.Points.lean ====
/- The blocks each point of the projections' kernel reads and leaves: the first point fills the weights' buffers, every point keeps them; a
   point's rows of each group's buffer follow the last eight of the point before. -/
module

public import proofs.«01_k».proof.Proof.Project.First
public import proofs.«01_k».proof.Proof.Project.Later
public import proofs.«01_k».proof.Proof.Project.BlockValue
public import Idealize.ShloMosaic.Lib.StableHlo.ReadAt
public import Idealize.ShloMosaic.Lib.Pipeline.ValueKit.Geometry

@[expose] public section

set_option maxRecDepth 16384

noncomputable section

namespace Cert.Project

open Cert.Kernel3Ideal Cert.Kernel3Ideal.Gen Idealize.ShloMosaic Idealize.ShloMosaic.TcCoe Idealize.SL.Sem

variable (m : (ℓ : Loc nD τ sig) → Buf (Elt Ideal) ℓ)

/-! ## The arguments, and the buffers the kernel reads -/

abbrev argX (c : Dev nD) : FVec Ideal S4x4096x1024 .f32 := m ((c : Thread nD τ).loc main_arg0)
abbrev argIn (c : Dev nD) : FVec Ideal S1024x4872 .f32 := m ((c : Thread nD τ).loc main_arg1)
abbrev argConv (c : Dev nD) : FVec Ideal S4x1536 .f32 := m ((c : Thread nD τ).loc main_arg2)
abbrev argLog (c : Dev nD) : FVec Ideal S4 .f32 := m ((c : Thread nD τ).loc main_arg3)
abbrev argBias (c : Dev nD) : FVec Ideal S4 .f32 := m ((c : Thread nD τ).loc main_arg4)

abbrev bufX (c : Dev nD) : Vec Ideal S16384x1024 .f32 := V m c main_v0
abbrev bufIn (c : Dev nD) : Vec Ideal S4872x1024 .f32 := V m c main_v1
abbrev bufPar (c : Dev nD) : Vec Ideal S2x128 .f32 := V m c main_v10

/-- The batch and the position of a row. -/
def batchOf (R : Fin 16384) : Fin 4 := ⟨R.val / 4096, by omega⟩
def posOf (R : Fin 16384) : Fin 4096 := ⟨R.val % 4096, by omega⟩

theorem bufX_apply (c : Dev nD) (R : Fin 16384) (l : Fin 1024) :
    bufX m c (ix2 R l) = argX m c (ix3 (batchOf R) (posOf R) l) := by
  unfold bufX V batchOf posOf
  after_reads_at

theorem bufIn_apply (c : Dev nD) (r : Fin 4872) (l : Fin 1024) : bufIn m c (ix2 r l) = argIn m c (ix2 l r) := by
  unfold bufIn V
  after_reads_at

/-! ## The blocks a point reads -/

theorem point_lt (t : Fin cfg0.N) : t.val < 32 := lt_of_lt_of_eq t.isLt N_0

theorem idx0 : ∀ t, win0_0.index t = ![t.val, 0] := by decide +kernel
theorem idx4 : ∀ t, win0_4.index t = ![t.val, 0] := by decide +kernel
theorem idx5 : ∀ t, win0_5.index t = ![t.val, 0] := by decide +kernel
theorem idx6 : ∀ t, win0_6.index t = ![t.val, 0] := by decide +kernel
theorem idx8 : ∀ t, win0_8.index t = ![t.val, 0] := by decide +kernel
theorem idx9 : ∀ t, win0_9.index t = ![t.val, 0] := by decide +kernel
theorem idx10 : ∀ t, win0_10.index t = ![t.val, 0] := by decide +kernel
theorem idx1 : ∀ t, win0_1.index t = ![0, 0] := by decide +kernel
theorem idx2 : ∀ t, win0_2.index t = ![0, 0] := by decide +kernel
theorem idx3 : ∀ t, win0_3.index t = ![0, 0] := by decide +kernel
theorem idx7 : ∀ t, win0_7.index t = ![t.val / 8, 0, t.val % 8] := by decide +kernel
theorem idx11 : ∀ t, win0_11.index t = ![t.val / 8, 0, t.val % 8] := by decide +kernel

/-- A sequence's first point, of the eight of each. -/
theorem isFirst_eq : ∀ t : Fin cfg0.N, isFirst (grid0.coords t) = if t.val % 8 = 0 then 1#1 else 0#1 := by decide +kernel

abbrev blk0 (c : Dev nD) (t : Fin cfg0.N) : Vec Ideal S512x1024 .f32 := iblk m c 0 t
abbrev blk1 (c : Dev nD) (t : Fin cfg0.N) : Vec Ideal S4872x1024 .f32 := iblk m c 1 t
abbrev blk2 (c : Dev nD) (t : Fin cfg0.N) : Vec Ideal S4x1536 .f32 := iblk m c 2 t
abbrev blk3 (c : Dev nD) (t : Fin cfg0.N) : Vec Ideal S2x128 .f32 := iblk m c 3 t

theorem blk0_apply (c : Dev nD) (t : Fin cfg0.N) (r : Fin 512) (l : Fin 1024) :
    blk0 m c t (ix2 r l) = bufX m c (ix2 ⟨512 * t.val + r.val, by have := point_lt t; omega⟩ l) := by
  simp only [blk0]
  blk_simp [iblk]
  refine congrArg (bufX m c) (funext fun a => ?_)
  match a with
  | ⟨0, _⟩ => refine Fin.ext ?_; blk_simp [idx0]; exact congrArg (· + r.val) (Nat.mul_comm _ _)
  | ⟨1, _⟩ => refine Fin.ext ?_; blk_simp [idx0]

theorem blk1_apply (c : Dev nD) (t : Fin cfg0.N) (r : Fin 4872) (l : Fin 1024) : blk1 m c t (ix2 r l) = bufIn m c (ix2 r l) := by
  simp only [blk1]
  blk_simp [iblk]
  refine congrArg (bufIn m c) (funext fun a => ?_)
  match a with
  | ⟨0, _⟩ => refine Fin.ext ?_; blk_simp [idx1]
  | ⟨1, _⟩ => refine Fin.ext ?_; blk_simp [idx1]

theorem blk2_apply (c : Dev nD) (t : Fin cfg0.N) (r : Fin 4) (l : Fin 1536) : blk2 m c t (ix2 r l) = argConv m c (ix2 r l) := by
  simp only [blk2]
  blk_simp [iblk]
  refine (congrFun (show V m c main_arg2 = argConv m c from by unfold V; after_reads_simp) _).trans (congrArg (argConv m c) (funext fun a => ?_))
  match a with
  | ⟨0, _⟩ => refine Fin.ext ?_; blk_simp [idx2]
  | ⟨1, _⟩ => refine Fin.ext ?_; blk_simp [idx2]

theorem blk3_apply (c : Dev nD) (t : Fin cfg0.N) (r : Fin 2) (l : Fin 128) : blk3 m c t (ix2 r l) = bufPar m c (ix2 r l) := by
  simp only [blk3]
  blk_simp [iblk]
  refine congrArg (bufPar m c) (funext fun a => ?_)
  match a with
  | ⟨0, _⟩ => refine Fin.ext ?_; blk_simp [idx3]
  | ⟨1, _⟩ => refine Fin.ext ?_; blk_simp [idx3]

theorem blk1_const (c : Dev nD) (t t' : Fin cfg0.N) : blk1 m c t = blk1 m c t' := by
  funext i
  obtain ⟨a, b, rfl⟩ : ∃ a b, i = ix2 a b := ⟨_, _, ValueIdx.eq_ix2 i⟩
  rw [blk1_apply, blk1_apply]

/-! ## The weights' buffers, which the first point fills -/

theorem first_attn (c : Dev nD) (t : Fin cfg0.N) (h0 : t.val % 32 = 0) :
    (outsAt0 m c t.val t.isLt).2.2.2.2.2.2.2.2.1 = View.canon (attnPieces (blk1 m c t)) := by
  rw [outsAt0_A m c t h0]
  dsimp only
  rw [attn_first]

theorem later_attn (c : Dev nD) (t : Fin cfg0.N) (h0 : ¬ t.val % 32 = 0) :
    (outsAt0 m c t.val t.isLt).2.2.2.2.2.2.2.2.1 = (outsAt0 m c (t.val - 1) (Nat.lt_of_le_of_lt (Nat.sub_le _ _) t.isLt)).2.2.2.2.2.2.2.2.1 := by
  rw [outsAt0_B m c t h0]
  dsimp only [sout0_B_0]

theorem attn_buffer (c : Dev nD) : ∀ (n : ℕ) (hn : n < cfg0.N),
    (outsAt0 m c n hn).2.2.2.2.2.2.2.2.1 = View.canon (attnPieces (blk1 m c ⟨n, hn⟩))
  | 0, hn => first_attn m c ⟨0, hn⟩ rfl
  | n + 1, hn => by
    have hlt : n + 1 < 32 := point_lt ⟨n + 1, hn⟩
    exact (later_attn m c ⟨n + 1, hn⟩ (by show ¬ (n + 1) % 32 = 0; omega)).trans ((attn_buffer c n (Nat.lt_of_succ_lt hn)).trans
      (congrArg (fun x => View.canon (attnPieces x)) (blk1_const m c _ _)))

theorem first_conv (c : Dev nD) (t : Fin cfg0.N) (h0 : t.val % 32 = 0) :
    (outsAt0 m c t.val t.isLt).2.2.2.2.2.2.2.2.2.1 = View.canon (convPieces (blk1 m c t)) := by
  rw [outsAt0_A m c t h0]
  dsimp only
  rw [conv_first]

theorem later_conv (c : Dev nD) (t : Fin cfg0.N) (h0 : ¬ t.val % 32 = 0) :
    (outsAt0 m c t.val t.isLt).2.2.2.2.2.2.2.2.2.1 = (outsAt0 m c (t.val - 1) (Nat.lt_of_le_of_lt (Nat.sub_le _ _) t.isLt)).2.2.2.2.2.2.2.2.2.1 := by
  rw [outsAt0_B m c t h0]
  dsimp only [sout0_B_1]

theorem conv_buffer (c : Dev nD) : ∀ (n : ℕ) (hn : n < cfg0.N),
    (outsAt0 m c n hn).2.2.2.2.2.2.2.2.2.1 = View.canon (convPieces (blk1 m c ⟨n, hn⟩))
  | 0, hn => first_conv m c ⟨0, hn⟩ rfl
  | n + 1, hn => by
    have hlt : n + 1 < 32 := point_lt ⟨n + 1, hn⟩
    exact (later_conv m c ⟨n + 1, hn⟩ (by show ¬ (n + 1) % 32 = 0; omega)).trans ((conv_buffer c n (Nat.lt_of_succ_lt hn)).trans
      (congrArg (fun x => View.canon (convPieces x)) (blk1_const m c _ _)))

theorem first_z (c : Dev nD) (t : Fin cfg0.N) (h0 : t.val % 32 = 0) :
    (outsAt0 m c t.val t.isLt).2.2.2.2.2.2.2.2.2.2.1 = View.canon (zPieces (blk1 m c t)) := by
  rw [outsAt0_A m c t h0]
  dsimp only
  rw [z_first]

theorem later_z (c : Dev nD) (t : Fin cfg0.N) (h0 : ¬ t.val % 32 = 0) :
    (outsAt0 m c t.val t.isLt).2.2.2.2.2.2.2.2.2.2.1 = (outsAt0 m c (t.val - 1) (Nat.lt_of_le_of_lt (Nat.sub_le _ _) t.isLt)).2.2.2.2.2.2.2.2.2.2.1 := by
  rw [outsAt0_B m c t h0]
  dsimp only [sout0_B_2]

theorem z_buffer (c : Dev nD) : ∀ (n : ℕ) (hn : n < cfg0.N),
    (outsAt0 m c n hn).2.2.2.2.2.2.2.2.2.2.1 = View.canon (zPieces (blk1 m c ⟨n, hn⟩))
  | 0, hn => first_z m c ⟨0, hn⟩ rfl
  | n + 1, hn => by
    have hlt : n + 1 < 32 := point_lt ⟨n + 1, hn⟩
    exact (later_z m c ⟨n + 1, hn⟩ (by show ¬ (n + 1) % 32 = 0; omega)).trans ((z_buffer c n (Nat.lt_of_succ_lt hn)).trans
      (congrArg (fun x => View.canon (zPieces x)) (blk1_const m c _ _)))

theorem first_gateW (c : Dev nD) (t : Fin cfg0.N) (h0 : t.val % 32 = 0) :
    (outsAt0 m c t.val t.isLt).2.2.2.2.2.2.2.2.2.2.2.1 = gateW (blk1 m c t) := by
  rw [outsAt0_A m c t h0]
  dsimp only
  rw [gateW_first]

theorem later_gateW (c : Dev nD) (t : Fin cfg0.N) (h0 : ¬ t.val % 32 = 0) :
    (outsAt0 m c t.val t.isLt).2.2.2.2.2.2.2.2.2.2.2.1 = (outsAt0 m c (t.val - 1) (Nat.lt_of_le_of_lt (Nat.sub_le _ _) t.isLt)).2.2.2.2.2.2.2.2.2.2.2.1 := by
  rw [outsAt0_B m c t h0]
  dsimp only [sout0_B_3]

theorem gateW_buffer (c : Dev nD) : ∀ (n : ℕ) (hn : n < cfg0.N),
    (outsAt0 m c n hn).2.2.2.2.2.2.2.2.2.2.2.1 = gateW (blk1 m c ⟨n, hn⟩)
  | 0, hn => first_gateW m c ⟨0, hn⟩ rfl
  | n + 1, hn => by
    have hlt : n + 1 < 32 := point_lt ⟨n + 1, hn⟩
    exact (later_gateW m c ⟨n + 1, hn⟩ (by show ¬ (n + 1) % 32 = 0; omega)).trans ((gateW_buffer c n (Nat.lt_of_succ_lt hn)).trans
      (congrArg gateW (blk1_const m c _ _)))

/-! ## The groups' buffers -/

theorem fill0_point (c : Dev nD) (t : Fin cfg0.N) : ∃ carry rest,
    (outsAt0 m c t.val t.isLt).2.2.2.2.2.2.2.2.2.2.2.2.1 = View.canon (fillPieces 0 (grid0.coords t) (blk0 m c t) (outsAt0 m c t.val t.isLt).2.2.2.2.2.2.2.2.2.1 carry ++ rest)
      ∧ (¬ t.val % 32 = 0 → carry = carried (outsAt0 m c (t.val - 1) (Nat.lt_of_le_of_lt (Nat.sub_le _ _) t.isLt)).2.2.2.2.2.2.2.2.2.2.2.2.1) := by
  by_cases h0 : t.val % 32 = 0
  · rw [outsAt0_A m c t h0]
    dsimp only
    obtain ⟨carry, rest, h⟩ := fill0_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t)
    exact ⟨carry, rest, h, fun h' => absurd h0 h'⟩
  · refine ⟨carried (outsAt0 m c (t.val - 1) (Nat.lt_of_le_of_lt (Nat.sub_le _ _) t.isLt)).2.2.2.2.2.2.2.2.2.2.2.2.1, [], ?_, fun _ => rfl⟩
    rw [outsAt0_B m c t h0, List.append_nil]
    dsimp only [sout0_B_1]
    rw [fill0_later]

theorem fill1_point (c : Dev nD) (t : Fin cfg0.N) : ∃ carry rest,
    (outsAt0 m c t.val t.isLt).2.2.2.2.2.2.2.2.2.2.2.2.2.1 = View.canon (fillPieces 1 (grid0.coords t) (blk0 m c t) (outsAt0 m c t.val t.isLt).2.2.2.2.2.2.2.2.2.1 carry ++ rest)
      ∧ (¬ t.val % 32 = 0 → carry = carried (outsAt0 m c (t.val - 1) (Nat.lt_of_le_of_lt (Nat.sub_le _ _) t.isLt)).2.2.2.2.2.2.2.2.2.2.2.2.2.1) := by
  by_cases h0 : t.val % 32 = 0
  · rw [outsAt0_A m c t h0]
    dsimp only
    obtain ⟨carry, rest, h⟩ := fill1_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t)
    exact ⟨carry, rest, h, fun h' => absurd h0 h'⟩
  · refine ⟨carried (outsAt0 m c (t.val - 1) (Nat.lt_of_le_of_lt (Nat.sub_le _ _) t.isLt)).2.2.2.2.2.2.2.2.2.2.2.2.2.1, [], ?_, fun _ => rfl⟩
    rw [outsAt0_B m c t h0, List.append_nil]
    dsimp only [sout0_B_1]
    rw [fill1_later]

theorem fill2_point (c : Dev nD) (t : Fin cfg0.N) : ∃ carry rest,
    (outsAt0 m c t.val t.isLt).2.2.2.2.2.2.2.2.2.2.2.2.2.2 = View.canon (fillPieces 2 (grid0.coords t) (blk0 m c t) (outsAt0 m c t.val t.isLt).2.2.2.2.2.2.2.2.2.1 carry ++ rest)
      ∧ (¬ t.val % 32 = 0 → carry = carried (outsAt0 m c (t.val - 1) (Nat.lt_of_le_of_lt (Nat.sub_le _ _) t.isLt)).2.2.2.2.2.2.2.2.2.2.2.2.2.2) := by
  by_cases h0 : t.val % 32 = 0
  · rw [outsAt0_A m c t h0]
    dsimp only
    obtain ⟨carry, rest, h⟩ := fill2_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t)
    exact ⟨carry, rest, h, fun h' => absurd h0 h'⟩
  · refine ⟨carried (outsAt0 m c (t.val - 1) (Nat.lt_of_le_of_lt (Nat.sub_le _ _) t.isLt)).2.2.2.2.2.2.2.2.2.2.2.2.2.2, [], ?_, fun _ => rfl⟩
    rw [outsAt0_B m c t h0, List.append_nil]
    dsimp only [sout0_B_1]
    rw [fill2_later]

/-! ## The results' blocks -/

theorem aqkv_point (c : Dev nD) (t : Fin cfg0.N) :
    (outsAt0 m c t.val t.isLt).1 = View.canon (aqkvPieces (blk0 m c t) (outsAt0 m c t.val t.isLt).2.2.2.2.2.2.2.2.1) := by
  by_cases h0 : t.val % 32 = 0
  · rw [outsAt0_A m c t h0]
    dsimp only
    rw [aqkv_first]
  · rw [outsAt0_B m c t h0]
    dsimp only [sout0_B_0]
    rw [aqkv_later]

theorem dq_point (c : Dev nD) (t : Fin cfg0.N) :
    (outsAt0 m c t.val t.isLt).2.1 = View.canon (unitPieces 0x3DB504F3#32 (act 0 (blk2 m c t) (outsAt0 m c t.val t.isLt).2.2.2.2.2.2.2.2.2.2.2.2.1)) := by
  by_cases h0 : t.val % 32 = 0
  · rw [outsAt0_A m c t h0]
    dsimp only
    rw [dq_first]
  · rw [outsAt0_B m c t h0]
    dsimp only
    rw [dq_later]

theorem dk_point (c : Dev nD) (t : Fin cfg0.N) :
    (outsAt0 m c t.val t.isLt).2.2.1 = View.canon (unitPieces 0x3F800000#32 (act 1 (blk2 m c t) (outsAt0 m c t.val t.isLt).2.2.2.2.2.2.2.2.2.2.2.2.2.1)) := by
  by_cases h0 : t.val % 32 = 0
  · rw [outsAt0_A m c t h0]
    dsimp only
    rw [dk_first]
  · rw [outsAt0_B m c t h0]
    dsimp only
    rw [dk_later]

theorem dkt_point (c : Dev nD) (t : Fin cfg0.N) :
    (outsAt0 m c t.val t.isLt).2.2.2.1 = View.canon (unitPiecesT 0x3F800000#32 (act 1 (blk2 m c t) (outsAt0 m c t.val t.isLt).2.2.2.2.2.2.2.2.2.2.2.2.2.1)) := by
  by_cases h0 : t.val % 32 = 0
  · rw [outsAt0_A m c t h0]
    dsimp only
    rw [dkt_first]
  · rw [outsAt0_B m c t h0]
    dsimp only
    rw [dkt_later]

theorem dv_point (c : Dev nD) (t : Fin cfg0.N) :
    (outsAt0 m c t.val t.isLt).2.2.2.2.1 = truncf .bf16 (act 2 (blk2 m c t) (outsAt0 m c t.val t.isLt).2.2.2.2.2.2.2.2.2.2.2.2.2.2) bitsLt_bf16_f32 := by
  by_cases h0 : t.val % 32 = 0
  · rw [outsAt0_A m c t h0]
    dsimp only
    rw [dv_first]
  · rw [outsAt0_B m c t h0]
    dsimp only
    rw [dv_later]

theorem dzs_point (c : Dev nD) (t : Fin cfg0.N) :
    (outsAt0 m c t.val t.isLt).2.2.2.2.2.1 = dzs (blk0 m c t) (outsAt0 m c t.val t.isLt).2.2.2.2.2.2.2.2.2.2.1 := by
  by_cases h0 : t.val % 32 = 0
  · rw [outsAt0_A m c t h0]
    dsimp only
    rw [dzs_first]
  · rw [outsAt0_B m c t h0]
    dsimp only [sout0_B_2]
    rw [dzs_later]

theorem gates_point (c : Dev nD) (t : Fin cfg0.N) :
    (outsAt0 m c t.val t.isLt).2.2.2.2.2.2.1 = gates (prodG (blk0 m c t) (outsAt0 m c t.val t.isLt).2.2.2.2.2.2.2.2.2.2.2.1) (blk3 m c t) := by
  by_cases h0 : t.val % 32 = 0
  · rw [outsAt0_A m c t h0]
    dsimp only
    rw [gates_first]
  · rw [outsAt0_B m c t h0]
    dsimp only [sout0_B_3]
    rw [gates_later]

theorem gatesT_point (c : Dev nD) (t : Fin cfg0.N) :
    (outsAt0 m c t.val t.isLt).2.2.2.2.2.2.2.1 = gatesT (gates (prodG (blk0 m c t) (outsAt0 m c t.val t.isLt).2.2.2.2.2.2.2.2.2.2.2.1) (blk3 m c t)) := by
  by_cases h0 : t.val % 32 = 0
  · rw [outsAt0_A m c t h0]
    dsimp only
    rw [gatesT_first]
  · rw [outsAt0_B m c t h0]
    dsimp only [sout0_B_3]
    rw [gatesT_later]

end Cert.Project

end
-- ==== Proof.Project.Groups.lean ====
/- The rows of the groups' buffers: a point's own rows are its rows' projections, and the eight rows before them those of the rows before,
   zeros at a sequence's start. So a tap reads the projection some rows back. -/
module

public import proofs.«01_k».proof.Proof.Project.Points

@[expose] public section

set_option maxRecDepth 16384

noncomputable section

namespace Cert.Project

open Cert.Kernel3Ideal Cert.Kernel3Ideal.Gen Idealize.ShloMosaic Idealize.ShloMosaic.TcCoe Idealize.SL.Sem

open Cert.Merge (half gate half_eq half_tanh)

/-- Row `R` of the projection to column `j`. -/
def proj (x : FVec Ideal S4x4096x1024 .f32) (w : FVec Ideal S1024x4872 .f32) (R : Fin 16384) (j : Fin 4872) : EReal :=
  ∑ k, x (ix3 (batchOf R) (posOf R) k) * w (ix2 k j)

/-- The column of group `g`'s lane `l`. -/
def groupCol (g : Fin 3) (l : Fin 512) : Fin 4872 := ⟨768 + (512 * g.val + l.val), by omega⟩

/-- The projection `s` rows before row `R` in its sequence, zero before its start. -/
def past (x : FVec Ideal S4x4096x1024 .f32) (w : FVec Ideal S1024x4872 .f32) (s : Fin 4) (R : Fin 16384) (j : Fin 4872) : EReal :=
  if s.val ≤ R.val % 4096 then proj x w ⟨R.val - s.val, by omega⟩ j else 0

variable (m : (ℓ : Loc nD τ sig) → Buf (Elt Ideal) ℓ)

theorem blk0_arg (c : Dev nD) (t : Fin cfg0.N) (r : Fin 512) (l : Fin 1024) :
    blk0 m c t (ix2 r l) = argX m c (ix3 (batchOf ⟨512 * t.val + r.val, by have := point_lt t; omega⟩) (posOf ⟨512 * t.val + r.val, by have := point_lt t; omega⟩) l) :=
  (blk0_apply m c t r l).trans (bufX_apply m c _ l)

theorem blk1_arg (c : Dev nD) (t : Fin cfg0.N) (r : Fin 4872) (l : Fin 1024) : blk1 m c t (ix2 r l) = argIn m c (ix2 l r) :=
  (blk1_apply m c t r l).trans (bufIn_apply m c r l)

/-- A point's rows are rows of the arrays. -/
theorem row_lt (t : Fin cfg0.N) (r : Fin 512) : 512 * t.val + r.val < 16384 := by have := point_lt t; omega

/-- Group `g`'s buffer after point `t`. -/
def group (c : Dev nD) (t : Fin cfg0.N) (g : Fin 3) : Vec Ideal S520x512 .f32 :=
  match g with
  | 0 => (outsAt0 m c t.val t.isLt).2.2.2.2.2.2.2.2.2.2.2.2.1
  | 1 => (outsAt0 m c t.val t.isLt).2.2.2.2.2.2.2.2.2.2.2.2.2.1
  | 2 => (outsAt0 m c t.val t.isLt).2.2.2.2.2.2.2.2.2.2.2.2.2.2

theorem fill_point (c : Dev nD) (t : Fin cfg0.N) (g : Fin 3) : ∃ carry rest,
    group m c t g = View.canon (fillPieces g (grid0.coords t) (blk0 m c t) (View.canon (convPieces (blk1 m c t))) carry ++ rest)
      ∧ (¬ t.val % 32 = 0 → carry = carried (group m c ⟨t.val - 1, Nat.lt_of_le_of_lt (Nat.sub_le _ _) t.isLt⟩ g)) := by
  rw [← conv_buffer m c t.val t.isLt]
  match g with
  | 0 => exact fill0_point m c t
  | 1 => exact fill1_point m c t
  | 2 => exact fill2_point m c t

theorem prod_group (c : Dev nD) (t : Fin cfg0.N) (g : Fin 3) (r l : Fin 512) :
    prod (blk0 m c t) (View.ld (View.canon (convPieces (blk1 m c t))) (Rect.unit (s := S1024x1536) ![0, 512 * g.val] S1024x512.size (inb_group g))) (ix2 r l)
      = proj (argX m c) (argIn m c) ⟨512 * t.val + r.val, by have := point_lt t; omega⟩ (groupCol g l) := by
  rw [prod_apply]
  unfold proj
  refine Finset.sum_congr rfl fun k _ => ?_
  rw [blk0_arg, group_apply, conv_apply, blk1_arg]
  rfl

/-- The point's own rows. -/
theorem group_own (c : Dev nD) (t : Fin cfg0.N) (g : Fin 3) (r l : Fin 512) :
    group m c t g (ix2 ⟨8 + r.val, by omega⟩ l)
      = proj (argX m c) (argIn m c) ⟨512 * t.val + r.val, by have := point_lt t; omega⟩ (groupCol g l) := by
  obtain ⟨carry, rest, h, -⟩ := fill_point m c t g
  rw [h]
  exact (fill_own _ _ _ carry rest r l).trans (prod_group m c t g r l)

/-- The eight rows before them. -/
theorem group_halo (c : Dev nD) (t : Fin cfg0.N) (g : Fin 3) (r : Fin 8) (l : Fin 512) :
    group m c t g (ix2 ⟨r.val, by omega⟩ l)
      = if t.val % 8 = 0 then 0
        else proj (argX m c) (argIn m c) ⟨512 * t.val - 8 + r.val, by have := point_lt t; omega⟩ (groupCol g l) := by
  obtain ⟨carry, rest, h, hc⟩ := fill_point m c t g
  have ht := point_lt t
  rw [h]
  refine (fill_halo _ _ _ carry rest r l).trans ?_
  rw [isFirst_eq]
  by_cases h8 : t.val % 8 = 0
  · rw [if_pos h8, if_pos h8, if_pos rfl]
  · rw [if_neg h8, if_neg h8, if_neg (by decide), hc (by omega), carried_apply]
    refine Eq.trans ?_ ((group_own m c ⟨t.val - 1, Nat.lt_of_le_of_lt (Nat.sub_le _ _) t.isLt⟩ g ⟨504 + r.val, by omega⟩ l).trans ?_)
    · refine congrArg (fun z => group m c _ g (ix2 z l)) (Fin.ext ?_)
      show 512 + r.val = 8 + (504 + r.val)
      omega
    · refine congrArg (fun z => proj (argX m c) (argIn m c) z (groupCol g l)) (Fin.ext ?_)
      show 512 * (t.val - 1) + (504 + r.val) = 512 * t.val - 8 + r.val
      omega

/-- The rows `s` back. -/
theorem group_tap (c : Dev nD) (t : Fin cfg0.N) (g : Fin 3) (s : Fin 4) (r l : Fin 512) :
    tap (group m c t g) s (ix2 r l)
      = past (argX m c) (argIn m c) s ⟨512 * t.val + r.val, by have := point_lt t; omega⟩ (groupCol g l) := by
  have ht := point_lt t
  rw [tap_apply]
  unfold past
  by_cases hs : s.val ≤ r.val
  · rw [if_pos (by show s.val ≤ (512 * t.val + r.val) % 4096; omega)]
    refine Eq.trans ?_ ((group_own m c t g ⟨r.val - s.val, by omega⟩ l).trans ?_)
    · refine congrArg (fun z => group m c t g (ix2 z l)) (Fin.ext ?_)
      show 8 - s.val + r.val = 8 + (r.val - s.val)
      omega
    · refine congrArg (fun z => proj (argX m c) (argIn m c) z (groupCol g l)) (Fin.ext ?_)
      show 512 * t.val + (r.val - s.val) = 512 * t.val + r.val - s.val
      omega
  · refine (group_halo m c t g ⟨8 - s.val + r.val, by omega⟩ l).trans ?_
    by_cases h8 : t.val % 8 = 0
    · rw [if_pos h8, if_neg (by show ¬ s.val ≤ (512 * t.val + r.val) % 4096; omega)]
    · rw [if_neg h8, if_pos (by show s.val ≤ (512 * t.val + r.val) % 4096; omega)]
      refine congrArg (fun z => proj (argX m c) (argIn m c) z (groupCol g l)) (Fin.ext ?_)
      show 512 * t.val - 8 + (8 - s.val + r.val) = 512 * t.val + r.val - s.val
      omega

/-- Half the convolution of group `g` at row `R`, lane `l`. -/
def halfConv (x : FVec Ideal S4x4096x1024 .f32) (w : FVec Ideal S1024x4872 .f32) (cw : FVec Ideal S4x1536 .f32) (g : Fin 3) (R : Fin 16384) (l : Fin 512) : EReal :=
  past x w 0 R (groupCol g l) * (half * cw (ix2 3 ⟨512 * g.val + l.val, by omega⟩))
    + past x w 1 R (groupCol g l) * (half * cw (ix2 2 ⟨512 * g.val + l.val, by omega⟩))
    + past x w 2 R (groupCol g l) * (half * cw (ix2 1 ⟨512 * g.val + l.val, by omega⟩))
    + past x w 3 R (groupCol g l) * (half * cw (ix2 0 ⟨512 * g.val + l.val, by omega⟩))

theorem act_point (c : Dev nD) (t : Fin cfg0.N) (g : Fin 3) (r l : Fin 512) (R : Fin 16384) (hR : R.val = 512 * t.val + r.val) :
    act g (blk2 m c t) (group m c t g) (ix2 r l)
      = halfConv (argX m c) (argIn m c) (argConv m c) g R l
        + halfConv (argX m c) (argIn m c) (argConv m c) g R l * Ideal.tanh (halfConv (argX m c) (argIn m c) (argConv m c) g R l) := by
  have hc : convOf g (blk2 m c t) (tap (group m c t g) 0) (tap (group m c t g) 1) (tap (group m c t g) 2) (tap (group m c t g) 3) (ix2 r l)
      = halfConv (argX m c) (argIn m c) (argConv m c) g R l := by
    obtain rfl : R = ⟨512 * t.val + r.val, row_lt t r⟩ := Fin.ext hR
    rw [convOf_apply, group_tap, group_tap, group_tap, group_tap, blk2_apply, blk2_apply, blk2_apply, blk2_apply]
    rfl
  unfold act
  rw [twiceSilu_apply, hc]

/-- The gates' logits and the output's gate, as a point projects them. -/
theorem prod_z (c : Dev nD) (t : Fin cfg0.N) (r l : Fin 512) (R : Fin 16384) (hR : R.val = 512 * t.val + r.val) :
    prod (blk0 m c t) (View.canon (zPieces (blk1 m c t))) (ix2 r l) = proj (argX m c) (argIn m c) R ⟨2304 + l.val, by omega⟩ := by
  obtain rfl : R = ⟨512 * t.val + r.val, row_lt t r⟩ := Fin.ext hR
  rw [prod_apply]
  unfold proj
  exact Finset.sum_congr rfl fun k _ => by rw [blk0_arg, z_apply, blk1_arg]

theorem prod_gate (c : Dev nD) (t : Fin cfg0.N) (r : Fin 512) (l : Fin 128) (hl : l.val < 8) (R : Fin 16384) (hR : R.val = 512 * t.val + r.val) :
    prodG (blk0 m c t) (gateW (blk1 m c t)) (ix2 r l) = proj (argX m c) (argIn m c) R ⟨2816 + l.val, by omega⟩ := by
  obtain rfl : R = ⟨512 * t.val + r.val, row_lt t r⟩ := Fin.ext hR
  rw [prodG_apply]
  unfold proj
  exact Finset.sum_congr rfl fun k _ => by rw [blk0_arg, gateW_apply _ _ _ hl, blk1_arg]

/-- A row of the attention's weights, whose queries are scaled. -/
def attnCol (w : FVec Ideal S1024x4872 .f32) (k : Fin 1024) (l : Fin 1024) : EReal :=
  if l.val < 512 then w (ix2 k (srcCol l)) * eighth else w (ix2 k (srcCol l))

theorem aqkv_value (c : Dev nD) (t : Fin cfg0.N) (r : Fin 512) (l : Fin 1024) (R : Fin 16384) (hR : R.val = 512 * t.val + r.val) :
    View.canon (aqkvPieces (blk0 m c t) (View.canon (attnPieces (blk1 m c t)))) (ix2 r l)
      = ∑ k, argX m c (ix3 (batchOf R) (posOf R) k) * attnCol (argIn m c) k l := by
  obtain rfl : R = ⟨512 * t.val + r.val, row_lt t r⟩ := Fin.ext hR
  rw [aqkv_canon]
  exact Finset.sum_congr rfl fun k _ => by rw [blk0_arg, attn_apply, blk1_arg]; rfl

end Cert.Project

end
-- ==== Proof.Project.Array.lean ====
/- The kernel's result arrays as functions of the arguments: each point's block holds the values at its rows. -/
module

public import proofs.«01_k».proof.Proof.Project.Groups

@[expose] public section

set_option maxRecDepth 16384

noncomputable section

namespace Cert.Project

open Cert.Kernel3Ideal Cert.Kernel3Ideal.Gen Idealize.ShloMosaic Idealize.ShloMosaic.TcCoe Idealize.SL.Sem

open Cert.Merge (half gate half_eq half_tanh)

/-! ## The results, as the kernel computes them -/

/-- The attention's row. -/
def aqkvK (x : FVec Ideal S4x4096x1024 .f32) (w : FVec Ideal S1024x4872 .f32) (R : Fin 16384) (l : Fin 1024) : EReal := ∑ k, x (ix3 (batchOf R) (posOf R) k) * attnCol w k l

/-- The activation of group `g`. -/
def actK (x : FVec Ideal S4x4096x1024 .f32) (w : FVec Ideal S1024x4872 .f32) (cw : FVec Ideal S4x1536 .f32) (g : Fin 3) (R : Fin 16384) (l : Fin 512) : EReal :=
  halfConv x w cw g R l + halfConv x w cw g R l * Ideal.tanh (halfConv x w cw g R l)

/-- The queries and keys, each head of unit length. -/
def dqK (x : FVec Ideal S4x4096x1024 .f32) (w : FVec Ideal S1024x4872 .f32) (cw : FVec Ideal S4x1536 .f32) (R : Fin 16384) (l : Fin 512) : EReal := unitAt (actK x w cw 0 R) (Ideal.ofBits .f32 0x3DB504F3#32) l
def dkK (x : FVec Ideal S4x4096x1024 .f32) (w : FVec Ideal S1024x4872 .f32) (cw : FVec Ideal S4x1536 .f32) (R : Fin 16384) (l : Fin 512) : EReal := unitAt (actK x w cw 1 R) (Ideal.ofBits .f32 0x3F800000#32) l
def dvK (x : FVec Ideal S4x4096x1024 .f32) (w : FVec Ideal S1024x4872 .f32) (cw : FVec Ideal S4x1536 .f32) (R : Fin 16384) (l : Fin 512) : EReal := actK x w cw 2 R l

/-- The output's gate. -/
def dzsK (x : FVec Ideal S4x4096x1024 .f32) (w : FVec Ideal S1024x4872 .f32) (R : Fin 16384) (l : Fin 512) : EReal :=
  half * proj x w R ⟨2304 + l.val, by omega⟩
    + half * proj x w R ⟨2304 + l.val, by omega⟩ * Ideal.tanh (half * proj x w R ⟨2304 + l.val, by omega⟩)

/-- A sequence's row. -/
def rowAt (b : Fin 4) (p : Fin 4096) : Fin 16384 := ⟨4096 * b.val + p.val, by omega⟩

variable (m : (ℓ : Loc nD τ sig) → Buf (Elt Ideal) ℓ)

/-! ## The blocks -/

theorem aqkv_at (c : Dev nD) (t : Fin cfg0.N) (r : Fin 512) (l : Fin 1024) (R : Fin 16384) (hR : R.val = 512 * t.val + r.val) :
    (outsAt0 m c t.val t.isLt).1 (ix2 r l) = aqkvK (argX m c) (argIn m c) R l := by
  rw [aqkv_point, attn_buffer]
  exact aqkv_value m c t r l R hR

theorem dq_at (c : Dev nD) (t : Fin cfg0.N) (r l : Fin 512) (R : Fin 16384) (hR : R.val = 512 * t.val + r.val) :
    (outsAt0 m c t.val t.isLt).2.1 (ix2 r l) = dqK (argX m c) (argIn m c) (argConv m c) R l := by
  rw [dq_point, unit_apply]
  exact congrArg (fun y => unitAt y _ l) (funext fun d => act_point m c t 0 r d R hR)

theorem dk_at (c : Dev nD) (t : Fin cfg0.N) (r l : Fin 512) (R : Fin 16384) (hR : R.val = 512 * t.val + r.val) :
    (outsAt0 m c t.val t.isLt).2.2.1 (ix2 r l) = dkK (argX m c) (argIn m c) (argConv m c) R l := by
  rw [dk_point, unit_apply]
  exact congrArg (fun y => unitAt y _ l) (funext fun d => act_point m c t 1 r d R hR)

theorem dkt_at (c : Dev nD) (t : Fin cfg0.N) (r l : Fin 512) (R : Fin 16384) (hR : R.val = 512 * t.val + r.val) :
    (outsAt0 m c t.val t.isLt).2.2.2.1 (ix3 0 l r) = dkK (argX m c) (argIn m c) (argConv m c) R l := by
  rw [dkt_point, unitT_apply]
  exact congrArg (fun y => unitAt y _ l) (funext fun d => act_point m c t 1 r d R hR)

theorem dv_at (c : Dev nD) (t : Fin cfg0.N) (r l : Fin 512) (R : Fin 16384) (hR : R.val = 512 * t.val + r.val) :
    (outsAt0 m c t.val t.isLt).2.2.2.2.1 (ix2 r l) = dvK (argX m c) (argIn m c) (argConv m c) R l := by
  rw [dv_point]
  exact act_point m c t 2 r l R hR

theorem dzs_at (c : Dev nD) (t : Fin cfg0.N) (r l : Fin 512) (R : Fin 16384) (hR : R.val = 512 * t.val + r.val) :
    (outsAt0 m c t.val t.isLt).2.2.2.2.2.1 (ix2 r l) = dzsK (argX m c) (argIn m c) R l := by
  rw [dzs_point, dzs_apply, z_buffer, prod_z m c t r l R hR]
  rfl

/-! ## The arrays -/

theorem aqkv_array (c : Dev nD) : (dats m 0 c).arrAt 4 cfg0.N = fun i : S16384x1024.Idx => aqkvK (argX m c) (argIn m c) (i 0) (i 1) := by
  refine (dats m 0 c).arrAt_eq_of_covers 4 _ (by decide +kernel) fun t hf y => ?_
  blk_simp
  rw [after0_4]
  have h0 : (y 0).val < 512 := (y 0).isLt
  have h1 : (y 1).val < 1024 := (y 1).isLt
  have e0 : (((win0_4.blk t).view.emb y) 0 : Nat) = 512 * t.val + (y 0).val := by
    blk_simp [idx4]; exact congrArg (· + (y 0).val) (Nat.mul_comm _ _)
  have e1 : (((win0_4.blk t).view.emb y) 1 : Nat) = (y 1).val := by
    blk_simp [idx4]
  suffices H : ∀ i : S16384x1024.Idx, (i 0).val = 512 * t.val + (y 0).val → (i 1).val = (y 1).val →
      (outsAt0 m c t.val t.isLt).1 (y : S512x1024.Idx) = aqkvK (argX m c) (argIn m c) (i 0) (i 1) from H _ e0 e1
  intro i hi0 hi1
  have hy : (y : S512x1024.Idx) = ix2 ⟨(y 0).val, h0⟩ ⟨(y 1).val, h1⟩ := by
    funext a
    match a with
    | ⟨0, _⟩ => rfl
    | ⟨1, _⟩ => rfl
  rw [hy]
  exact (aqkv_at m c t _ _ (i 0) hi0).trans (congrArg (aqkvK (argX m c) (argIn m c) (i 0)) (Fin.ext hi1.symm))

theorem dq_array (c : Dev nD) : (dats m 0 c).arrAt 5 cfg0.N = fun i : S16384x512.Idx => dqK (argX m c) (argIn m c) (argConv m c) (i 0) (i 1) := by
  refine (dats m 0 c).arrAt_eq_of_covers 5 _ (by decide +kernel) fun t hf y => ?_
  blk_simp
  rw [after0_5]
  have h0 : (y 0).val < 512 := (y 0).isLt
  have h1 : (y 1).val < 512 := (y 1).isLt
  have e0 : (((win0_5.blk t).view.emb y) 0 : Nat) = 512 * t.val + (y 0).val := by
    blk_simp [idx5]; exact congrArg (· + (y 0).val) (Nat.mul_comm _ _)
  have e1 : (((win0_5.blk t).view.emb y) 1 : Nat) = (y 1).val := by
    blk_simp [idx5]
  suffices H : ∀ i : S16384x512.Idx, (i 0).val = 512 * t.val + (y 0).val → (i 1).val = (y 1).val →
      (outsAt0 m c t.val t.isLt).2.1 (y : S512x512.Idx) = dqK (argX m c) (argIn m c) (argConv m c) (i 0) (i 1) from H _ e0 e1
  intro i hi0 hi1
  have hy : (y : S512x512.Idx) = ix2 ⟨(y 0).val, h0⟩ ⟨(y 1).val, h1⟩ := by
    funext a
    match a with
    | ⟨0, _⟩ => rfl
    | ⟨1, _⟩ => rfl
  rw [hy]
  exact (dq_at m c t _ _ (i 0) hi0).trans (congrArg (dqK (argX m c) (argIn m c) (argConv m c) (i 0)) (Fin.ext hi1.symm))

theorem dk_array (c : Dev nD) : (dats m 0 c).arrAt 6 cfg0.N = fun i : S16384x512.Idx => dkK (argX m c) (argIn m c) (argConv m c) (i 0) (i 1) := by
  refine (dats m 0 c).arrAt_eq_of_covers 6 _ (by decide +kernel) fun t hf y => ?_
  blk_simp
  rw [after0_6]
  have h0 : (y 0).val < 512 := (y 0).isLt
  have h1 : (y 1).val < 512 := (y 1).isLt
  have e0 : (((win0_6.blk t).view.emb y) 0 : Nat) = 512 * t.val + (y 0).val := by
    blk_simp [idx6]; exact congrArg (· + (y 0).val) (Nat.mul_comm _ _)
  have e1 : (((win0_6.blk t).view.emb y) 1 : Nat) = (y 1).val := by
    blk_simp [idx6]
  suffices H : ∀ i : S16384x512.Idx, (i 0).val = 512 * t.val + (y 0).val → (i 1).val = (y 1).val →
      (outsAt0 m c t.val t.isLt).2.2.1 (y : S512x512.Idx) = dkK (argX m c) (argIn m c) (argConv m c) (i 0) (i 1) from H _ e0 e1
  intro i hi0 hi1
  have hy : (y : S512x512.Idx) = ix2 ⟨(y 0).val, h0⟩ ⟨(y 1).val, h1⟩ := by
    funext a
    match a with
    | ⟨0, _⟩ => rfl
    | ⟨1, _⟩ => rfl
  rw [hy]
  exact (dk_at m c t _ _ (i 0) hi0).trans (congrArg (dkK (argX m c) (argIn m c) (argConv m c) (i 0)) (Fin.ext hi1.symm))

theorem dkt_array (c : Dev nD) : (dats m 0 c).arrAt 7 cfg0.N = fun i : S4x512x4096.Idx => dkK (argX m c) (argIn m c) (argConv m c) (rowAt (i 0) (i 2)) (i 1) := by
  refine (dats m 0 c).arrAt_eq_of_covers 7 _ (by decide +kernel) fun t hf y => ?_
  blk_simp
  rw [after0_7]
  have h0 : (y 0).val < 1 := (y 0).isLt
  have h1 : (y 1).val < 512 := (y 1).isLt
  have h2 : (y 2).val < 512 := (y 2).isLt
  have e0 : (((win0_7.blk t).view.emb y) 0 : Nat) = t.val / 8 := by
    blk_simp [idx7]
  have e1 : (((win0_7.blk t).view.emb y) 1 : Nat) = (y 1).val := by
    blk_simp [idx7]
  have e2 : (((win0_7.blk t).view.emb y) 2 : Nat) = 512 * (t.val % 8) + (y 2).val := by
    blk_simp [idx7]; exact congrArg (· + (y 2).val) (Nat.mul_comm _ _)
  suffices H : ∀ i : S4x512x4096.Idx, (i 0).val = t.val / 8 → (i 1).val = (y 1).val → (i 2).val = 512 * (t.val % 8) + (y 2).val →
      (outsAt0 m c t.val t.isLt).2.2.2.1 (y : S1x512x512.Idx) = dkK (argX m c) (argIn m c) (argConv m c) (rowAt (i 0) (i 2)) (i 1) from H _ e0 e1 e2
  intro i hi0 hi1 hi2
  have hy : (y : S1x512x512.Idx) = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  rw [hy]
  exact (dkt_at m c t _ _ (rowAt (i 0) (i 2)) (by show 4096 * (i 0).val + (i 2).val = 512 * t.val + (y 2).val; omega)).trans
    (congrArg (dkK (argX m c) (argIn m c) (argConv m c) (rowAt (i 0) (i 2))) (Fin.ext hi1.symm))

theorem dv_array (c : Dev nD) : (dats m 0 c).arrAt 8 cfg0.N = fun i : S16384x512.Idx => dvK (argX m c) (argIn m c) (argConv m c) (i 0) (i 1) := by
  refine (dats m 0 c).arrAt_eq_of_covers 8 _ (by decide +kernel) fun t hf y => ?_
  blk_simp
  rw [after0_8]
  have h0 : (y 0).val < 512 := (y 0).isLt
  have h1 : (y 1).val < 512 := (y 1).isLt
  have e0 : (((win0_8.blk t).view.emb y) 0 : Nat) = 512 * t.val + (y 0).val := by
    blk_simp [idx8]; exact congrArg (· + (y 0).val) (Nat.mul_comm _ _)
  have e1 : (((win0_8.blk t).view.emb y) 1 : Nat) = (y 1).val := by
    blk_simp [idx8]
  suffices H : ∀ i : S16384x512.Idx, (i 0).val = 512 * t.val + (y 0).val → (i 1).val = (y 1).val →
      (outsAt0 m c t.val t.isLt).2.2.2.2.1 (y : S512x512.Idx) = dvK (argX m c) (argIn m c) (argConv m c) (i 0) (i 1) from H _ e0 e1
  intro i hi0 hi1
  have hy : (y : S512x512.Idx) = ix2 ⟨(y 0).val, h0⟩ ⟨(y 1).val, h1⟩ := by
    funext a
    match a with
    | ⟨0, _⟩ => rfl
    | ⟨1, _⟩ => rfl
  rw [hy]
  exact (dv_at m c t _ _ (i 0) hi0).trans (congrArg (dvK (argX m c) (argIn m c) (argConv m c) (i 0)) (Fin.ext hi1.symm))

theorem dzs_array (c : Dev nD) : (dats m 0 c).arrAt 9 cfg0.N = fun i : S16384x512.Idx => dzsK (argX m c) (argIn m c) (i 0) (i 1) := by
  refine (dats m 0 c).arrAt_eq_of_covers 9 _ (by decide +kernel) fun t hf y => ?_
  blk_simp
  rw [after0_9]
  have h0 : (y 0).val < 512 := (y 0).isLt
  have h1 : (y 1).val < 512 := (y 1).isLt
  have e0 : (((win0_9.blk t).view.emb y) 0 : Nat) = 512 * t.val + (y 0).val := by
    blk_simp [idx9]; exact congrArg (· + (y 0).val) (Nat.mul_comm _ _)
  have e1 : (((win0_9.blk t).view.emb y) 1 : Nat) = (y 1).val := by
    blk_simp [idx9]
  suffices H : ∀ i : S16384x512.Idx, (i 0).val = 512 * t.val + (y 0).val → (i 1).val = (y 1).val →
      (outsAt0 m c t.val t.isLt).2.2.2.2.2.1 (y : S512x512.Idx) = dzsK (argX m c) (argIn m c) (i 0) (i 1) from H _ e0 e1
  intro i hi0 hi1
  have hy : (y : S512x512.Idx) = ix2 ⟨(y 0).val, h0⟩ ⟨(y 1).val, h1⟩ := by
    funext a
    match a with
    | ⟨0, _⟩ => rfl
    | ⟨1, _⟩ => rfl
  rw [hy]
  exact (dzs_at m c t _ _ (i 0) hi0).trans (congrArg (dzsK (argX m c) (argIn m c) (i 0)) (Fin.ext hi1.symm))

end Cert.Project

end
-- ==== Proof.Project.Gates.lean ====
/- The gates of a block at an index: six steps, each adding the row twice as far above in its chunk of 64, cumulate the chunk's rows. -/
module

public import proofs.«01_k».proof.Proof.Project.BlockValue

@[expose] public section

set_option maxRecDepth 16384

noncomputable section

namespace Cert.Project

open Cert.Kernel3Ideal Cert.Kernel3Ideal.Gen Idealize.ShloMosaic Idealize.ShloMosaic.TcCoe Idealize.SL.Sem

open Cert.Merge (half gate half_eq half_tanh)

/-! ## The cumulated sum -/

theorem position_word : ∀ r : Fin 512, position (ix2 r 0) = BitVec.ofNat 32 (r.val % 64) := by
  unfold position row
  pointwise
  decide +kernel

theorem position_apply (r : Fin 512) (l : Fin 128) : position (ix2 r l) = BitVec.ofNat 32 (r.val % 64) := by
  refine Eq.trans ?_ (position_word r)
  unfold position row
  pointwise

theorem reaches : ∀ q n : Fin 64, IntOp.cmpi .sge (BitVec.ofNat 32 q.val) (BitVec.ofNat 32 n.val) = if n.val ≤ q.val then 1#1 else 0#1 := by
  decide +kernel

theorem amount : ∀ n : Fin 64, (BitVec.ofNat 32 n.val).toNat = n.val := by decide

/-- One step at an index. -/
theorem step_apply (n : Fin 64) (g : FVec Ideal S512x128 .f32) (r : Fin 512) (l : Fin 128) :
    step (BitVec.ofNat 32 n.val) g (ix2 r l)
      = g (ix2 r l) + if h : n.val ≤ r.val % 64 then g (ix2 ⟨r.val - n.val, by omega⟩ l) else 0 := by
  have hq := position_apply r l
  have ha := amount n
  have hr := reaches ⟨r.val % 64, Nat.mod_lt _ (by decide)⟩ n
  unfold step
  generalize BitVec.ofNat 32 n.val = s at ha hr ⊢
  generalize position = q at hq
  pointwise
  rw [hq, hr]
  by_cases h : n.val ≤ r.val % 64
  · rw [dif_pos h, if_pos h]
    refine congrArg (_ + ·) (congrArg (fun z => g (ix2 z l)) (Fin.ext ?_))
    show (r.val + 512 - s.toNat % 512) % 512 = r.val - n.val
    rw [ha]
    omega
  · rw [dif_neg h, if_neg h]
    rfl

/-- The last `n` values up to position `r`, of those in its chunk of 64. -/
def window (f : ℕ → EReal) (n r : ℕ) : EReal := ∑ j ∈ Finset.range (min n (r % 64 + 1)), f (r - j)

theorem window_one (f : ℕ → EReal) (r : ℕ) : window f 1 r = f r := by
  unfold window
  rw [Nat.min_eq_left (by omega), Finset.sum_range_one, Nat.sub_zero]

/-- Two windows side by side are one twice as long. -/
theorem window_double (f : ℕ → EReal) (n r : ℕ) :
    window f n r + (if n ≤ r % 64 then window f n (r - n) else 0) = window f (2 * n) r := by
  unfold window
  by_cases h : n ≤ r % 64
  · have e : min (2 * n) (r % 64 + 1) = n + min n ((r - n) % 64 + 1) := by omega
    rw [if_pos h, e, Finset.sum_range_add, Nat.min_eq_left (by omega)]
    exact congrArg (_ + ·) (Finset.sum_congr rfl fun j _ => congrArg f (by omega))
  · rw [if_neg h, add_zero, Nat.min_eq_right (by omega), Nat.min_eq_right (by omega)]

/-- The whole chunk's window is the sum of the chunk's values up to the position. -/
theorem window_chunk (f : ℕ → EReal) (r : ℕ) :
    window f 64 r = ∑ j : Fin 64, if j.val ≤ r % 64 then f (64 * (r / 64) + j.val) else 0 := by
  have e : ∀ p, p < 64 → ∑ j : Fin 64, (if j.val ≤ p then f (64 * (r / 64) + j.val) else 0)
      = ∑ j ∈ Finset.range (p + 1), f (64 * (r / 64) + j) := by
    intro p hp
    rw [Fin.sum_univ_eq_sum_range (fun j => if j ≤ p then f (64 * (r / 64) + j) else 0) 64, ← Finset.sum_filter]
    refine Finset.sum_congr (Finset.ext fun j => ?_) fun _ _ => rfl
    rw [Finset.mem_filter, Finset.mem_range, Finset.mem_range]
    omega
  rw [e _ (Nat.mod_lt _ (by decide))]
  unfold window
  rw [Nat.min_eq_right (by omega), ← Finset.sum_range_reflect]
  refine Finset.sum_congr rfl fun j hj => congrArg f ?_
  rw [Finset.mem_range] at hj
  omega

/-- A lane's values down the rows. -/
def column (g : FVec Ideal S512x128 .f32) (l : Fin 128) (j : ℕ) : EReal := if h : j < 512 then g (ix2 ⟨j, h⟩ l) else 0

theorem step_window (n : Fin 64) (f : ℕ → EReal) (G : FVec Ideal S512x128 .f32) (l : Fin 128)
    (hG : ∀ r : Fin 512, G (ix2 r l) = window f n.val r.val) (r : Fin 512) :
    step (BitVec.ofNat 32 n.val) G (ix2 r l) = window f (2 * n.val) r.val := by
  rw [step_apply, ← window_double, hG]
  by_cases h : n.val ≤ r.val % 64
  · rw [dif_pos h, if_pos h, hG]
  · rw [dif_neg h, if_neg h]

theorem steps_apply (g : FVec Ideal S512x128 .f32) (r : Fin 512) (l : Fin 128) :
    step 32#32 (step 16#32 (step 8#32 (step 4#32 (step 2#32 (step 1#32 g))))) (ix2 r l)
      = ∑ j : Fin 64, if j.val ≤ r.val % 64 then g (ix2 ⟨64 * (r.val / 64) + j.val, by omega⟩ l) else 0 := by
  have h0 : ∀ r : Fin 512, g (ix2 r l) = window (column g l) 1 r.val := fun r => by
    rw [window_one]
    unfold column
    rw [dif_pos r.isLt]
  have h := step_window 32 _ _ l (step_window 16 _ _ l (step_window 8 _ _ l (step_window 4 _ _ l (step_window 2 _ _ l (step_window 1 _ _ l h0))))) r
  refine h.trans ((window_chunk (column g l) r.val).trans (Finset.sum_congr rfl fun j _ => ?_))
  by_cases hj : j.val ≤ r.val % 64
  · rw [if_pos hj, if_pos hj]
    exact dif_pos _
  · rw [if_neg hj, if_neg hj]

/-! ## The gates -/

theorem beta_apply (p : FVec Ideal S512x128 .f32) (i : S512x128.Idx) : beta p i = gate (p i) := by
  rw [← half_tanh]
  rfl

def softplus (z : EReal) : EReal := max z 0 + Ideal.log1p (Ideal.exp (0 - max z (-z)))

theorem decay_apply (p : FVec Ideal S512x128 .f32) (x3 : Vec Ideal S2x128 .f32) (r : Fin 512) (l : Fin 128) :
    decay p x3 (ix2 r l) = (0 - Ideal.exp (x3 (ix2 0 l))) * softplus (p (ix2 r l) + x3 (ix2 1 l)) := by
  unfold decay
  pointwise
  rfl

theorem below : ∀ l : Fin 128, IntOp.cmpi .slt (BitVec.ofNat 32 l.val) 4#32 = if l.val < 4 then 1#1 else 0#1 := by decide
theorem below' : ∀ l : Fin 128, IntOp.cmpi .slt (BitVec.ofNat 32 l.val) 8#32 = if l.val < 8 then 1#1 else 0#1 := by decide

theorem gates_select (a b z : FVec Ideal S512x128 .f32) (r : Fin 512) (l : Fin 128) :
    select (cmpi .slt lane (broadcast S512x128 4#32)) a (select (cmpi .slt lane (broadcast S512x128 8#32)) b z) (ix2 r l)
      = if l.val < 4 then a (ix2 r l) else if l.val < 8 then b (ix2 r l) else z (ix2 r l) := by
  unfold lane
  pointwise
  rw [below, below']
  by_cases h : l.val < 4
  · rw [if_pos h, if_pos h]; rfl
  · rw [if_neg h, if_neg h]
    by_cases h' : l.val < 8
    · rw [if_pos h', if_pos h']; rfl
    · rw [if_neg h', if_neg h']; rfl

/-- A row of the gates: the logistic functions, the cumulated decays, and zeros. -/
theorem gates_apply (p : FVec Ideal S512x128 .f32) (x3 : Vec Ideal S2x128 .f32) (r : Fin 512) (l : Fin 128) :
    gates p x3 (ix2 r l) = if l.val < 4 then gate (p (ix2 r l)) else if l.val < 8 then
      ∑ j : Fin 64, (if j.val ≤ r.val % 64 then (0 - Ideal.exp (x3 (ix2 0 l))) * softplus (p (ix2 ⟨64 * (r.val / 64) + j.val, by omega⟩ l) + x3 (ix2 1 l)) else 0)
      else 0 := by
  unfold gates
  rw [gates_select, beta_apply, steps_apply]
  simp only [decay_apply]
  rw [← zero_eq]
  rfl

theorem gatesT_apply (g : FVec Ideal S512x128 .f32) (r : Fin 512) (l : Fin 8) :
    gatesT g (ix3 0 l r) = g (ix2 r ⟨l.val, by omega⟩) := by
  unfold gatesT
  pointwise

end Cert.Project

end
-- ==== Proof.Project.Params.lean ====
/- The decays' parameters as the kernel reads them: lanes 4 to 7 of one row are the logarithms, of the other the biases. -/
module

public import proofs.«01_k».proof.Proof.Project.Points
public import Idealize.ShloMosaic.Lib.Routing.OpsOrder
public import Idealize.ShloMosaic.Lib.Pointwise

@[expose] public section

set_option maxRecDepth 16384

noncomputable section

namespace Cert.Project

open Cert.Kernel3Ideal Cert.Kernel3Ideal.Gen Idealize.ShloMosaic Idealize.ShloMosaic.TcCoe Idealize.SL.Sem

/-- Where a pair of start words sends the updates: row `r`, lanes 4 and on. -/
def start (r : Fin 2) : IVec S2 32 := fun i => if (i 0).val = 0 then BitVec.ofNat 32 r.val else 4#32

theorem hit : ∀ (r : Fin 2) (n : Fin 4), scatter_S2x128_S2_S4_0_0_01_0.resultIdx? (S4.rowMajor.symm n) (start r)
    = some (ix2 r ⟨4 + n.val, by omega⟩) := by
  decide +kernel

theorem place (n : Fin 4) : S4.rowMajor.symm n = ix1 n := by
  funext a
  fin_cases a
  have h : ∀ n : Fin 4, (S4.rowMajor.symm n 0).val = n.val := by decide +kernel
  exact Fin.ext (h n)

/-- An update sets its lane of row `r`, and no other row's. -/
theorem scatter_row (r a : Fin 2) (x : FVec Ideal S2x128 .f32) (u : FVec Ideal S4 .f32) (h : Fin 4) :
    Host.scatter scatter_S2x128_S2_S4_0_0_01_0 (fun _ b => b) x (start r) u (ix2 a ⟨4 + h.val, by omega⟩)
      = if a = r then u (ix1 h) else x (ix2 a ⟨4 + h.val, by omega⟩) := by
  have hl : ([0, 1, 2, 3] : List (Fin 4)) = List.finRange 4 := by decide
  have hne : ∀ (n : Fin 4), (some (ix2 r (⟨4 + n.val, by omega⟩ : Fin 128)) : Option S2x128.Idx) = some (ix2 a ⟨4 + h.val, by omega⟩) ↔ a = r ∧ n = h := by
    intro n
    constructor
    · intro e
      have e' := Option.some.inj e
      refine ⟨(congrFun e' 0).symm, Fin.ext ?_⟩
      have := congrArg Fin.val (congrFun e' 1)
      change 4 + n.val = 4 + h.val at this
      omega
    · rintro ⟨rfl, rfl⟩
      rfl
  rw [← Routing.scatterIn_finRange, Routing.scatterIn_at]
  refine (congrArg (fun l : List (Fin 4) => l.foldl _ _) hl.symm).trans ?_
  refine (congrArg (fun f : EReal → Fin 4 → EReal => List.foldl f (x (ix2 a ⟨4 + h.val, by omega⟩)) [0, 1, 2, 3])
    (funext fun b => funext fun n => if_congr ((Eq.congr (hit r n) rfl).trans (hne n)) (congrArg u (place n)) rfl :
      _ = fun (b : EReal) (n : Fin 4) => if a = r ∧ n = h then u (ix1 n) else b)).trans ?_
  simp only [List.foldl_cons, List.foldl_nil]

  by_cases ha : a = r
  · subst ha
    fin_cases h <;> simp
  · simp [ha]

def pair (a b : IVec S1 32) : IVec S2 32 := concatenate S2 0 [⟨S1, a⟩, ⟨S1, b⟩] concatenates_S1_S1_S2_d0

theorem pair_eq (r : Fin 2) : pair (broadcastInDim S1 ![] bcast_S_S1 (constantI S_ 32 (BitVec.ofNat 32 r.val))) (broadcastInDim S1 ![] bcast_S_S1 (constantI S_ 32 4#32)) = start r := by
  funext i
  obtain ⟨j, rfl⟩ : ∃ j : Fin 2, i = ix1 j := ⟨i 0, by funext a; fin_cases a; rfl⟩
  unfold pair start
  pointwise
  fin_cases j <;> rfl

variable (m : (ℓ : Loc nD τ sig) → Buf (Elt Ideal) ℓ)

theorem bufPar_eq (c : Dev nD) : bufPar m c
    = Host.scatter scatter_S2x128_S2_S4_0_0_01_0 (fun _ b => b)
        (Host.scatter scatter_S2x128_S2_S4_0_0_01_0 (fun _ b => b) (broadcastInDim S2x128 ![] bcast_S_S2x128 (constant S_ .f32 0x00000000#32)) (start 0) (argLog m c))
        (start 1) (argBias m c) := by
  rw [← pair_eq 0, ← pair_eq 1]
  unfold bufPar V
  after_reads_simp
  rfl

theorem bufPar_log (c : Dev nD) (h : Fin 4) : bufPar m c (ix2 0 ⟨4 + h.val, by omega⟩) = argLog m c (ix1 h) := by
  rw [bufPar_eq, scatter_row, scatter_row, if_neg (by decide), if_pos rfl]

theorem bufPar_bias (c : Dev nD) (h : Fin 4) : bufPar m c (ix2 1 ⟨4 + h.val, by omega⟩) = argBias m c (ix1 h) := by
  rw [bufPar_eq, scatter_row, if_pos rfl]

end Cert.Project

end
-- ==== Proof.Project.GateArray.lean ====
/- The gates' two result arrays as functions of the arguments. -/
module

public import proofs.«01_k».proof.Proof.Project.Array
public import proofs.«01_k».proof.Proof.Project.Gates
public import proofs.«01_k».proof.Proof.Project.Params

@[expose] public section

set_option maxRecDepth 16384

noncomputable section

namespace Cert.Project

open Cert.Kernel3Ideal Cert.Kernel3Ideal.Gen Idealize.ShloMosaic Idealize.ShloMosaic.TcCoe Idealize.SL.Sem

open Cert.Merge (half gate half_eq half_tanh)

/-- The decay's step of head `h` at row `R`. -/
def stepK (x : FVec Ideal S4x4096x1024 .f32) (w : FVec Ideal S1024x4872 .f32) (al bi : FVec Ideal S4 .f32) (R : Fin 16384) (h : Fin 4) : EReal :=
  (0 - Ideal.exp (al (ix1 h))) * softplus (proj x w R ⟨2820 + h.val, by omega⟩ + bi (ix1 h))

/-- The gates' row: the betas, the decays summed up within their chunk, and zeroes. -/
def gatesK (x : FVec Ideal S4x4096x1024 .f32) (w : FVec Ideal S1024x4872 .f32) (al bi : FVec Ideal S4 .f32) (R : Fin 16384) (l : Fin 128) : EReal :=
  if l.val < 4 then gate (proj x w R ⟨2816 + l.val, by omega⟩)
  else if h : l.val < 8 then ∑ j : Fin 64, (if j.val ≤ R.val % 64 then stepK x w al bi ⟨64 * (R.val / 64) + j.val, by omega⟩ ⟨l.val - 4, by omega⟩ else 0)
  else 0

variable (m : (ℓ : Loc nD τ sig) → Buf (Elt Ideal) ℓ)

theorem blk3_log (c : Dev nD) (t : Fin cfg0.N) (l : Fin 128) (h4 : ¬ l.val < 4) (h8 : l.val < 8) :
    blk3 m c t (ix2 0 l) = argLog m c (ix1 ⟨l.val - 4, by omega⟩) := by
  rw [blk3_apply, ← bufPar_log]
  exact congrArg (fun k => bufPar m c (ix2 0 k)) (Fin.ext (by show l.val = 4 + (l.val - 4); omega))

theorem blk3_bias (c : Dev nD) (t : Fin cfg0.N) (l : Fin 128) (h4 : ¬ l.val < 4) (h8 : l.val < 8) :
    blk3 m c t (ix2 1 l) = argBias m c (ix1 ⟨l.val - 4, by omega⟩) := by
  rw [blk3_apply, ← bufPar_bias]
  exact congrArg (fun k => bufPar m c (ix2 1 k)) (Fin.ext (by show l.val = 4 + (l.val - 4); omega))

theorem gates_at (c : Dev nD) (t : Fin cfg0.N) (r : Fin 512) (l : Fin 128) (R : Fin 16384) (hR : R.val = 512 * t.val + r.val) :
    (outsAt0 m c t.val t.isLt).2.2.2.2.2.2.1 (ix2 r l) = gatesK (argX m c) (argIn m c) (argLog m c) (argBias m c) R l := by
  rw [gates_point, gateW_buffer, gates_apply]
  unfold gatesK
  by_cases h4 : l.val < 4
  · rw [if_pos h4, if_pos h4, prod_gate m c t r l (by omega) R hR]
  rw [if_neg h4, if_neg h4]
  by_cases h8 : l.val < 8
  · rw [if_pos h8, dif_pos h8]
    have hr : R.val % 64 = r.val % 64 := by omega
    refine Finset.sum_congr rfl fun j _ => ?_
    rw [hr]
    refine congrArg (fun v => if j.val ≤ r.val % 64 then v else (0 : EReal)) ?_
    unfold stepK
    rw [blk3_log m c t l h4 h8, blk3_bias m c t l h4 h8,
      prod_gate m c t ⟨64 * (r.val / 64) + j.val, by omega⟩ l h8 ⟨64 * (R.val / 64) + j.val, by omega⟩ (by show 64 * (R.val / 64) + j.val = 512 * t.val + (64 * (r.val / 64) + j.val); omega)]
    refine congrArg (fun k => _ * softplus (proj _ _ _ k + _)) (Fin.ext ?_)
    show 2816 + l.val = 2820 + (l.val - 4)
    omega
  · rw [if_neg h8, dif_neg h8]

/-- The first eight of a row's gates. -/
def gatesTK (x : FVec Ideal S4x4096x1024 .f32) (w : FVec Ideal S1024x4872 .f32) (al bi : FVec Ideal S4 .f32) (R : Fin 16384) (l : Fin 8) : EReal :=
  gatesK x w al bi R ⟨l.val, by omega⟩

theorem gatesT_at (c : Dev nD) (t : Fin cfg0.N) (r : Fin 512) (l : Fin 8) (R : Fin 16384) (hR : R.val = 512 * t.val + r.val) :
    (outsAt0 m c t.val t.isLt).2.2.2.2.2.2.2.1 (ix3 0 l r) = gatesTK (argX m c) (argIn m c) (argLog m c) (argBias m c) R l := by
  rw [gatesT_point, gatesT_apply, ← gates_point]
  exact gates_at m c t r _ R hR

theorem gates_array (c : Dev nD) : (dats m 0 c).arrAt 10 cfg0.N = fun i : S16384x128.Idx => gatesK (argX m c) (argIn m c) (argLog m c) (argBias m c) (i 0) (i 1) := by
  refine (dats m 0 c).arrAt_eq_of_covers 10 _ (by decide +kernel) fun t hf y => ?_
  blk_simp
  rw [after0_10]
  have h0 : (y 0).val < 512 := (y 0).isLt
  have h1 : (y 1).val < 128 := (y 1).isLt
  have e0 : (((win0_10.blk t).view.emb y) 0 : Nat) = 512 * t.val + (y 0).val := by
    blk_simp [idx10]; exact congrArg (· + (y 0).val) (Nat.mul_comm _ _)
  have e1 : (((win0_10.blk t).view.emb y) 1 : Nat) = (y 1).val := by
    blk_simp [idx10]
  suffices H : ∀ i : S16384x128.Idx, (i 0).val = 512 * t.val + (y 0).val → (i 1).val = (y 1).val →
      (outsAt0 m c t.val t.isLt).2.2.2.2.2.2.1 (y : S512x128.Idx) = gatesK (argX m c) (argIn m c) (argLog m c) (argBias m c) (i 0) (i 1) from H _ e0 e1
  intro i hi0 hi1
  have hy : (y : S512x128.Idx) = ix2 ⟨(y 0).val, h0⟩ ⟨(y 1).val, h1⟩ := by
    funext a
    match a with
    | ⟨0, _⟩ => rfl
    | ⟨1, _⟩ => rfl
  rw [hy]
  exact (gates_at m c t _ _ (i 0) hi0).trans (congrArg (gatesK (argX m c) (argIn m c) (argLog m c) (argBias m c) (i 0)) (Fin.ext hi1.symm))

theorem gatesT_array (c : Dev nD) : (dats m 0 c).arrAt 11 cfg0.N = fun i : S4x8x4096.Idx => gatesTK (argX m c) (argIn m c) (argLog m c) (argBias m c) (rowAt (i 0) (i 2)) (i 1) := by
  refine (dats m 0 c).arrAt_eq_of_covers 11 _ (by decide +kernel) fun t hf y => ?_
  blk_simp
  rw [after0_11]
  have h0 : (y 0).val < 1 := (y 0).isLt
  have h1 : (y 1).val < 8 := (y 1).isLt
  have h2 : (y 2).val < 512 := (y 2).isLt
  have e0 : (((win0_11.blk t).view.emb y) 0 : Nat) = t.val / 8 := by
    blk_simp [idx11]
  have e1 : (((win0_11.blk t).view.emb y) 1 : Nat) = (y 1).val := by
    blk_simp [idx11]
  have e2 : (((win0_11.blk t).view.emb y) 2 : Nat) = 512 * (t.val % 8) + (y 2).val := by
    blk_simp [idx11]; exact congrArg (· + (y 2).val) (Nat.mul_comm _ _)
  suffices H : ∀ i : S4x8x4096.Idx, (i 0).val = t.val / 8 → (i 1).val = (y 1).val → (i 2).val = 512 * (t.val % 8) + (y 2).val →
      (outsAt0 m c t.val t.isLt).2.2.2.2.2.2.2.1 (y : S1x8x512.Idx) = gatesTK (argX m c) (argIn m c) (argLog m c) (argBias m c) (rowAt (i 0) (i 2)) (i 1) from H _ e0 e1 e2
  intro i hi0 hi1 hi2
  have hy : (y : S1x8x512.Idx) = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  rw [hy]
  exact (gatesT_at m c t _ _ (rowAt (i 0) (i 2)) (by show 4096 * (i 0).val + (i 2).val = 512 * t.val + (y 2).val; omega)).trans
    (congrArg (gatesTK (argX m c) (argIn m c) (argLog m c) (argBias m c) (rowAt (i 0) (i 2))) (Fin.ext hi1.symm))

end Cert.Project

end
-- ==== Proof.Project.Stages.lean ====
/- The reference's operations in eleven stretches, and what each leaves alone. -/
module

public import proofs.«01_k».proof.Proof.Gen.Reference3Ideal
public import Idealize.ShloMosaic.Lib.StableHlo.Run

@[expose] public section

set_option maxRecDepth 8192

noncomputable section

namespace Cert.Project.Ref

open Cert.Reference3Ideal Cert.Reference3Ideal.Gen Idealize.ShloMosaic Idealize.ShloMosaic.TcCoe Idealize.SL.Sem Idealize.ShloMosaic.StableHlo

variable {F : FTy → Type} [FloatOps F]

/-- The function of the operation that writes `main_v15`, applied to its operands as plain arguments. -/
def fn_main_v15 : (main_v11 : Ref sig .tc).ty.Contents (Elt F) → (main_v12 : Ref sig .tc).ty.Contents (Elt F) → (main_v13 : Ref sig .tc).ty.Contents (Elt F) → (main_v14 : Ref sig .tc).ty.Contents (Elt F) → (main_v15 : Ref sig .tc).ty.Contents (Elt F) :=
  (fun u0 u1 u2 u3 => (concatenate S4x4096x256 2 [⟨S4x4096x64, (u0 : (⟨S4x4096x64, .f32⟩ : BufTy).Contents (Elt F))⟩, ⟨S4x4096x64, (u1 : (⟨S4x4096x64, .f32⟩ : BufTy).Contents (Elt F))⟩, ⟨S4x4096x64, (u2 : (⟨S4x4096x64, .f32⟩ : BufTy).Contents (Elt F))⟩, ⟨S4x4096x64, (u3 : (⟨S4x4096x64, .f32⟩ : BufTy).Contents (Elt F))⟩] concatenates_S4x4096x64_S4x4096x64_S4x4096x64_S4x4096x64_S4x4096x256_d2 : (⟨S4x4096x256, .f32⟩ : BufTy).Contents (Elt F)))

/-- The function of the operation that writes `main_v20`, applied to its operands as plain arguments. -/
def fn_main_v20 : (main_v16 : Ref sig .tc).ty.Contents (Elt F) → (main_v17 : Ref sig .tc).ty.Contents (Elt F) → (main_v18 : Ref sig .tc).ty.Contents (Elt F) → (main_v19 : Ref sig .tc).ty.Contents (Elt F) → (main_v20 : Ref sig .tc).ty.Contents (Elt F) :=
  (fun u0 u1 u2 u3 => (concatenate S4x4096x256 2 [⟨S4x4096x64, (u0 : (⟨S4x4096x64, .f32⟩ : BufTy).Contents (Elt F))⟩, ⟨S4x4096x64, (u1 : (⟨S4x4096x64, .f32⟩ : BufTy).Contents (Elt F))⟩, ⟨S4x4096x64, (u2 : (⟨S4x4096x64, .f32⟩ : BufTy).Contents (Elt F))⟩, ⟨S4x4096x64, (u3 : (⟨S4x4096x64, .f32⟩ : BufTy).Contents (Elt F))⟩] concatenates_S4x4096x64_S4x4096x64_S4x4096x64_S4x4096x64_S4x4096x256_d2 : (⟨S4x4096x256, .f32⟩ : BufTy).Contents (Elt F)))

/-- The function of the operation that writes `main_v21`, applied to its operands as plain arguments. -/
def fn_main_v21 : (main_v10 : Ref sig .tc).ty.Contents (Elt F) → (main_v15 : Ref sig .tc).ty.Contents (Elt F) → (main_v20 : Ref sig .tc).ty.Contents (Elt F) → (main_v21 : Ref sig .tc).ty.Contents (Elt F) :=
  (fun u0 u1 u2 => (concatenate S4x4096x1024 2 [⟨S4x4096x512, (u0 : (⟨S4x4096x512, .f32⟩ : BufTy).Contents (Elt F))⟩, ⟨S4x4096x256, (u1 : (⟨S4x4096x256, .f32⟩ : BufTy).Contents (Elt F))⟩, ⟨S4x4096x256, (u2 : (⟨S4x4096x256, .f32⟩ : BufTy).Contents (Elt F))⟩] concatenates_S4x4096x512_S4x4096x256_S4x4096x256_S4x4096x1024_d2 : (⟨S4x4096x1024, .f32⟩ : BufTy).Contents (Elt F)))

/-- The function of the operation that writes `main_v106`, applied to its operands as plain arguments. -/
def fn_main_v106 : (main_v104 : Ref sig .tc).ty.Contents (Elt F) → (main_v98 : Ref sig .tc).ty.Contents (Elt F) → (main_v105 : Ref sig .tc).ty.Contents (Elt F) → (main_v106 : Ref sig .tc).ty.Contents (Elt F) :=
  (fun u0 u1 u2 => (concatenate S4x4096x128 2 [⟨S4x4096x4, (u0 : (⟨S4x4096x4, .f32⟩ : BufTy).Contents (Elt F))⟩, ⟨S4x4096x4, (u1 : (⟨S4x4096x4, .f32⟩ : BufTy).Contents (Elt F))⟩, ⟨S4x4096x120, (u2 : (⟨S4x4096x120, .f32⟩ : BufTy).Contents (Elt F))⟩] concatenates_S4x4096x4_S4x4096x4_S4x4096x120_S4x4096x128_d2 : (⟨S4x4096x128, .f32⟩ : BufTy).Contents (Elt F)))

/-- The projection and the attention's operands. -/
abbrev o1 : List (HloOp τ sig (Elt F)) :=
  [ binary main_arg0 main_arg1 main_v0 ((fun l r => Host.dotGeneral dot_S4x4096x1024_S1024x4872_S4x4096x4872_2_0_01_1_n_n none l r) : (⟨S4x4096x1024, .f32⟩ : BufTy).Contents (Elt F) → (⟨S1024x4872, .f32⟩ : BufTy).Contents (Elt F) → (⟨S4x4096x4872, .f32⟩ : BufTy).Contents (Elt F)),
    unary main_v0 main_v1 ((extractStridedSlice S4x4096x512 ![0, 0, 0] · slices_S4x4096x4872_S4x4096x512_0_0_0) : (⟨S4x4096x4872, .f32⟩ : BufTy).Contents (Elt F) → (⟨S4x4096x512, .f32⟩ : BufTy).Contents (Elt F)),
    unary main_v0 main_v2 ((extractStridedSlice S4x4096x128 ![0, 0, 512] · slices_S4x4096x4872_S4x4096x128_0_0_512) : (⟨S4x4096x4872, .f32⟩ : BufTy).Contents (Elt F) → (⟨S4x4096x128, .f32⟩ : BufTy).Contents (Elt F)),
    unary main_v0 main_v3 ((extractStridedSlice S4x4096x128 ![0, 0, 640] · slices_S4x4096x4872_S4x4096x128_0_0_640) : (⟨S4x4096x4872, .f32⟩ : BufTy).Contents (Elt F) → (⟨S4x4096x128, .f32⟩ : BufTy).Contents (Elt F)),
    unary main_v0 main_v4 ((extractStridedSlice S4x4096x1536 ![0, 0, 768] · slices_S4x4096x4872_S4x4096x1536_0_0_768) : (⟨S4x4096x4872, .f32⟩ : BufTy).Contents (Elt F) → (⟨S4x4096x1536, .f32⟩ : BufTy).Contents (Elt F)),
    unary main_v0 main_v5 ((extractStridedSlice S4x4096x512 ![0, 0, 2304] · slices_S4x4096x4872_S4x4096x512_0_0_2304) : (⟨S4x4096x4872, .f32⟩ : BufTy).Contents (Elt F) → (⟨S4x4096x512, .f32⟩ : BufTy).Contents (Elt F)),
    unary main_v0 main_v6 ((extractStridedSlice S4x4096x4 ![0, 0, 2816] · slices_S4x4096x4872_S4x4096x4_0_0_2816) : (⟨S4x4096x4872, .f32⟩ : BufTy).Contents (Elt F) → (⟨S4x4096x4, .f32⟩ : BufTy).Contents (Elt F)),
    unary main_v0 main_v7 ((extractStridedSlice S4x4096x4 ![0, 0, 2820] · slices_S4x4096x4872_S4x4096x4_0_0_2820) : (⟨S4x4096x4872, .f32⟩ : BufTy).Contents (Elt F) → (⟨S4x4096x4, .f32⟩ : BufTy).Contents (Elt F)),
    unary main_v0 main_v8 ((extractStridedSlice S4x4096x2048 ![0, 0, 2824] · slices_S4x4096x4872_S4x4096x2048_0_0_2824) : (⟨S4x4096x4872, .f32⟩ : BufTy).Contents (Elt F) → (⟨S4x4096x2048, .f32⟩ : BufTy).Contents (Elt F)),
    nullary main_cst (constant S_ .f32 0x3E000000#32),
    unary main_cst main_v9 (broadcastInDim S4x4096x512 ![] bcast_S_S4x4096x512 : (⟨S_, .f32⟩ : BufTy).Contents (Elt F) → (⟨S4x4096x512, .f32⟩ : BufTy).Contents (Elt F)),
    binary main_v1 main_v9 main_v10 (mulf : (⟨S4x4096x512, .f32⟩ : BufTy).Contents (Elt F) → (⟨S4x4096x512, .f32⟩ : BufTy).Contents (Elt F) → (⟨S4x4096x512, .f32⟩ : BufTy).Contents (Elt F)),
    unary main_v2 main_v11 ((extractStridedSlice S4x4096x64 ![0, 0, 0] · slices_S4x4096x128_S4x4096x64_0_0_0) : (⟨S4x4096x128, .f32⟩ : BufTy).Contents (Elt F) → (⟨S4x4096x64, .f32⟩ : BufTy).Contents (Elt F)),
    unary main_v2 main_v12 ((extractStridedSlice S4x4096x64 ![0, 0, 0] · slices_S4x4096x128_S4x4096x64_0_0_0) : (⟨S4x4096x128, .f32⟩ : BufTy).Contents (Elt F) → (⟨S4x4096x64, .f32⟩ : BufTy).Contents (Elt F)),
    unary main_v2 main_v13 ((extractStridedSlice S4x4096x64 ![0, 0, 64] · slices_S4x4096x128_S4x4096x64_0_0_64) : (⟨S4x4096x128, .f32⟩ : BufTy).Contents (Elt F) → (⟨S4x4096x64, .f32⟩ : BufTy).Contents (Elt F)),
    unary main_v2 main_v14 ((extractStridedSlice S4x4096x64 ![0, 0, 64] · slices_S4x4096x128_S4x4096x64_0_0_64) : (⟨S4x4096x128, .f32⟩ : BufTy).Contents (Elt F) → (⟨S4x4096x64, .f32⟩ : BufTy).Contents (Elt F)),
    nary ![main_v11, main_v12, main_v13, main_v14] main_v15 (fun u => fn_main_v15 (F := F) (u 0) (u 1) (u 2) (u 3)),
    unary main_v3 main_v16 ((extractStridedSlice S4x4096x64 ![0, 0, 0] · slices_S4x4096x128_S4x4096x64_0_0_0) : (⟨S4x4096x128, .f32⟩ : BufTy).Contents (Elt F) → (⟨S4x4096x64, .f32⟩ : BufTy).Contents (Elt F)),
    unary main_v3 main_v17 ((extractStridedSlice S4x4096x64 ![0, 0, 0] · slices_S4x4096x128_S4x4096x64_0_0_0) : (⟨S4x4096x128, .f32⟩ : BufTy).Contents (Elt F) → (⟨S4x4096x64, .f32⟩ : BufTy).Contents (Elt F)),
    unary main_v3 main_v18 ((extractStridedSlice S4x4096x64 ![0, 0, 64] · slices_S4x4096x128_S4x4096x64_0_0_64) : (⟨S4x4096x128, .f32⟩ : BufTy).Contents (Elt F) → (⟨S4x4096x64, .f32⟩ : BufTy).Contents (Elt F)),
    unary main_v3 main_v19 ((extractStridedSlice S4x4096x64 ![0, 0, 64] · slices_S4x4096x128_S4x4096x64_0_0_64) : (⟨S4x4096x128, .f32⟩ : BufTy).Contents (Elt F) → (⟨S4x4096x64, .f32⟩ : BufTy).Contents (Elt F)),
    nary ![main_v16, main_v17, main_v18, main_v19] main_v20 (fun u => fn_main_v20 (F := F) (u 0) (u 1) (u 2) (u 3)),
    nary ![main_v10, main_v15, main_v20] main_v21 (fun u => fn_main_v21 (F := F) (u 0) (u 1) (u 2)) ]

def o1_to : List (Ref sig .tc) := [main_v0, main_v1, main_v2, main_v3, main_v4, main_v5, main_v6, main_v7, main_v8, main_cst, main_v9, main_v10, main_v11, main_v12, main_v13, main_v14, main_v15, main_v16, main_v17, main_v18, main_v19, main_v20, main_v21]

theorem o1_keep (V : Valuation τ sig (Elt F)) (r : Ref sig .tc) (h : r ∉ o1_to) :
    after o1 V (Proc.devRef .tc r) = V (Proc.devRef .tc r) :=
  after_of_writes_sub o1 V (forall_writes_sub_of_map rfl) h

theorem o1_sub : (o1 : List (HloOp τ sig (Elt F))).Forall fun op => op.bufs ⊆ tcRefs τ sig :=
  ⟨binary_bufs_sub .., unary_bufs_sub .., unary_bufs_sub .., unary_bufs_sub .., unary_bufs_sub .., unary_bufs_sub .., unary_bufs_sub .., unary_bufs_sub .., unary_bufs_sub .., nullary_bufs_sub .., unary_bufs_sub .., binary_bufs_sub .., unary_bufs_sub .., unary_bufs_sub .., unary_bufs_sub .., unary_bufs_sub .., nary_bufs_sub .., unary_bufs_sub .., unary_bufs_sub .., unary_bufs_sub .., unary_bufs_sub .., nary_bufs_sub .., nary_bufs_sub ..⟩

theorem o1_fresh : (o1 : List (HloOp τ sig (Elt F))).Forall fun op => op.fresh = ∅ := forall_fresh_of_map rfl

/-- The convolution and its activation. -/
abbrev o2 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x4096x1536, .f32⟩) main_v4) (TRef.of (T := ⟨S_, .f32⟩) main_call0_v0) (TRef.of (T := ⟨S4x4099x1536, .f32⟩) main_v22) (fun x v => pad S4x4099x1536 ![0, 3, 0] ![0, 0, 0] ![0, 0, 0] x v pads_S4x4096x1536_S4x4099x1536_000_300_000 h_S_),
    unary main_v22 main_v23 ((extractStridedSlice S4x4096x1536 ![0, 0, 0] · slices_S4x4099x1536_S4x4096x1536_0_0_0) : (⟨S4x4099x1536, .f32⟩ : BufTy).Contents (Elt F) → (⟨S4x4096x1536, .f32⟩ : BufTy).Contents (Elt F)),
    unary main_arg2 main_v24 ((extractStridedSlice S1x1536 ![0, 0] · slices_S4x1536_S1x1536_0_0) : (⟨S4x1536, .f32⟩ : BufTy).Contents (Elt F) → (⟨S1x1536, .f32⟩ : BufTy).Contents (Elt F)),
    reshape main_v24 main_v25 (rfl : (.f32 : EltTy) = .f32) shapeCasts_S1x1536_S1536,
    unary main_v25 main_v26 (broadcastInDim S1x1x1536 ![2] bcast_S1536_S1x1x1536_2 : (⟨S1536, .f32⟩ : BufTy).Contents (Elt F) → (⟨S1x1x1536, .f32⟩ : BufTy).Contents (Elt F)),
    unary main_v26 main_v27 (broadcastInDim S4x4096x1536 ![0, 1, 2] bcast_S1x1x1536_S4x4096x1536_0_1_2 : (⟨S1x1x1536, .f32⟩ : BufTy).Contents (Elt F) → (⟨S4x4096x1536, .f32⟩ : BufTy).Contents (Elt F)),
    binary main_v23 main_v27 main_v28 (mulf : (⟨S4x4096x1536, .f32⟩ : BufTy).Contents (Elt F) → (⟨S4x4096x1536, .f32⟩ : BufTy).Contents (Elt F) → (⟨S4x4096x1536, .f32⟩ : BufTy).Contents (Elt F)),
    unary main_v22 main_v29 ((extractStridedSlice S4x4096x1536 ![0, 1, 0] · slices_S4x4099x1536_S4x4096x1536_0_1_0) : (⟨S4x4099x1536, .f32⟩ : BufTy).Contents (Elt F) → (⟨S4x4096x1536, .f32⟩ : BufTy).Contents (Elt F)),
    unary main_arg2 main_v30 ((extractStridedSlice S1x1536 ![1, 0] · slices_S4x1536_S1x1536_1_0) : (⟨S4x1536, .f32⟩ : BufTy).Contents (Elt F) → (⟨S1x1536, .f32⟩ : BufTy).Contents (Elt F)),
    reshape main_v30 main_v31 (rfl : (.f32 : EltTy) = .f32) shapeCasts_S1x1536_S1536,
    unary main_v31 main_v32 (broadcastInDim S1x1x1536 ![2] bcast_S1536_S1x1x1536_2 : (⟨S1536, .f32⟩ : BufTy).Contents (Elt F) → (⟨S1x1x1536, .f32⟩ : BufTy).Contents (Elt F)),
    unary main_v32 main_v33 (broadcastInDim S4x4096x1536 ![0, 1, 2] bcast_S1x1x1536_S4x4096x1536_0_1_2 : (⟨S1x1x1536, .f32⟩ : BufTy).Contents (Elt F) → (⟨S4x4096x1536, .f32⟩ : BufTy).Contents (Elt F)),
    binary main_v29 main_v33 main_v34 (mulf : (⟨S4x4096x1536, .f32⟩ : BufTy).Contents (Elt F) → (⟨S4x4096x1536, .f32⟩ : BufTy).Contents (Elt F) → (⟨S4x4096x1536, .f32⟩ : BufTy).Contents (Elt F)),
    binary main_v28 main_v34 main_v35 (addf : (⟨S4x4096x1536, .f32⟩ : BufTy).Contents (Elt F) → (⟨S4x4096x1536, .f32⟩ : BufTy).Contents (Elt F) → (⟨S4x4096x1536, .f32⟩ : BufTy).Contents (Elt F)),
    unary main_v22 main_v36 ((extractStridedSlice S4x4096x1536 ![0, 2, 0] · slices_S4x4099x1536_S4x4096x1536_0_2_0) : (⟨S4x4099x1536, .f32⟩ : BufTy).Contents (Elt F) → (⟨S4x4096x1536, .f32⟩ : BufTy).Contents (Elt F)),
    unary main_arg2 main_v37 ((extractStridedSlice S1x1536 ![2, 0] · slices_S4x1536_S1x1536_2_0) : (⟨S4x1536, .f32⟩ : BufTy).Contents (Elt F) → (⟨S1x1536, .f32⟩ : BufTy).Contents (Elt F)),
    reshape main_v37 main_v38 (rfl : (.f32 : EltTy) = .f32) shapeCasts_S1x1536_S1536,
    unary main_v38 main_v39 (broadcastInDim S1x1x1536 ![2] bcast_S1536_S1x1x1536_2 : (⟨S1536, .f32⟩ : BufTy).Contents (Elt F) → (⟨S1x1x1536, .f32⟩ : BufTy).Contents (Elt F)),
    unary main_v39 main_v40 (broadcastInDim S4x4096x1536 ![0, 1, 2] bcast_S1x1x1536_S4x4096x1536_0_1_2 : (⟨S1x1x1536, .f32⟩ : BufTy).Contents (Elt F) → (⟨S4x4096x1536, .f32⟩ : BufTy).Contents (Elt F)),
    binary main_v36 main_v40 main_v41 (mulf : (⟨S4x4096x1536, .f32⟩ : BufTy).Contents (Elt F) → (⟨S4x4096x1536, .f32⟩ : BufTy).Contents (Elt F) → (⟨S4x4096x1536, .f32⟩ : BufTy).Contents (Elt F)),
    binary main_v35 main_v41 main_v42 (addf : (⟨S4x4096x1536, .f32⟩ : BufTy).Contents (Elt F) → (⟨S4x4096x1536, .f32⟩ : BufTy).Contents (Elt F) → (⟨S4x4096x1536, .f32⟩ : BufTy).Contents (Elt F)),
    unary main_v22 main_v43 ((extractStridedSlice S4x4096x1536 ![0, 3, 0] · slices_S4x4099x1536_S4x4096x1536_0_3_0) : (⟨S4x4099x1536, .f32⟩ : BufTy).Contents (Elt F) → (⟨S4x4096x1536, .f32⟩ : BufTy).Contents (Elt F)),
    unary main_arg2 main_v44 ((extractStridedSlice S1x1536 ![3, 0] · slices_S4x1536_S1x1536_3_0) : (⟨S4x1536, .f32⟩ : BufTy).Contents (Elt F) → (⟨S1x1536, .f32⟩ : BufTy).Contents (Elt F)),
    reshape main_v44 main_v45 (rfl : (.f32 : EltTy) = .f32) shapeCasts_S1x1536_S1536,
    unary main_v45 main_v46 (broadcastInDim S1x1x1536 ![2] bcast_S1536_S1x1x1536_2 : (⟨S1536, .f32⟩ : BufTy).Contents (Elt F) → (⟨S1x1x1536, .f32⟩ : BufTy).Contents (Elt F)),
    unary main_v46 main_v47 (broadcastInDim S4x4096x1536 ![0, 1, 2] bcast_S1x1x1536_S4x4096x1536_0_1_2 : (⟨S1x1x1536, .f32⟩ : BufTy).Contents (Elt F) → (⟨S4x4096x1536, .f32⟩ : BufTy).Contents (Elt F)),
    binary main_v43 main_v47 main_v48 (mulf : (⟨S4x4096x1536, .f32⟩ : BufTy).Contents (Elt F) → (⟨S4x4096x1536, .f32⟩ : BufTy).Contents (Elt F) → (⟨S4x4096x1536, .f32⟩ : BufTy).Contents (Elt F)),
    binary main_v42 main_v48 main_v49 (addf : (⟨S4x4096x1536, .f32⟩ : BufTy).Contents (Elt F) → (⟨S4x4096x1536, .f32⟩ : BufTy).Contents (Elt F) → (⟨S4x4096x1536, .f32⟩ : BufTy).Contents (Elt F)),
    TRef.unary (TRef.of (T := ⟨S4x4096x1536, .f32⟩) main_v49) (TRef.of (T := ⟨S4x4096x1536, .f32⟩) main_call1_v0) Host.negf,
    TRef.unary (TRef.of (T := ⟨S4x4096x1536, .f32⟩) main_call1_v0) (TRef.of (T := ⟨S4x4096x1536, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S4x4096x1536, .f32⟩) main_call1_v2) (broadcastInDim S4x4096x1536 ![] bcast_S_S4x4096x1536),
    TRef.binary (TRef.of (T := ⟨S4x4096x1536, .f32⟩) main_call1_v2) (TRef.of (T := ⟨S4x4096x1536, .f32⟩) main_call1_v1) (TRef.of (T := ⟨S4x4096x1536, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S4x4096x1536, .f32⟩) main_call1_v4) (broadcastInDim S4x4096x1536 ![] bcast_S_S4x4096x1536),
    TRef.binary (TRef.of (T := ⟨S4x4096x1536, .f32⟩) main_call1_v4) (TRef.of (T := ⟨S4x4096x1536, .f32⟩) main_call1_v3) (TRef.of (T := ⟨S4x4096x1536, .f32⟩) main_call1_v5) Host.divf,
    TRef.binary (TRef.of (T := ⟨S4x4096x1536, .f32⟩) main_v49) (TRef.of (T := ⟨S4x4096x1536, .f32⟩) main_call1_v5) (TRef.of (T := ⟨S4x4096x1536, .f32⟩) main_v50) mulf ]

def o2_to : List (Ref sig .tc) := [main_c, main_call0_v0, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_call1_v0, main_call1_v1, main_call1_cst, main_call1_v2, main_call1_v3, main_call1_cst_0, main_call1_v4, main_call1_v5, main_v50]

theorem o2_keep (V : Valuation τ sig (Elt F)) (r : Ref sig .tc) (h : r ∉ o2_to) :
    after o2 V (Proc.devRef .tc r) = V (Proc.devRef .tc r) :=
  after_of_writes_sub o2 V (forall_writes_sub_of_map rfl) h

theorem o2_sub : (o2 : List (HloOp τ sig (Elt F))).Forall fun op => op.bufs ⊆ tcRefs τ sig :=
  ⟨nullary_bufs_sub .., unary_bufs_sub .., binary_bufs_sub .., unary_bufs_sub .., unary_bufs_sub .., reshape_bufs_sub .., unary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

theorem o2_fresh : (o2 : List (HloOp τ sig (Elt F))).Forall fun op => op.fresh = ∅ := forall_fresh_of_map rfl

/-- The three groups. -/
abbrev o2b : List (HloOp τ sig (Elt F)) :=
  [ unary main_v50 main_v51 ((extractStridedSlice S4x4096x512 ![0, 0, 0] · slices_S4x4096x1536_S4x4096x512_0_0_0) : (⟨S4x4096x1536, .f32⟩ : BufTy).Contents (Elt F) → (⟨S4x4096x512, .f32⟩ : BufTy).Contents (Elt F)),
    unary main_v50 main_v52 ((extractStridedSlice S4x4096x512 ![0, 0, 512] · slices_S4x4096x1536_S4x4096x512_0_0_512) : (⟨S4x4096x1536, .f32⟩ : BufTy).Contents (Elt F) → (⟨S4x4096x512, .f32⟩ : BufTy).Contents (Elt F)),
    unary main_v50 main_v53 ((extractStridedSlice S4x4096x512 ![0, 0, 1024] · slices_S4x4096x1536_S4x4096x512_0_0_1024) : (⟨S4x4096x1536, .f32⟩ : BufTy).Contents (Elt F) → (⟨S4x4096x512, .f32⟩ : BufTy).Contents (Elt F)) ]

def o2b_to : List (Ref sig .tc) := [main_v51, main_v52, main_v53]

theorem o2b_keep (V : Valuation τ sig (Elt F)) (r : Ref sig .tc) (h : r ∉ o2b_to) :
    after o2b V (Proc.devRef .tc r) = V (Proc.devRef .tc r) :=
  after_of_writes_sub o2b V (forall_writes_sub_of_map rfl) h

theorem o2b_sub : (o2b : List (HloOp τ sig (Elt F))).Forall fun op => op.bufs ⊆ tcRefs τ sig :=
  ⟨unary_bufs_sub .., unary_bufs_sub .., unary_bufs_sub ..⟩

theorem o2b_fresh : (o2b : List (HloOp τ sig (Elt F))).Forall fun op => op.fresh = ∅ := forall_fresh_of_map rfl

/-- The unit queries. -/
abbrev o3 : List (HloOp τ sig (Elt F)) :=
  [ reshape main_v51 main_v54 (rfl : (.f32 : EltTy) = .f32) shapeCasts_S4x4096x512_S4x4096x4x128,
    binary main_v54 main_v54 main_v55 (mulf : (⟨S4x4096x4x128, .f32⟩ : BufTy).Contents (Elt F) → (⟨S4x4096x4x128, .f32⟩ : BufTy).Contents (Elt F) → (⟨S4x4096x4x128, .f32⟩ : BufTy).Contents (Elt F)),
    nullary main_cst_0 (constant S_ .f32 0x00000000#32),
    binary main_v55 main_cst_0 main_v56 ((fun x v => Host.reduceAdd x v reducesTo_S4x4096x4x128_S4x4096x4_d3 h_S_) : (⟨S4x4096x4x128, .f32⟩ : BufTy).Contents (Elt F) → (⟨S_, .f32⟩ : BufTy).Contents (Elt F) → (⟨S4x4096x4, .f32⟩ : BufTy).Contents (Elt F)),
    unary main_v56 main_v57 (broadcastInDim S4x4096x4x1 ![0, 1, 2] bcast_S4x4096x4_S4x4096x4x1_0_1_2 : (⟨S4x4096x4, .f32⟩ : BufTy).Contents (Elt F) → (⟨S4x4096x4x1, .f32⟩ : BufTy).Contents (Elt F)),
    nullary main_cst_1 (constant S_ .f32 0x358637BD#32),
    unary main_cst_1 main_v58 (broadcastInDim S4x4096x4x1 ![] bcast_S_S4x4096x4x1 : (⟨S_, .f32⟩ : BufTy).Contents (Elt F) → (⟨S4x4096x4x1, .f32⟩ : BufTy).Contents (Elt F)),
    binary main_v57 main_v58 main_v59 (addf : (⟨S4x4096x4x1, .f32⟩ : BufTy).Contents (Elt F) → (⟨S4x4096x4x1, .f32⟩ : BufTy).Contents (Elt F) → (⟨S4x4096x4x1, .f32⟩ : BufTy).Contents (Elt F)),
    unary main_v59 main_v60 (Host.rsqrt : (⟨S4x4096x4x1, .f32⟩ : BufTy).Contents (Elt F) → (⟨S4x4096x4x1, .f32⟩ : BufTy).Contents (Elt F)),
    unary main_v60 main_v61 (broadcastInDim S4x4096x4x128 ![0, 1, 2, 3] bcast_S4x4096x4x1_S4x4096x4x128_0_1_2_3 : (⟨S4x4096x4x1, .f32⟩ : BufTy).Contents (Elt F) → (⟨S4x4096x4x128, .f32⟩ : BufTy).Contents (Elt F)),
    binary main_v54 main_v61 main_v62 (mulf : (⟨S4x4096x4x128, .f32⟩ : BufTy).Contents (Elt F) → (⟨S4x4096x4x128, .f32⟩ : BufTy).Contents (Elt F) → (⟨S4x4096x4x128, .f32⟩ : BufTy).Contents (Elt F)),
    nullary main_cst_2 (constant S_ .f32 0x3DB504F3#32),
    unary main_cst_2 main_v63 (broadcastInDim S4x4096x4x128 ![] bcast_S_S4x4096x4x128 : (⟨S_, .f32⟩ : BufTy).Contents (Elt F) → (⟨S4x4096x4x128, .f32⟩ : BufTy).Contents (Elt F)),
    binary main_v62 main_v63 main_v64 (mulf : (⟨S4x4096x4x128, .f32⟩ : BufTy).Contents (Elt F) → (⟨S4x4096x4x128, .f32⟩ : BufTy).Contents (Elt F) → (⟨S4x4096x4x128, .f32⟩ : BufTy).Contents (Elt F)),
    unary main_v64 main_v65 ((truncf .bf16 · bitsLt_bf16_f32) : (⟨S4x4096x4x128, .f32⟩ : BufTy).Contents (Elt F) → (⟨S4x4096x4x128, .bf16⟩ : BufTy).Contents (Elt F)) ]

def o3_to : List (Ref sig .tc) := [main_v54, main_v55, main_cst_0, main_v56, main_v57, main_cst_1, main_v58, main_v59, main_v60, main_v61, main_v62, main_cst_2, main_v63, main_v64, main_v65]

theorem o3_keep (V : Valuation τ sig (Elt F)) (r : Ref sig .tc) (h : r ∉ o3_to) :
    after o3 V (Proc.devRef .tc r) = V (Proc.devRef .tc r) :=
  after_of_writes_sub o3 V (forall_writes_sub_of_map rfl) h

theorem o3_sub : (o3 : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., unary_bufs_sub .., unary_bufs_sub .., binary_bufs_sub .., nullary_bufs_sub .., unary_bufs_sub .., binary_bufs_sub .., unary_bufs_sub ..⟩

theorem o3_fresh : (o3 : List (HloOp τ sig (Elt F))).Forall fun op => op.fresh = ∅ := forall_fresh_of_map rfl

/-- The unit keys. -/
abbrev o4 : List (HloOp τ sig (Elt F)) :=
  [ reshape main_v52 main_v66 (rfl : (.f32 : EltTy) = .f32) shapeCasts_S4x4096x512_S4x4096x4x128,
    binary main_v66 main_v66 main_v67 (mulf : (⟨S4x4096x4x128, .f32⟩ : BufTy).Contents (Elt F) → (⟨S4x4096x4x128, .f32⟩ : BufTy).Contents (Elt F) → (⟨S4x4096x4x128, .f32⟩ : BufTy).Contents (Elt F)),
    nullary main_cst_3 (constant S_ .f32 0x00000000#32),
    binary main_v67 main_cst_3 main_v68 ((fun x v => Host.reduceAdd x v reducesTo_S4x4096x4x128_S4x4096x4_d3 h_S_) : (⟨S4x4096x4x128, .f32⟩ : BufTy).Contents (Elt F) → (⟨S_, .f32⟩ : BufTy).Contents (Elt F) → (⟨S4x4096x4, .f32⟩ : BufTy).Contents (Elt F)),
    unary main_v68 main_v69 (broadcastInDim S4x4096x4x1 ![0, 1, 2] bcast_S4x4096x4_S4x4096x4x1_0_1_2 : (⟨S4x4096x4, .f32⟩ : BufTy).Contents (Elt F) → (⟨S4x4096x4x1, .f32⟩ : BufTy).Contents (Elt F)),
    nullary main_cst_4 (constant S_ .f32 0x358637BD#32),
    unary main_cst_4 main_v70 (broadcastInDim S4x4096x4x1 ![] bcast_S_S4x4096x4x1 : (⟨S_, .f32⟩ : BufTy).Contents (Elt F) → (⟨S4x4096x4x1, .f32⟩ : BufTy).Contents (Elt F)),
    binary main_v69 main_v70 main_v71 (addf : (⟨S4x4096x4x1, .f32⟩ : BufTy).Contents (Elt F) → (⟨S4x4096x4x1, .f32⟩ : BufTy).Contents (Elt F) → (⟨S4x4096x4x1, .f32⟩ : BufTy).Contents (Elt F)),
    unary main_v71 main_v72 (Host.rsqrt : (⟨S4x4096x4x1, .f32⟩ : BufTy).Contents (Elt F) → (⟨S4x4096x4x1, .f32⟩ : BufTy).Contents (Elt F)),
    unary main_v72 main_v73 (broadcastInDim S4x4096x4x128 ![0, 1, 2, 3] bcast_S4x4096x4x1_S4x4096x4x128_0_1_2_3 : (⟨S4x4096x4x1, .f32⟩ : BufTy).Contents (Elt F) → (⟨S4x4096x4x128, .f32⟩ : BufTy).Contents (Elt F)),
    binary main_v66 main_v73 main_v74 (mulf : (⟨S4x4096x4x128, .f32⟩ : BufTy).Contents (Elt F) → (⟨S4x4096x4x128, .f32⟩ : BufTy).Contents (Elt F) → (⟨S4x4096x4x128, .f32⟩ : BufTy).Contents (Elt F)),
    unary main_v74 main_v75 ((truncf .bf16 · bitsLt_bf16_f32) : (⟨S4x4096x4x128, .f32⟩ : BufTy).Contents (Elt F) → (⟨S4x4096x4x128, .bf16⟩ : BufTy).Contents (Elt F)) ]

def o4_to : List (Ref sig .tc) := [main_v66, main_v67, main_cst_3, main_v68, main_v69, main_cst_4, main_v70, main_v71, main_v72, main_v73, main_v74, main_v75]

theorem o4_keep (V : Valuation τ sig (Elt F)) (r : Ref sig .tc) (h : r ∉ o4_to) :
    after o4 V (Proc.devRef .tc r) = V (Proc.devRef .tc r) :=
  after_of_writes_sub o4 V (forall_writes_sub_of_map rfl) h

theorem o4_sub : (o4 : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., unary_bufs_sub .., unary_bufs_sub .., binary_bufs_sub .., unary_bufs_sub ..⟩

theorem o4_fresh : (o4 : List (HloOp τ sig (Elt F))).Forall fun op => op.fresh = ∅ := forall_fresh_of_map rfl

/-- The output's gate. -/
abbrev o5 : List (HloOp τ sig (Elt F)) :=
  [ TRef.unary (TRef.of (T := ⟨S4x4096x512, .f32⟩) main_v5) (TRef.of (T := ⟨S4x4096x512, .f32⟩) main_call2_v0) Host.negf,
    TRef.unary (TRef.of (T := ⟨S4x4096x512, .f32⟩) main_call2_v0) (TRef.of (T := ⟨S4x4096x512, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S4x4096x512, .f32⟩) main_call2_v2) (broadcastInDim S4x4096x512 ![] bcast_S_S4x4096x512),
    TRef.binary (TRef.of (T := ⟨S4x4096x512, .f32⟩) main_call2_v2) (TRef.of (T := ⟨S4x4096x512, .f32⟩) main_call2_v1) (TRef.of (T := ⟨S4x4096x512, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S4x4096x512, .f32⟩) main_call2_v4) (broadcastInDim S4x4096x512 ![] bcast_S_S4x4096x512),
    TRef.binary (TRef.of (T := ⟨S4x4096x512, .f32⟩) main_call2_v4) (TRef.of (T := ⟨S4x4096x512, .f32⟩) main_call2_v3) (TRef.of (T := ⟨S4x4096x512, .f32⟩) main_call2_v5) Host.divf,
    TRef.binary (TRef.of (T := ⟨S4x4096x512, .f32⟩) main_v5) (TRef.of (T := ⟨S4x4096x512, .f32⟩) main_call2_v5) (TRef.of (T := ⟨S4x4096x512, .f32⟩) main_v76) mulf,
    unary main_v76 main_v77 ((truncf .bf16 · bitsLt_bf16_f32) : (⟨S4x4096x512, .f32⟩ : BufTy).Contents (Elt F) → (⟨S4x4096x512, .bf16⟩ : BufTy).Contents (Elt F)) ]

def o5_to : List (Ref sig .tc) := [main_call2_v0, main_call2_v1, main_call2_cst, main_call2_v2, main_call2_v3, main_call2_cst_0, main_call2_v4, main_call2_v5, main_v76, main_v77]

theorem o5_keep (V : Valuation τ sig (Elt F)) (r : Ref sig .tc) (h : r ∉ o5_to) :
    after o5 V (Proc.devRef .tc r) = V (Proc.devRef .tc r) :=
  after_of_writes_sub o5 V (forall_writes_sub_of_map rfl) h

theorem o5_sub : (o5 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., unary_bufs_sub ..⟩

theorem o5_fresh : (o5 : List (HloOp τ sig (Elt F))).Forall fun op => op.fresh = ∅ := forall_fresh_of_map rfl

/-- The decays' steps. -/
abbrev o6 : List (HloOp τ sig (Elt F)) :=
  [ unary main_arg3 main_v78 (Host.exp : (⟨S4, .f32⟩ : BufTy).Contents (Elt F) → (⟨S4, .f32⟩ : BufTy).Contents (Elt F)),
    unary main_v78 main_v79 (Host.negf : (⟨S4, .f32⟩ : BufTy).Contents (Elt F) → (⟨S4, .f32⟩ : BufTy).Contents (Elt F)),
    unary main_arg4 main_v80 (broadcastInDim S1x1x4 ![2] bcast_S4_S1x1x4_2 : (⟨S4, .f32⟩ : BufTy).Contents (Elt F) → (⟨S1x1x4, .f32⟩ : BufTy).Contents (Elt F)),
    unary main_v80 main_v81 (broadcastInDim S4x4096x4 ![0, 1, 2] bcast_S1x1x4_S4x4096x4_0_1_2 : (⟨S1x1x4, .f32⟩ : BufTy).Contents (Elt F) → (⟨S4x4096x4, .f32⟩ : BufTy).Contents (Elt F)),
    binary main_v7 main_v81 main_v82 (addf : (⟨S4x4096x4, .f32⟩ : BufTy).Contents (Elt F) → (⟨S4x4096x4, .f32⟩ : BufTy).Contents (Elt F) → (⟨S4x4096x4, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4x4096x4, .f32⟩) main_call3_v0) (broadcastInDim S4x4096x4 ![] bcast_S_S4x4096x4),
    TRef.binary (TRef.of (T := ⟨S4x4096x4, .f32⟩) main_v82) (TRef.of (T := ⟨S4x4096x4, .f32⟩) main_call3_v0) (TRef.of (T := ⟨S4x4096x4, .f32⟩) main_call3_v1) maximumf,
    TRef.unary (TRef.of (T := ⟨S_, .f32⟩) main_call3_cst) (TRef.of (T := ⟨S4x4096x4, .f32⟩) main_call3_v2) (broadcastInDim S4x4096x4 ![] bcast_S_S4x4096x4),
    TRef.binary (TRef.of (T := ⟨S4x4096x4, .f32⟩) main_v82) (TRef.of (T := ⟨S4x4096x4, .f32⟩) main_call3_v2) (TRef.of (T := ⟨S4x4096x4, .f32⟩) main_call3_v3) subf,
    TRef.binary (TRef.of (T := ⟨S4x4096x4, .f32⟩) main_call3_v3) (TRef.of (T := ⟨S4x4096x4, .f32⟩) main_call3_v3) (TRef.of (T := ⟨S4x4096x4, .i1⟩) main_call3_v4) (cmpf .une),
    TRef.unary (TRef.of (T := ⟨S_, .f32⟩) main_call3_cst) (TRef.of (T := ⟨S4x4096x4, .f32⟩) main_call3_v5) (broadcastInDim S4x4096x4 ![] bcast_S_S4x4096x4),
    TRef.binary (TRef.of (T := ⟨S4x4096x4, .f32⟩) main_v82) (TRef.of (T := ⟨S4x4096x4, .f32⟩) main_call3_v5) (TRef.of (T := ⟨S4x4096x4, .f32⟩) main_call3_v6) addf,
    TRef.unary (TRef.of (T := ⟨S4x4096x4, .f32⟩) main_call3_v3) (TRef.of (T := ⟨S4x4096x4, .f32⟩) main_call3_v7) Host.absf,
    TRef.unary (TRef.of (T := ⟨S4x4096x4, .f32⟩) main_call3_v7) (TRef.of (T := ⟨S4x4096x4, .f32⟩) main_call3_v8) Host.negf,
    TRef.unary (TRef.of (T := ⟨S4x4096x4, .f32⟩) main_call3_v8) (TRef.of (T := ⟨S4x4096x4, .f32⟩) main_call3_v9) Host.exp,
    TRef.unary (TRef.of (T := ⟨S4x4096x4, .f32⟩) main_call3_v9) (TRef.of (T := ⟨S4x4096x4, .f32⟩) main_call3_v10) Host.log1p,
    TRef.binary (TRef.of (T := ⟨S4x4096x4, .f32⟩) main_call3_v1) (TRef.of (T := ⟨S4x4096x4, .f32⟩) main_call3_v10) (TRef.of (T := ⟨S4x4096x4, .f32⟩) main_call3_v11) addf,
    TRef.ternary (TRef.of (T := ⟨S4x4096x4, .i1⟩) main_call3_v4) (TRef.of (T := ⟨S4x4096x4, .f32⟩) main_call3_v6) (TRef.of (T := ⟨S4x4096x4, .f32⟩) main_call3_v11) (TRef.of (T := ⟨S4x4096x4, .f32⟩) main_v83) select,
    unary main_v79 main_v84 (broadcastInDim S1x1x4 ![2] bcast_S4_S1x1x4_2 : (⟨S4, .f32⟩ : BufTy).Contents (Elt F) → (⟨S1x1x4, .f32⟩ : BufTy).Contents (Elt F)),
    unary main_v84 main_v85 (broadcastInDim S4x4096x4 ![0, 1, 2] bcast_S1x1x4_S4x4096x4_0_1_2 : (⟨S1x1x4, .f32⟩ : BufTy).Contents (Elt F) → (⟨S4x4096x4, .f32⟩ : BufTy).Contents (Elt F)),
    binary main_v85 main_v83 main_v86 (mulf : (⟨S4x4096x4, .f32⟩ : BufTy).Contents (Elt F) → (⟨S4x4096x4, .f32⟩ : BufTy).Contents (Elt F) → (⟨S4x4096x4, .f32⟩ : BufTy).Contents (Elt F)) ]

def o6_to : List (Ref sig .tc) := [main_v78, main_v79, main_v80, main_v81, main_v82, main_call3_cst, main_call3_v0, main_call3_v1, main_call3_v2, main_call3_v3, main_call3_v4, main_call3_v5, main_call3_v6, main_call3_v7, main_call3_v8, main_call3_v9, main_call3_v10, main_call3_v11, main_v83, main_v84, main_v85, main_v86]

theorem o6_keep (V : Valuation τ sig (Elt F)) (r : Ref sig .tc) (h : r ∉ o6_to) :
    after o6 V (Proc.devRef .tc r) = V (Proc.devRef .tc r) :=
  after_of_writes_sub o6 V (forall_writes_sub_of_map rfl) h

theorem o6_sub : (o6 : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., binary_bufs_sub ..⟩

theorem o6_fresh : (o6 : List (HloOp τ sig (Elt F))).Forall fun op => op.fresh = ∅ := forall_fresh_of_map rfl

/-- The triangle. -/
abbrev o7 : List (HloOp τ sig (Elt F)) :=
  [ nullary main_v87 (iotaInDim S64 32 0),
    unary main_v87 main_v88 (broadcastInDim S64x1 ![0] bcast_S64_S64x1_0 : (⟨S64, .i32⟩ : BufTy).Contents (Elt F) → (⟨S64x1, .i32⟩ : BufTy).Contents (Elt F)),
    nullary main_v89 (iotaInDim S64 32 0),
    unary main_v89 main_v90 (broadcastInDim S1x64 ![1] bcast_S64_S1x64_1 : (⟨S64, .i32⟩ : BufTy).Contents (Elt F) → (⟨S1x64, .i32⟩ : BufTy).Contents (Elt F)),
    unary main_v88 main_v91 (broadcastInDim S64x64 ![0, 1] bcast_S64x1_S64x64_0_1 : (⟨S64x1, .i32⟩ : BufTy).Contents (Elt F) → (⟨S64x64, .i32⟩ : BufTy).Contents (Elt F)),
    unary main_v90 main_v92 (broadcastInDim S64x64 ![0, 1] bcast_S1x64_S64x64_0_1 : (⟨S1x64, .i32⟩ : BufTy).Contents (Elt F) → (⟨S64x64, .i32⟩ : BufTy).Contents (Elt F)),
    binary main_v91 main_v92 main_v93 (cmpi .sge : (⟨S64x64, .i32⟩ : BufTy).Contents (Elt F) → (⟨S64x64, .i32⟩ : BufTy).Contents (Elt F) → (⟨S64x64, .i1⟩ : BufTy).Contents (Elt F)),
    nullary main_cst_5 (constant S_ .f32 0x3F800000#32),
    nullary main_cst_6 (constant S_ .f32 0x00000000#32),
    TRef.unary (TRef.of (T := ⟨S_, .f32⟩) main_cst_5) (TRef.of (T := ⟨S64x64, .f32⟩) main_call4_v0) (broadcastInDim S64x64 ![] bcast_S_S64x64),
    TRef.unary (TRef.of (T := ⟨S_, .f32⟩) main_cst_6) (TRef.of (T := ⟨S64x64, .f32⟩) main_call4_v1) (broadcastInDim S64x64 ![] bcast_S_S64x64),
    TRef.ternary (TRef.of (T := ⟨S64x64, .i1⟩) main_v93) (TRef.of (T := ⟨S64x64, .f32⟩) main_call4_v0) (TRef.of (T := ⟨S64x64, .f32⟩) main_call4_v1) (TRef.of (T := ⟨S64x64, .f32⟩) main_v94) select ]

def o7_to : List (Ref sig .tc) := [main_v87, main_v88, main_v89, main_v90, main_v91, main_v92, main_v93, main_cst_5, main_cst_6, main_call4_v0, main_call4_v1, main_v94]

theorem o7_keep (V : Valuation τ sig (Elt F)) (r : Ref sig .tc) (h : r ∉ o7_to) :
    after o7 V (Proc.devRef .tc r) = V (Proc.devRef .tc r) :=
  after_of_writes_sub o7 V (forall_writes_sub_of_map rfl) h

theorem o7_sub : (o7 : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., nullary_bufs_sub .., nullary_bufs_sub .., unary_bufs_sub .., unary_bufs_sub .., ternary_bufs_sub ..⟩

theorem o7_fresh : (o7 : List (HloOp τ sig (Elt F))).Forall fun op => op.fresh = ∅ := forall_fresh_of_map rfl

/-- The sums within chunks. -/
abbrev o7b : List (HloOp τ sig (Elt F)) :=
  [ reshape main_v86 main_v95 (rfl : (.f32 : EltTy) = .f32) shapeCasts_S4x4096x4_S4x64x64x4,
    binary main_v95 main_v94 main_v96 ((fun l r => Host.dotGeneral dot_S4x64x64x4_S64x64_S4x64x4x64_2_1_013_0_n_n none l r) : (⟨S4x64x64x4, .f32⟩ : BufTy).Contents (Elt F) → (⟨S64x64, .f32⟩ : BufTy).Contents (Elt F) → (⟨S4x64x4x64, .f32⟩ : BufTy).Contents (Elt F)),
    unary main_v96 main_v97 ((transpose S4x64x64x4 [0, 1, 3, 2] · transposes_S4x64x4x64_S4x64x64x4_0_1_3_2) : (⟨S4x64x4x64, .f32⟩ : BufTy).Contents (Elt F) → (⟨S4x64x64x4, .f32⟩ : BufTy).Contents (Elt F)),
    reshape main_v97 main_v98 (rfl : (.f32 : EltTy) = .f32) shapeCasts_S4x64x64x4_S4x4096x4 ]

def o7b_to : List (Ref sig .tc) := [main_v95, main_v96, main_v97, main_v98]

theorem o7b_keep (V : Valuation τ sig (Elt F)) (r : Ref sig .tc) (h : r ∉ o7b_to) :
    after o7b V (Proc.devRef .tc r) = V (Proc.devRef .tc r) :=
  after_of_writes_sub o7b V (forall_writes_sub_of_map rfl) h

theorem o7b_sub : (o7b : List (HloOp τ sig (Elt F))).Forall fun op => op.bufs ⊆ tcRefs τ sig :=
  ⟨reshape_bufs_sub .., binary_bufs_sub .., unary_bufs_sub .., reshape_bufs_sub ..⟩

theorem o7b_fresh : (o7b : List (HloOp τ sig (Elt F))).Forall fun op => op.fresh = ∅ := forall_fresh_of_map rfl

/-- The betas, and the gates side by side. -/
abbrev o8 : List (HloOp τ sig (Elt F)) :=
  [ unary main_v6 main_v99 (Host.negf : (⟨S4x4096x4, .f32⟩ : BufTy).Contents (Elt F) → (⟨S4x4096x4, .f32⟩ : BufTy).Contents (Elt F)),
    unary main_v99 main_v100 (Host.exp : (⟨S4x4096x4, .f32⟩ : BufTy).Contents (Elt F) → (⟨S4x4096x4, .f32⟩ : BufTy).Contents (Elt F)),
    nullary main_cst_7 (constant S_ .f32 0x3F800000#32),
    unary main_cst_7 main_v101 (broadcastInDim S4x4096x4 ![] bcast_S_S4x4096x4 : (⟨S_, .f32⟩ : BufTy).Contents (Elt F) → (⟨S4x4096x4, .f32⟩ : BufTy).Contents (Elt F)),
    binary main_v101 main_v100 main_v102 (addf : (⟨S4x4096x4, .f32⟩ : BufTy).Contents (Elt F) → (⟨S4x4096x4, .f32⟩ : BufTy).Contents (Elt F) → (⟨S4x4096x4, .f32⟩ : BufTy).Contents (Elt F)),
    nullary main_cst_8 (constant S_ .f32 0x3F800000#32),
    unary main_cst_8 main_v103 (broadcastInDim S4x4096x4 ![] bcast_S_S4x4096x4 : (⟨S_, .f32⟩ : BufTy).Contents (Elt F) → (⟨S4x4096x4, .f32⟩ : BufTy).Contents (Elt F)),
    binary main_v103 main_v102 main_v104 (Host.divf : (⟨S4x4096x4, .f32⟩ : BufTy).Contents (Elt F) → (⟨S4x4096x4, .f32⟩ : BufTy).Contents (Elt F) → (⟨S4x4096x4, .f32⟩ : BufTy).Contents (Elt F)),
    nullary main_cst_9 (constant S_ .f32 0x00000000#32),
    unary main_cst_9 main_v105 (broadcastInDim S4x4096x120 ![] bcast_S_S4x4096x120 : (⟨S_, .f32⟩ : BufTy).Contents (Elt F) → (⟨S4x4096x120, .f32⟩ : BufTy).Contents (Elt F)),
    nary ![main_v104, main_v98, main_v105] main_v106 (fun u => fn_main_v106 (F := F) (u 0) (u 1) (u 2)) ]

def o8_to : List (Ref sig .tc) := [main_v99, main_v100, main_cst_7, main_v101, main_v102, main_cst_8, main_v103, main_v104, main_cst_9, main_v105, main_v106]

theorem o8_keep (V : Valuation τ sig (Elt F)) (r : Ref sig .tc) (h : r ∉ o8_to) :
    after o8 V (Proc.devRef .tc r) = V (Proc.devRef .tc r) :=
  after_of_writes_sub o8 V (forall_writes_sub_of_map rfl) h

theorem o8_sub : (o8 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., nary_bufs_sub ..⟩

theorem o8_fresh : (o8 : List (HloOp τ sig (Elt F))).Forall fun op => op.fresh = ∅ := forall_fresh_of_map rfl

/-- The results' forms. -/
abbrev o9 : List (HloOp τ sig (Elt F)) :=
  [ unary main_v21 main_v107 ((truncf .bf16 · bitsLt_bf16_f32) : (⟨S4x4096x1024, .f32⟩ : BufTy).Contents (Elt F) → (⟨S4x4096x1024, .bf16⟩ : BufTy).Contents (Elt F)),
    reshape main_v107 main_v108 (rfl : (.bf16 : EltTy) = .bf16) shapeCasts_S4x4096x1024_S16384x1024,
    reshape main_v65 main_v109 (rfl : (.bf16 : EltTy) = .bf16) shapeCasts_S4x4096x4x128_S16384x512,
    reshape main_v75 main_v110 (rfl : (.bf16 : EltTy) = .bf16) shapeCasts_S4x4096x4x128_S16384x512,
    reshape main_v75 main_v111 (rfl : (.bf16 : EltTy) = .bf16) shapeCasts_S4x4096x4x128_S4x4096x512,
    unary main_v111 main_v112 ((transpose S4x512x4096 [0, 2, 1] · transposes_S4x4096x512_S4x512x4096_0_2_1) : (⟨S4x4096x512, .bf16⟩ : BufTy).Contents (Elt F) → (⟨S4x512x4096, .bf16⟩ : BufTy).Contents (Elt F)),
    unary main_v53 main_v113 ((truncf .bf16 · bitsLt_bf16_f32) : (⟨S4x4096x512, .f32⟩ : BufTy).Contents (Elt F) → (⟨S4x4096x512, .bf16⟩ : BufTy).Contents (Elt F)),
    reshape main_v113 main_v114 (rfl : (.bf16 : EltTy) = .bf16) shapeCasts_S4x4096x512_S16384x512,
    reshape main_v77 main_v115 (rfl : (.bf16 : EltTy) = .bf16) shapeCasts_S4x4096x512_S16384x512,
    reshape main_v106 main_v116 (rfl : (.f32 : EltTy) = .f32) shapeCasts_S4x4096x128_S16384x128,
    unary main_v106 main_v117 ((extractStridedSlice S4x4096x8 ![0, 0, 0] · slices_S4x4096x128_S4x4096x8_0_0_0) : (⟨S4x4096x128, .f32⟩ : BufTy).Contents (Elt F) → (⟨S4x4096x8, .f32⟩ : BufTy).Contents (Elt F)),
    unary main_v117 main_v118 ((transpose S4x8x4096 [0, 2, 1] · transposes_S4x4096x8_S4x8x4096_0_2_1) : (⟨S4x4096x8, .f32⟩ : BufTy).Contents (Elt F) → (⟨S4x8x4096, .f32⟩ : BufTy).Contents (Elt F)) ]

def o9_to : List (Ref sig .tc) := [main_v107, main_v108, main_v109, main_v110, main_v111, main_v112, main_v113, main_v114, main_v115, main_v116, main_v117, main_v118]

theorem o9_keep (V : Valuation τ sig (Elt F)) (r : Ref sig .tc) (h : r ∉ o9_to) :
    after o9 V (Proc.devRef .tc r) = V (Proc.devRef .tc r) :=
  after_of_writes_sub o9 V (forall_writes_sub_of_map rfl) h

theorem o9_sub : (o9 : List (HloOp τ sig (Elt F))).Forall fun op => op.bufs ⊆ tcRefs τ sig :=
  ⟨unary_bufs_sub .., reshape_bufs_sub .., reshape_bufs_sub .., reshape_bufs_sub .., reshape_bufs_sub .., unary_bufs_sub .., unary_bufs_sub .., reshape_bufs_sub .., reshape_bufs_sub .., reshape_bufs_sub .., unary_bufs_sub .., unary_bufs_sub ..⟩

theorem o9_fresh : (o9 : List (HloOp τ sig (Elt F))).Forall fun op => op.fresh = ∅ := forall_fresh_of_map rfl

theorem after_append (l₁ l₂ : List (HloOp τ sig (Elt F))) (V : Valuation τ sig (Elt F)) : after (l₁ ++ l₂) V = after l₂ (after l₁ V) := by
  induction l₁ generalizing V with
  | nil => rfl
  | cons o l ih => exact ih _

end Cert.Project.Ref

end
-- ==== Proof.Project.Operations.lean ====
/- The reference's operations, one after another, are its program. -/
module

public import proofs.«01_k».proof.Proof.Project.Stages

@[expose] public section

set_option maxRecDepth 8192

noncomputable section

namespace Cert.Project.Ref

open Cert.Reference3Ideal Cert.Reference3Ideal.Gen Idealize.ShloMosaic Idealize.ShloMosaic.TcCoe Idealize.SL.Sem Idealize.ShloMosaic.StableHlo

variable {F : FTy → Type} [FloatOps F]

/-- All operations, in order. -/
def ops : List (HloOp τ sig (Elt F)) := o1 ++ (o2 ++ (o2b ++ (o3 ++ (o4 ++ (o5 ++ (o6 ++ (o7 ++ (o7b ++ (o8 ++ (o9))))))))))

set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem forall_both {α : Type*} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)

theorem ops_sub : (ops : List (HloOp τ sig (Elt F))).Forall fun op => op.bufs ⊆ tcRefs τ sig :=
  forall_both o1_sub (forall_both o2_sub (forall_both o2b_sub (forall_both o3_sub (forall_both o4_sub (forall_both o5_sub (forall_both o6_sub (forall_both o7_sub (forall_both o7b_sub (forall_both o8_sub (o9_sub))))))))))

theorem ops_fresh : (ops : List (HloOp τ sig (Elt F))).Forall fun op => op.fresh = ∅ :=
  forall_both o1_fresh (forall_both o2_fresh (forall_both o2b_fresh (forall_both o3_fresh (forall_both o4_fresh (forall_both o5_fresh (forall_both o6_fresh (forall_both o7_fresh (forall_both o7b_fresh (forall_both o8_fresh (o9_fresh))))))))))

/-- From any memory, every execution ends with each buffer as the operations leave it. -/
theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.1 ops_fresh)

end Cert.Project.Ref

end
-- ==== Proof.Project.Reference.lean ====
/- The reference's results at an index: the projection, the short convolution and its activation, the unit rows. -/
module

public import proofs.«01_k».proof.Proof.Project.Groups
public import proofs.«01_k».proof.Proof.Gen.Reference3Ideal
public import Idealize.ShloMosaic.Lib.Pointwise

@[expose] public section

set_option maxRecDepth 16384

noncomputable section

namespace Cert.Project.Ref

open Cert.Reference3Ideal Cert.Reference3Ideal.Gen Idealize.ShloMosaic Idealize.ShloMosaic.TcCoe Idealize.SL.Sem

open Cert.Merge (half gate)

/-- The arguments, and the activations of all columns and of the convolution's. -/
abbrev X := FVec Ideal S4x4096x1024 .f32
abbrev W := FVec Ideal S1024x4872 .f32
abbrev Taps := FVec Ideal S4x1536 .f32
abbrev All := FVec Ideal S4x4096x4872 .f32
abbrev Wide := FVec Ideal S4x4096x1536 .f32
abbrev Acts := FVec Ideal S4x4096x512 .f32

/-- The projection. -/
def projected (x : X) (w : W) : All :=
  Host.dotGeneral dot_S4x4096x1024_S1024x4872_S4x4096x4872_2_0_01_1_n_n none x w

/-- A row's batch and position are those of its place. -/
theorem projected_apply (x : X) (w : W) (R : Fin 16384) (j : Fin 4872) :
    projected x w (ix3 (batchOf R) (posOf R) j) = proj x w R j := by
  unfold projected proj
  pointwise

/-- Two heads, each twice side by side. -/
def twice (t : FVec Ideal S4x4096x128 .f32) : FVec Ideal S4x4096x256 .f32 :=
  concatenate S4x4096x256 2 [
    ⟨S4x4096x64, (extractStridedSlice S4x4096x64 ![0, 0, 0] t slices_S4x4096x128_S4x4096x64_0_0_0 : FVec Ideal S4x4096x64 .f32)⟩,
    ⟨S4x4096x64, (extractStridedSlice S4x4096x64 ![0, 0, 0] t slices_S4x4096x128_S4x4096x64_0_0_0 : FVec Ideal S4x4096x64 .f32)⟩,
    ⟨S4x4096x64, (extractStridedSlice S4x4096x64 ![0, 0, 64] t slices_S4x4096x128_S4x4096x64_0_0_64 : FVec Ideal S4x4096x64 .f32)⟩,
    ⟨S4x4096x64, (extractStridedSlice S4x4096x64 ![0, 0, 64] t slices_S4x4096x128_S4x4096x64_0_0_64 : FVec Ideal S4x4096x64 .f32)⟩]
    concatenates_S4x4096x64_S4x4096x64_S4x4096x64_S4x4096x64_S4x4096x256_d2

/-- The attention's queries, keys and values side by side. -/
def attention (P : All) : FVec Ideal S4x4096x1024 .f32 :=
  concatenate S4x4096x1024 2 [
    ⟨S4x4096x512, (mulf (extractStridedSlice S4x4096x512 ![0, 0, 0] P slices_S4x4096x4872_S4x4096x512_0_0_0) (broadcastInDim S4x4096x512 ![] bcast_S_S4x4096x512 (constant S_ .f32 0x3E000000#32)) : FVec Ideal S4x4096x512 .f32)⟩,
    ⟨S4x4096x256, twice (extractStridedSlice S4x4096x128 ![0, 0, 512] P slices_S4x4096x4872_S4x4096x128_0_0_512)⟩,
    ⟨S4x4096x256, twice (extractStridedSlice S4x4096x128 ![0, 0, 640] P slices_S4x4096x4872_S4x4096x128_0_0_640)⟩]
    concatenates_S4x4096x512_S4x4096x256_S4x4096x256_S4x4096x1024_d2

/-- The same, a row for every position. -/
def aqkv (P : All) : FVec Ideal S16384x1024 .bf16 :=
  shapeCast _ (truncf .bf16 (attention P) bitsLt_bf16_f32) shapeCasts_S4x4096x1024_S16384x1024

theorem srcCol_low (l : Fin 1024) (h : l.val < 512) : (srcCol l).val = l.val := by
  unfold srcCol
  simp only [h, if_true, dite_true]

theorem srcCol_high (l : Fin 1024) (h : ¬ l.val < 512) :
    (srcCol l).val = 512 + 128 * ((l.val - 512) / 256) + 64 * ((l.val - 512) / 128 % 2) + l.val % 64 := by
  unfold srcCol
  simp only [h, if_false, dite_false]

theorem aqkv_low (P : All) (R : Fin 16384) (l : Fin 1024) (h : l.val < 512) :
    aqkv P (ix2 R l) = P (ix3 (batchOf R) (posOf R) (srcCol l)) * eighth := by
  unfold aqkv attention twice batchOf posOf eighth
  have key : ∀ (q : ℕ) (hq : q < 4872), q = (srcCol l).val →
      P (ix3 ⟨R.val / 4096, by omega⟩ ⟨R.val % 4096, by omega⟩ ⟨q, hq⟩) = P (ix3 ⟨R.val / 4096, by omega⟩ ⟨R.val % 4096, by omega⟩ (srcCol l)) :=
    fun q hq e => congrArg (fun z => P (ix3 _ _ z)) (Fin.ext e)
  rw [← key l.val (by omega) (srcCol_low l h).symm]
  pointwise
  rw [dif_pos h]

theorem aqkv_high (P : All) (R : Fin 16384) (l : Fin 1024) (h : ¬ l.val < 512) :
    aqkv P (ix2 R l) = P (ix3 (batchOf R) (posOf R) (srcCol l)) := by
  have hl := l.isLt
  have hs := srcCol_high l h
  unfold aqkv attention twice batchOf posOf
  have key : ∀ (q : ℕ) (hq : q < 4872), q = (srcCol l).val →
      P (ix3 ⟨R.val / 4096, by omega⟩ ⟨R.val % 4096, by omega⟩ ⟨q, hq⟩) = P (ix3 ⟨R.val / 4096, by omega⟩ ⟨R.val % 4096, by omega⟩ (srcCol l)) :=
    fun q hq e => congrArg (fun z => P (ix3 _ _ z)) (Fin.ext e)
  generalize srcCol l = j at hs key ⊢
  pointwise
  rw [dif_neg h]
  split_ifs <;> exact key _ _ (by rw [hs]; omega)

/-- The convolution's activations behind three rows of zeros. -/
def padded (P : All) : FVec Ideal S4x4099x1536 .f32 :=
  pad S4x4099x1536 ![0, 3, 0] ![0, 0, 0] ![0, 0, 0] (extractStridedSlice S4x4096x1536 ![0, 0, 768] P slices_S4x4096x4872_S4x4096x1536_0_0_768)
    (sitofp .f32 (constantI S_ 32 0#32)) pads_S4x4096x1536_S4x4099x1536_000_300_000 h_S_

theorem padded_own (P : All) (a : Fin 4) (p : Fin 4096) (l : Fin 1536) :
    padded P (ix3 a ⟨3 + p.val, by omega⟩ l) = P (ix3 a p ⟨768 + l.val, by omega⟩) := by
  unfold padded
  pointwise

theorem sitofp_zero : FloatOps.sitofp (F := Ideal) (w := 32) FTy.f32 0#32 = (0 : EReal) := by
  simp [FloatOps.sitofp]

theorem padded_front (P : All) (a : Fin 4) (p : Fin 3) (l : Fin 1536) :
    padded P (ix3 a ⟨p.val, by omega⟩ l) = 0 := by
  unfold padded
  pointwise
  rw [dif_neg (fun h => h.1)]
  exact sitofp_zero

/-- A tap's weights for every row. -/
def spread (v : FVec Ideal S1x1536 .f32) : Wide :=
  broadcastInDim S4x4096x1536 ![0, 1, 2] bcast_S1x1x1536_S4x4096x1536_0_1_2
    (broadcastInDim S1x1x1536 ![2] bcast_S1536_S1x1x1536_2 (shapeCast _ v shapeCasts_S1x1536_S1536))

theorem spread_apply (v : FVec Ideal S1x1536 .f32) (a : Fin 4) (p : Fin 4096) (l : Fin 1536) : spread v (ix3 a p l) = v (ix2 0 l) := by
  unfold spread
  pointwise

/-- The short convolution. -/
def convolved (Q : FVec Ideal S4x4099x1536 .f32) (cw : Taps) : Wide :=
  addf (addf (addf (mulf (extractStridedSlice S4x4096x1536 ![0, 0, 0] Q slices_S4x4099x1536_S4x4096x1536_0_0_0) (spread (extractStridedSlice S1x1536 ![0, 0] cw slices_S4x1536_S1x1536_0_0)))
      (mulf (extractStridedSlice S4x4096x1536 ![0, 1, 0] Q slices_S4x4099x1536_S4x4096x1536_0_1_0) (spread (extractStridedSlice S1x1536 ![1, 0] cw slices_S4x1536_S1x1536_1_0))))
      (mulf (extractStridedSlice S4x4096x1536 ![0, 2, 0] Q slices_S4x4099x1536_S4x4096x1536_0_2_0) (spread (extractStridedSlice S1x1536 ![2, 0] cw slices_S4x1536_S1x1536_2_0))))
      (mulf (extractStridedSlice S4x4096x1536 ![0, 3, 0] Q slices_S4x4099x1536_S4x4096x1536_0_3_0) (spread (extractStridedSlice S1x1536 ![3, 0] cw slices_S4x1536_S1x1536_3_0)))

theorem convolved_apply (Q : FVec Ideal S4x4099x1536 .f32) (cw : Taps) (a : Fin 4) (p : Fin 4096) (l : Fin 1536) :
    convolved Q cw (ix3 a p l) = Q (ix3 a ⟨p.val, by omega⟩ l) * cw (ix2 0 l) + Q (ix3 a ⟨1 + p.val, by omega⟩ l) * cw (ix2 1 l)
      + Q (ix3 a ⟨2 + p.val, by omega⟩ l) * cw (ix2 2 l) + Q (ix3 a ⟨3 + p.val, by omega⟩ l) * cw (ix2 3 l) := by
  unfold convolved spread
  pointwise

/-- The activation. -/
def silu {s : Shape} (h : S_.BroadcastsInDim s (![] : Fin 0 → Fin s.rank)) (t : FVec Ideal s .f32) : FVec Ideal s .f32 :=
  mulf t (Host.divf (broadcastInDim s ![] h (constant S_ .f32 0x3F800000#32))
    (addf (broadcastInDim s ![] h (constant S_ .f32 0x3F800000#32)) (Host.exp (Host.negf t))))

theorem one_eq : Ideal.ofBits .f32 0x3F800000#32 = (1 : EReal) := by
  simp [Ideal.ofBits, Ideal.ieee, -EReal.coe_mul]
  norm_num

theorem silu_apply {s : Shape} (h : S_.BroadcastsInDim s (![] : Fin 0 → Fin s.rank)) (t : FVec Ideal s .f32) (i : s.Idx) :
    silu h t i = t i * gate (t i) := by
  unfold gate
  rw [← one_eq]
  rfl

/-- The rows' heads at unit length. -/
def heads (t : Acts) : FVec Ideal S4x4096x4x128 .f32 := shapeCast _ t shapeCasts_S4x4096x512_S4x4096x4x128

def unit (t : Acts) : FVec Ideal S4x4096x4x128 .f32 :=
  mulf (heads t) (broadcastInDim S4x4096x4x128 ![0, 1, 2, 3] bcast_S4x4096x4x1_S4x4096x4x128_0_1_2_3
    (Host.rsqrt (addf (broadcastInDim S4x4096x4x1 ![0, 1, 2] bcast_S4x4096x4_S4x4096x4x1_0_1_2
      (Host.reduceAdd (mulf (heads t) (heads t)) (constant S_ .f32 0x00000000#32) reducesTo_S4x4096x4x128_S4x4096x4_d3 h_S_))
      (broadcastInDim S4x4096x4x1 ![] bcast_S_S4x4096x4x1 (constant S_ .f32 0x358637BD#32)))))

theorem heads_apply (t : Acts) (a : Fin 4) (p : Fin 4096) (hd : Fin 4) (d : Fin 128) :
    heads t (ix4 a p hd d) = t (ix3 a p ⟨128 * hd.val + d.val, by omega⟩) := by
  unfold heads
  pointwise
  exact congrArg (fun z => t (ix3 a p z)) (Fin.ext (by show hd.val * 128 + d.val = 128 * hd.val + d.val; omega))

theorem reduces_last : Shape.Reduces S4x4096x4x128 [3] S4x4096x4 := by decide

theorem lift_last (a : Fin 4) (p : Fin 4096) (hd : Fin 4) (i : Fin 128) : reduces_last.lift (ix3 a p hd) i = ix4 a p hd i := by
  funext k
  fin_cases k <;> rfl

theorem headSum (v : FVec Ideal S4x4096x4x128 .f32) (a : Fin 4) (p : Fin 4096) (hd : Fin 4) :
    Host.reduceAdd v (constant S_ .f32 0x00000000#32) reducesTo_S4x4096x4x128_S4x4096x4_d3 h_S_ (ix3 a p hd)
      = ∑ k : Fin 128, v (ix4 a p hd k) := by
  refine (Ideal.hostReduceAdd_single _ reduces_last v _ _).trans ?_
  refine (congrArg₂ (· + ·) (show _ = (0 : EReal) from ?_) (Finset.sum_congr rfl fun i _ =>
    congrArg v (lift_last a p hd i))).trans (zero_add _)
  simp [Ideal.ofBits, Ideal.ieee, constant]

theorem unit_apply (t : Acts) (a : Fin 4) (p : Fin 4096) (hd : Fin 4) (d : Fin 128) :
    unit t (ix4 a p hd d) = t (ix3 a p ⟨128 * hd.val + d.val, by omega⟩)
      * Ideal.rsqrt ((∑ k : Fin 128, t (ix3 a p ⟨128 * hd.val + k.val, by omega⟩) * t (ix3 a p ⟨128 * hd.val + k.val, by omega⟩)) + small) := by
  have h : Host.reduceAdd (mulf (heads t) (heads t)) (constant S_ .f32 0x00000000#32) reducesTo_S4x4096x4x128_S4x4096x4_d3 h_S_ (ix3 a p hd)
      = ∑ k : Fin 128, t (ix3 a p ⟨128 * hd.val + k.val, by omega⟩) * t (ix3 a p ⟨128 * hd.val + k.val, by omega⟩) := by
    rw [headSum]
    refine Finset.sum_congr rfl fun k _ => ?_
    exact congrArg₂ (· * ·) (heads_apply t a p hd k) (heads_apply t a p hd k)
  rw [← h, ← heads_apply t a p hd d]
  unfold unit small
  generalize Host.reduceAdd (mulf (heads t) (heads t)) (constant S_ .f32 0x00000000#32) reducesTo_S4x4096x4x128_S4x4096x4_d3 h_S_ = y
  generalize heads t = z
  pointwise

end Cert.Project.Ref

end
-- ==== Proof.Project.RefGates.lean ====
/- The reference's gates at an index: the betas, the decays and their sums within a chunk. -/
module

public import proofs.«01_k».proof.Proof.Project.Reference
public import proofs.«01_k».proof.Proof.Project.GateArray
public import Idealize.ShloMosaic.Lib.Pointwise

@[expose] public section

set_option maxRecDepth 16384

noncomputable section

namespace Cert.Project.Ref

open Cert.Reference3Ideal Cert.Reference3Ideal.Gen Idealize.ShloMosaic Idealize.ShloMosaic.TcCoe Idealize.SL.Sem

open Cert.Merge (half gate)

abbrev Four := FVec Ideal S4x4096x4 .f32

/-- Zeroes and ones of the gates' shape. -/
def zeros4 : Four := broadcastInDim S4x4096x4 ![] bcast_S_S4x4096x4 (constant S_ .f32 0x00000000#32)
def ones4 : Four := broadcastInDim S4x4096x4 ![] bcast_S_S4x4096x4 (constant S_ .f32 0x3F800000#32)

theorem zeros4_apply (i : S4x4096x4.Idx) : zeros4 i = (0 : EReal) := by
  refine Eq.trans (b := Ideal.ofBits .f32 0x00000000#32) rfl ?_
  simp [Ideal.ofBits, Ideal.ieee]

theorem ones4_apply (i : S4x4096x4.Idx) : ones4 i = (1 : EReal) :=
  Eq.trans (b := Ideal.ofBits .f32 0x3F800000#32) rfl one_eq

/-- The betas. -/
def betas (P : All) : Four :=
  Host.divf ones4 (addf ones4 (Host.exp (Host.negf (extractStridedSlice S4x4096x4 ![0, 0, 2816] P slices_S4x4096x4872_S4x4096x4_0_0_2816))))

theorem betas_apply (P : All) (a : Fin 4) (p : Fin 4096) (l : Fin 4) :
    betas P (ix3 a p l) = gate (P (ix3 a p ⟨2816 + l.val, by omega⟩)) := by
  unfold gate
  rw [← ones4_apply (ix3 a p l)]
  unfold betas
  generalize ones4 = o
  pointwise

/-- A vector of four for every row. -/
def every (v : FVec Ideal S4 .f32) : Four :=
  broadcastInDim S4x4096x4 ![0, 1, 2] bcast_S1x1x4_S4x4096x4_0_1_2 (broadcastInDim S1x1x4 ![2] bcast_S4_S1x1x4_2 v)

theorem every_apply (v : FVec Ideal S4 .f32) (a : Fin 4) (p : Fin 4096) (l : Fin 4) : every v (ix3 a p l) = v (ix1 l) := by
  unfold every
  pointwise

/-- The decays' arguments. -/
def shifted (P : All) (bi : FVec Ideal S4 .f32) : Four :=
  addf (extractStridedSlice S4x4096x4 ![0, 0, 2820] P slices_S4x4096x4872_S4x4096x4_0_0_2820) (every bi)

theorem shifted_apply (P : All) (bi : FVec Ideal S4 .f32) (a : Fin 4) (p : Fin 4096) (l : Fin 4) :
    shifted P bi (ix3 a p l) = P (ix3 a p ⟨2820 + l.val, by omega⟩) + bi (ix1 l) := by
  rw [← every_apply bi a p l]
  unfold shifted
  generalize every bi = e
  pointwise

def soft (z : Four) : Four :=
  select (cmpf .une (subf z zeros4) (subf z zeros4)) (addf z zeros4)
    (addf (maximumf z zeros4) (Host.log1p (Host.exp (Host.negf (Host.absf (subf z zeros4))))))

theorem soft_apply (z : Four) (i : S4x4096x4.Idx) : soft z i = softplus (z i) := by
  have h0 := zeros4_apply i
  unfold soft softplus
  generalize zeros4 = o at h0 ⊢
  have e : Ideal.exp (0 - max (z i) (-(z i))) = Ideal.exp (-(max (z i - 0) (-(z i - 0)))) := by rw [zero_sub, sub_zero]
  rw [e, ← h0]
  have hc : ∀ v : EReal, FloatOps.cmpf (F := Ideal) (φ := .f32) .une v v = 0#1 := by
    intro v
    simp [FloatOps.cmpf, Ideal.cmp]
  refine (congrArg (fun b => if b = 1#1 then _ else _) (hc _)).trans ?_
  rfl

/-- The decays' steps. -/
def steps (P : All) (al bi : FVec Ideal S4 .f32) : Four := mulf (every (Host.negf (Host.exp al))) (soft (shifted P bi))

theorem steps_apply (x : X) (w : W) (al bi : FVec Ideal S4 .f32) (R : Fin 16384) (l : Fin 4) :
    steps (projected x w) al bi (ix3 (batchOf R) (posOf R) l) = stepK x w al bi R l := by
  unfold stepK
  rw [← projected_apply, ← shifted_apply, ← soft_apply, zero_sub]
  unfold steps
  refine congrArg (· * _) (every_apply _ _ _ _)

/-- The lower triangle. -/
def triangle : FVec Ideal S64x64 .f32 :=
  select (cmpi .sge (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0)))) (broadcastInDim S64x64 ![] bcast_S_S64x64 (constant S_ .f32 0x3F800000#32)) (broadcastInDim S64x64 ![] bcast_S_S64x64 (constant S_ .f32 0x00000000#32))

theorem sge_words : ∀ i j : Fin 64, IntOp.cmpi .sge (BitVec.ofNat 32 i.val) (BitVec.ofNat 32 j.val) = if j.val ≤ i.val then 1#1 else 0#1 := by
  decide +kernel

theorem triangle_apply (i j : Fin 64) : triangle (ix2 i j) = if j.val ≤ i.val then (1 : EReal) else 0 := by
  refine Eq.trans (b := if IntOp.cmpi .sge (BitVec.ofNat 32 i.val) (BitVec.ofNat 32 j.val) = 1#1 then Ideal.ofBits .f32 0x3F800000#32 else Ideal.ofBits .f32 0x00000000#32) ?_ ?_
  · unfold triangle
    pointwise
    rfl
  · rw [sge_words, one_eq, show Ideal.ofBits .f32 0x00000000#32 = (0 : EReal) by simp [Ideal.ofBits, Ideal.ieee]]
    by_cases h : j.val ≤ i.val
    · rw [if_pos h, if_pos h, if_pos rfl]
    · rw [if_neg h, if_neg h, if_neg (by decide)]

/-- The steps summed up within their chunks. -/
def summed (g : Four) : Four :=
  shapeCast _ (transpose S4x64x64x4 [0, 1, 3, 2] (Host.dotGeneral dot_S4x64x64x4_S64x64_S4x64x4x64_2_1_013_0_n_n none (shapeCast _ g shapeCasts_S4x4096x4_S4x64x64x4) triangle) transposes_S4x64x4x64_S4x64x64x4_0_1_3_2) shapeCasts_S4x64x64x4_S4x4096x4

theorem summed_apply (g : Four) (a : Fin 4) (p : Fin 4096) (l : Fin 4) :
    summed g (ix3 a p l) = ∑ j : Fin 64, (if j.val ≤ p.val % 64 then g (ix3 a ⟨64 * (p.val / 64) + j.val, by omega⟩ l) else 0) := by
  refine Eq.trans (b := ∑ j : Fin 64, g (ix3 a ⟨64 * (p.val / 64) + j.val, by omega⟩ l) * triangle (ix2 ⟨p.val % 64, by omega⟩ j)) ?_ ?_
  · unfold summed
    generalize triangle = u
    pointwise
    exact Finset.sum_congr rfl fun j _ => congrArg (fun q => g (ix3 a q l) * u (ix2 ⟨p.val % 64, by omega⟩ j))
      (Fin.ext (by show p.val / 64 * 64 + j.val = 64 * (p.val / 64) + j.val; omega))
  · refine Finset.sum_congr rfl fun j _ => ?_
    rw [triangle_apply]
    show _ * (if j.val ≤ p.val % 64 then (1 : EReal) else 0) = _
    by_cases h : j.val ≤ p.val % 64
    · rw [if_pos h, if_pos h, mul_one]
    · rw [if_neg h, if_neg h, mul_zero]

/-- The gates of every row. -/
def gatesOf (P : All) (al bi : FVec Ideal S4 .f32) : FVec Ideal S4x4096x128 .f32 :=
  concatenate S4x4096x128 2 [⟨S4x4096x4, betas P⟩, ⟨S4x4096x4, summed (steps P al bi)⟩,
    ⟨S4x4096x120, broadcastInDim S4x4096x120 ![] bcast_S_S4x4096x120 (constant S_ .f32 0x00000000#32)⟩]
    concatenates_S4x4096x4_S4x4096x4_S4x4096x120_S4x4096x128_d2

theorem joined (u v : Four) (a : Fin 4) (p : Fin 4096) (l : Fin 128) :
    concatenate S4x4096x128 2 [⟨S4x4096x4, u⟩, ⟨S4x4096x4, v⟩,
      ⟨S4x4096x120, (broadcastInDim S4x4096x120 ![] bcast_S_S4x4096x120 (constant S_ .f32 0x00000000#32) : FVec Ideal S4x4096x120 .f32)⟩]
      concatenates_S4x4096x4_S4x4096x4_S4x4096x120_S4x4096x128_d2 (ix3 a p l)
      = if h : l.val < 4 then u (ix3 a p ⟨l.val, h⟩) else if h' : l.val < 8 then v (ix3 a p ⟨l.val - 4, by omega⟩) else (0 : EReal) := by
  rw [show (0 : EReal) = Ideal.ofBits .f32 0x00000000#32 by simp [Ideal.ofBits, Ideal.ieee]]
  pointwise
  by_cases h4 : l.val < 4
  · rw [dif_pos h4, dif_pos h4]
  rw [dif_neg h4, dif_neg h4]
  by_cases h8 : l.val < 8
  · rw [dif_pos h8, dif_pos (by omega)]
  · rw [dif_neg h8, dif_neg (by omega)]

theorem gatesOf_apply (x : X) (w : W) (al bi : FVec Ideal S4 .f32) (R : Fin 16384) (l : Fin 128) :
    gatesOf (projected x w) al bi (ix3 (batchOf R) (posOf R) l) = gatesK x w al bi R l := by
  unfold gatesOf gatesK
  rw [joined]
  by_cases h4 : l.val < 4
  · rw [dif_pos h4, if_pos h4, betas_apply, projected_apply]
  rw [dif_neg h4, if_neg h4]
  by_cases h8 : l.val < 8
  · rw [dif_pos h8, dif_pos h8, summed_apply]
    have hp : (posOf R).val % 64 = R.val % 64 := by show R.val % 4096 % 64 = _; omega
    rw [hp]
    refine Finset.sum_congr rfl fun j _ => congrArg (fun v => if j.val ≤ R.val % 64 then v else (0 : EReal)) ?_
    rw [← steps_apply]
    have hb : batchOf ⟨64 * (R.val / 64) + j.val, by omega⟩ = batchOf R := Fin.ext (by show (64 * (R.val / 64) + j.val) / 4096 = R.val / 4096; omega)
    have hq : posOf ⟨64 * (R.val / 64) + j.val, by omega⟩ = ⟨64 * ((posOf R).val / 64) + j.val, by have := (posOf R).isLt; omega⟩ :=
      Fin.ext (by show (64 * (R.val / 64) + j.val) % 4096 = 64 * (R.val % 4096 / 64) + j.val; omega)
    rw [hb, hq]
  · rw [dif_neg h8, dif_neg h8]

end Cert.Project.Ref

end
-- ==== Proof.Project.Values.lean ====
/- The kernel's results are the reference's values: the activation of a real is half of it and that times the hyperbolic tangent of
   the half, and a scale of the weights scales the projection. -/
module

public import proofs.«01_k».proof.Proof.Project.Array
public import proofs.«01_k».proof.Proof.Attention.Finite

@[expose] public section

set_option maxRecDepth 16384

noncomputable section

namespace Cert.Project

open Cert.Kernel3Ideal Cert.Kernel3Ideal.Gen Idealize.ShloMosaic Idealize.ShloMosaic.TcCoe Idealize.SL.Sem

open Cert.Merge (half gate half_eq half_tanh)
open Cert.Attention (AllFinite)

/-! ## Real values -/

theorem real_sum {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := h a (Finset.mem_insert_self a s)
    obtain ⟨q, hq⟩ := ih fun i hi => h i (Finset.mem_insert_of_mem hi)
    exact ⟨r + q, by rw [Finset.sum_insert ha, hr, hq, EReal.coe_add]⟩

theorem real_mul {a b : EReal} (ha : ∃ r : ℝ, a = r) (hb : ∃ r : ℝ, b = r) : ∃ r : ℝ, a * b = r := by
  obtain ⟨r, rfl⟩ := ha
  obtain ⟨q, rfl⟩ := hb
  exact ⟨r * q, (EReal.coe_mul r q).symm⟩

theorem real_add {a b : EReal} (ha : ∃ r : ℝ, a = r) (hb : ∃ r : ℝ, b = r) : ∃ r : ℝ, a + b = r := by
  obtain ⟨r, rfl⟩ := ha
  obtain ⟨q, rfl⟩ := hb
  exact ⟨r + q, (EReal.coe_add r q).symm⟩

theorem real_of_finite {a : EReal} (h : a ≠ ⊤ ∧ a ≠ ⊥) : ∃ r : ℝ, a = r := by
  lift a to ℝ using h
  exact ⟨a, rfl⟩

theorem half_nonneg : (0 : EReal) ≤ half := by
  rw [half_eq]
  exact EReal.coe_nonneg.2 (by norm_num)

theorem half_ne_top : half ≠ ⊤ := by
  rw [half_eq]
  exact EReal.coe_ne_top _

/-- Half of a real and that times its hyperbolic tangent is the real times its gate. -/
theorem half_silu (z : EReal) (hz : ∃ r : ℝ, z = r) : half * z + half * z * Ideal.tanh (half * z) = z * gate z := by
  obtain ⟨r, rfl⟩ := hz
  rw [← half_tanh, half_eq, ← EReal.coe_mul, Ideal.tanh_coe, ← EReal.coe_mul, ← EReal.coe_mul, ← EReal.coe_add, ← EReal.coe_add, ← EReal.coe_mul]
  refine congrArg Real.toEReal ?_
  ring

/-! ## The results as the reference computes them -/

variable (x : FVec Ideal S4x4096x1024 .f32) (w : FVec Ideal S1024x4872 .f32) (cw : FVec Ideal S4x1536 .f32)

/-- The convolution of group `g`. -/
def conv (g : Fin 3) (R : Fin 16384) (l : Fin 512) : EReal :=
  past x w 3 R (groupCol g l) * cw (ix2 0 ⟨512 * g.val + l.val, by omega⟩)
    + past x w 2 R (groupCol g l) * cw (ix2 1 ⟨512 * g.val + l.val, by omega⟩)
    + past x w 1 R (groupCol g l) * cw (ix2 2 ⟨512 * g.val + l.val, by omega⟩)
    + past x w 0 R (groupCol g l) * cw (ix2 3 ⟨512 * g.val + l.val, by omega⟩)

theorem half_sum (a b c d : EReal) : half * a + half * b + half * c + half * d = half * (d + c + b + a) := by
  rw [EReal.left_distrib_of_nonneg_of_ne_top half_nonneg half_ne_top, EReal.left_distrib_of_nonneg_of_ne_top half_nonneg half_ne_top,
    EReal.left_distrib_of_nonneg_of_ne_top half_nonneg half_ne_top]
  ac_rfl

theorem halfConv_eq (g : Fin 3) (R : Fin 16384) (l : Fin 512) : halfConv x w cw g R l = half * conv x w cw g R l := by
  unfold halfConv conv
  rw [mul_left_comm _ half, mul_left_comm _ half, mul_left_comm _ half, mul_left_comm _ half, half_sum]

theorem proj_real (hx : AllFinite x) (hw : AllFinite w) (R : Fin 16384) (j : Fin 4872) : ∃ r : ℝ, proj x w R j = r :=
  real_sum _ _ fun k _ => real_mul (real_of_finite (hx _)) (real_of_finite (hw _))

theorem past_real (hx : AllFinite x) (hw : AllFinite w) (s : Fin 4) (R : Fin 16384) (j : Fin 4872) : ∃ r : ℝ, past x w s R j = r := by
  unfold past
  split
  · exact proj_real x w hx hw _ _
  · exact ⟨0, rfl⟩

theorem conv_real (hx : AllFinite x) (hw : AllFinite w) (hc : AllFinite cw) (g : Fin 3) (R : Fin 16384) (l : Fin 512) : ∃ r : ℝ, conv x w cw g R l = r := by
  have h : ∀ (s : Fin 4) (i : S4x1536.Idx), ∃ r : ℝ, past x w s R (groupCol g l) * cw i = r := fun s i =>
    real_mul (past_real x w hx hw s R _) (real_of_finite (hc i))
  exact real_add (real_add (real_add (h _ _) (h _ _)) (h _ _)) (h _ _)

/-- The kernel's activation. -/
theorem actK_eq (hx : AllFinite x) (hw : AllFinite w) (hc : AllFinite cw) (g : Fin 3) (R : Fin 16384) (l : Fin 512) :
    actK x w cw g R l = conv x w cw g R l * gate (conv x w cw g R l) := by
  unfold actK
  rw [halfConv_eq]
  exact half_silu _ (conv_real x w cw hx hw hc g R l)

/-- The kernel's output gate. -/
theorem dzsK_eq (hx : AllFinite x) (hw : AllFinite w) (R : Fin 16384) (l : Fin 512) :
    dzsK x w R l = proj x w R ⟨2304 + l.val, by omega⟩ * gate (proj x w R ⟨2304 + l.val, by omega⟩) :=
  half_silu _ (proj_real x w hx hw _ _)

theorem eighth_eq : eighth = ((1 / 8 : ℝ) : EReal) := by
  unfold eighth
  simp [Ideal.ofBits, Ideal.ieee, -EReal.coe_mul]
  norm_num

/-- A factor out of a sum. -/
theorem sum_mul_eighth {ι : Type} (s : Finset ι) (f : ι → EReal) : ∑ i ∈ s, f i * eighth = (∑ i ∈ s, f i) * eighth := by
  classical
  have h0 : (0 : EReal) ≤ eighth := by rw [eighth_eq]; exact EReal.coe_nonneg.2 (by norm_num)
  have h1 : eighth ≠ ⊤ := by rw [eighth_eq]; exact EReal.coe_ne_top _
  induction s using Finset.induction_on with
  | empty => simp
  | insert a s ha ih =>
    rw [Finset.sum_insert ha, Finset.sum_insert ha, ih, EReal.right_distrib_of_nonneg_of_ne_top h0 h1]

/-- The kernel's queries: scaling the weights scales the projection. -/
theorem aqkvK_low (R : Fin 16384) (l : Fin 1024) (h : l.val < 512) : aqkvK x w R l = proj x w R (srcCol l) * eighth := by
  unfold aqkvK proj
  rw [← sum_mul_eighth]
  refine Finset.sum_congr rfl fun k _ => ?_
  unfold attnCol
  rw [if_pos h, mul_assoc]

theorem aqkvK_high (R : Fin 16384) (l : Fin 1024) (h : ¬ l.val < 512) : aqkvK x w R l = proj x w R (srcCol l) := by
  unfold aqkvK proj
  refine Finset.sum_congr rfl fun k _ => ?_
  unfold attnCol
  rw [if_neg h]

theorem unitAt_eq (y : Fin 512 → EReal) (s : EReal) (l : Fin 512) :
    unitAt y s l = y l * Ideal.rsqrt ((∑ d : Fin 128, y ⟨128 * (l.val / 128) + d.val, by omega⟩ * y ⟨128 * (l.val / 128) + d.val, by omega⟩) + small) * s := by
  unfold unitAt
  rw [mul_assoc]

end Cert.Project

end
-- ==== Proof.Project.Results.lean ====
/- The reference's eight results are the kernel's, index by index. -/
module

public import proofs.«01_k».proof.Proof.Project.RefGates
public import proofs.«01_k».proof.Proof.Project.Values
public import Idealize.ShloMosaic.Lib.Pointwise

@[expose] public section

set_option maxRecDepth 16384

noncomputable section

namespace Cert.Project.Ref

open Cert.Reference3Ideal Cert.Reference3Ideal.Gen Idealize.ShloMosaic Idealize.ShloMosaic.TcCoe Idealize.SL.Sem

open Cert.Merge (half gate)
open Cert.Attention (AllFinite)

/-! ## The convolution at a row -/

theorem padded_past (x : X) (w : W) (s : Fin 4) (R : Fin 16384) (l : Fin 1536) (q : ℕ) (hq : q < 4099) (e : q = 3 - s.val + R.val % 4096) (j : Fin 4872) (hj : j.val = 768 + l.val) :
    padded (projected x w) (ix3 (batchOf R) ⟨q, hq⟩ l) = past x w s R j := by
  have hl := l.isLt
  have ej : j = ⟨768 + l.val, by omega⟩ := Fin.ext hj
  rw [ej]
  unfold past
  by_cases h : s.val ≤ R.val % 4096
  · rw [if_pos h, ← projected_apply]
    have hb : batchOf ⟨R.val - s.val, by omega⟩ = batchOf R := Fin.ext (by show (R.val - s.val) / 4096 = R.val / 4096; omega)
    rw [hb, ← padded_own (projected x w)]
    refine congrArg (fun z => padded _ (ix3 _ z l)) (Fin.ext ?_)
    show q = 3 + (R.val - s.val) % 4096
    omega
  · rw [if_neg h]
    exact padded_front _ _ ⟨q, by omega⟩ l

theorem convolved_row (x : X) (w : W) (cw : Taps) (g : Fin 3) (R : Fin 16384) (l : Fin 512) (k : Fin 1536) (hk : k.val = 512 * g.val + l.val) :
    convolved (padded (projected x w)) cw (ix3 (batchOf R) (posOf R) k) = conv x w cw g R l := by
  have ek : k = ⟨512 * g.val + l.val, by omega⟩ := Fin.ext hk
  rw [ek]
  have hj : (groupCol g l).val = 768 + (512 * g.val + l.val) := rfl
  rw [convolved_apply]
  unfold conv
  rw [padded_past x w 3 R _ (posOf R).val (by omega) (by show R.val % 4096 = 3 - 3 + R.val % 4096; omega) _ hj,
    padded_past x w 2 R _ (1 + (posOf R).val) (by omega) rfl _ hj,
    padded_past x w 1 R _ (2 + (posOf R).val) (by omega) rfl _ hj,
    padded_past x w 0 R _ (3 + (posOf R).val) (by omega) rfl _ hj]

/-! ## The three groups -/

def wide (P : All) (cw : Taps) : Wide := silu bcast_S_S4x4096x1536 (convolved (padded P) cw)

def queries (P : All) (cw : Taps) : Acts := extractStridedSlice S4x4096x512 ![0, 0, 0] (wide P cw) slices_S4x4096x1536_S4x4096x512_0_0_0
def keys (P : All) (cw : Taps) : Acts := extractStridedSlice S4x4096x512 ![0, 0, 512] (wide P cw) slices_S4x4096x1536_S4x4096x512_0_0_512
def values (P : All) (cw : Taps) : Acts := extractStridedSlice S4x4096x512 ![0, 0, 1024] (wide P cw) slices_S4x4096x1536_S4x4096x512_0_0_1024

theorem queries_apply (P : All) (cw : Taps) (a : Fin 4) (p : Fin 4096) (l : Fin 512) : queries P cw (ix3 a p l) = wide P cw (ix3 a p ⟨l.val, by omega⟩) := by
  unfold queries
  generalize wide P cw = y
  pointwise

theorem keys_apply (P : All) (cw : Taps) (a : Fin 4) (p : Fin 4096) (l : Fin 512) : keys P cw (ix3 a p l) = wide P cw (ix3 a p ⟨512 + l.val, by omega⟩) := by
  unfold keys
  generalize wide P cw = y
  pointwise

theorem values_apply (P : All) (cw : Taps) (a : Fin 4) (p : Fin 4096) (l : Fin 512) : values P cw (ix3 a p l) = wide P cw (ix3 a p ⟨1024 + l.val, by omega⟩) := by
  unfold values
  generalize wide P cw = y
  pointwise

variable (x : X) (w : W) (cw : Taps) (hx : AllFinite x) (hw : AllFinite w) (hc : AllFinite cw)
include hx hw hc

theorem wide_row (g : Fin 3) (R : Fin 16384) (l : Fin 512) (k : Fin 1536) (hk : k.val = 512 * g.val + l.val) :
    wide (projected x w) cw (ix3 (batchOf R) (posOf R) k) = actK x w cw g R l := by
  rw [actK_eq x w cw hx hw hc, ← convolved_row x w cw g R l k hk]
  exact silu_apply _ _ _

theorem queries_row (R : Fin 16384) (l : Fin 512) : queries (projected x w) cw (ix3 (batchOf R) (posOf R) l) = actK x w cw 0 R l := by
  rw [queries_apply]
  exact wide_row x w cw hx hw hc 0 R l _ (by show l.val = 512 * 0 + l.val; omega)

theorem keys_row (R : Fin 16384) (l : Fin 512) : keys (projected x w) cw (ix3 (batchOf R) (posOf R) l) = actK x w cw 1 R l := by
  rw [keys_apply]
  exact wide_row x w cw hx hw hc 1 R l _ rfl

theorem values_row (R : Fin 16384) (l : Fin 512) : values (projected x w) cw (ix3 (batchOf R) (posOf R) l) = actK x w cw 2 R l := by
  rw [values_apply]
  exact wide_row x w cw hx hw hc 2 R l _ rfl

omit hx hw hc

/-- A head's unit row, scaled, in the kernel's form. -/
theorem unit_row (t : Acts) (s : EReal) (R : Fin 16384) (l : Fin 512) :
    unit t (ix4 (batchOf R) (posOf R) ⟨l.val / 128, by omega⟩ ⟨l.val % 128, by omega⟩) * s
      = unitAt (fun d => t (ix3 (batchOf R) (posOf R) d)) s l := by
  rw [unit_apply, unitAt_eq]
  refine congrArg (fun k => t (ix3 (batchOf R) (posOf R) k) * _ * s) (Fin.ext ?_)
  show 128 * (l.val / 128) + l.val % 128 = l.val
  omega

/-! ## The results -/

def dq (P : All) (cw : Taps) : FVec Ideal S16384x512 .bf16 :=
  shapeCast _ (truncf .bf16 (mulf (unit (queries P cw)) (broadcastInDim S4x4096x4x128 ![] bcast_S_S4x4096x4x128 (constant S_ .f32 0x3DB504F3#32))) bitsLt_bf16_f32) shapeCasts_S4x4096x4x128_S16384x512
def dk (P : All) (cw : Taps) : FVec Ideal S16384x512 .bf16 :=
  shapeCast _ (truncf .bf16 (unit (keys P cw)) bitsLt_bf16_f32) shapeCasts_S4x4096x4x128_S16384x512
def dkt (P : All) (cw : Taps) : FVec Ideal S4x512x4096 .bf16 :=
  transpose S4x512x4096 [0, 2, 1] (shapeCast _ (truncf .bf16 (unit (keys P cw)) bitsLt_bf16_f32) shapeCasts_S4x4096x4x128_S4x4096x512) transposes_S4x4096x512_S4x512x4096_0_2_1
def dv (P : All) (cw : Taps) : FVec Ideal S16384x512 .bf16 :=
  shapeCast _ (truncf .bf16 (values P cw) bitsLt_bf16_f32) shapeCasts_S4x4096x512_S16384x512
def dzs (P : All) : FVec Ideal S16384x512 .bf16 :=
  shapeCast _ (truncf .bf16 (silu bcast_S_S4x4096x512 (extractStridedSlice S4x4096x512 ![0, 0, 2304] P slices_S4x4096x4872_S4x4096x512_0_0_2304)) bitsLt_bf16_f32) shapeCasts_S4x4096x512_S16384x512
def gatesR (P : All) (al bi : FVec Ideal S4 .f32) : FVec Ideal S16384x128 .f32 := shapeCast _ (gatesOf P al bi) shapeCasts_S4x4096x128_S16384x128
def gatesTR (P : All) (al bi : FVec Ideal S4 .f32) : FVec Ideal S4x8x4096 .f32 :=
  transpose S4x8x4096 [0, 2, 1] (extractStridedSlice S4x4096x8 ![0, 0, 0] (gatesOf P al bi) slices_S4x4096x128_S4x4096x8_0_0_0) transposes_S4x4096x8_S4x8x4096_0_2_1

theorem batch_row (a : Fin 4) (p : Fin 4096) : batchOf (rowAt a p) = a := Fin.ext (by show (4096 * a.val + p.val) / 4096 = a.val; omega)
theorem pos_row (a : Fin 4) (p : Fin 4096) : posOf (rowAt a p) = p := Fin.ext (by show (4096 * a.val + p.val) % 4096 = p.val; omega)

theorem aqkv_eq (R : Fin 16384) (l : Fin 1024) : aqkv (projected x w) (ix2 R l) = aqkvK x w R l := by
  by_cases h : l.val < 512
  · rw [aqkv_low _ R l h, aqkvK_low x w R l h, projected_apply]
  · rw [aqkv_high _ R l h, aqkvK_high x w R l h, projected_apply]

include hx hw hc

theorem dq_eq (R : Fin 16384) (l : Fin 512) : dq (projected x w) cw (ix2 R l) = dqK x w cw R l := by
  unfold dqK
  rw [← funext (queries_row x w cw hx hw hc R), ← unit_row]
  unfold dq batchOf posOf
  generalize unit (queries (projected x w) cw) = y
  pointwise

theorem dk_unit (R : Fin 16384) (l : Fin 512) :
    unit (keys (projected x w) cw) (ix4 (batchOf R) (posOf R) ⟨l.val / 128, by omega⟩ ⟨l.val % 128, by omega⟩) = dkK x w cw R l := by
  unfold dkK
  rw [← funext (keys_row x w cw hx hw hc R), ← unit_row, one_eq, mul_one]

theorem dk_eq (R : Fin 16384) (l : Fin 512) : dk (projected x w) cw (ix2 R l) = dkK x w cw R l := by
  rw [← dk_unit x w cw hx hw hc]
  unfold dk batchOf posOf
  generalize unit (keys (projected x w) cw) = y
  pointwise

theorem dkt_eq (a : Fin 4) (l : Fin 512) (p : Fin 4096) : dkt (projected x w) cw (ix3 a l p) = dkK x w cw (rowAt a p) l := by
  rw [← dk_unit x w cw hx hw hc, batch_row, pos_row]
  unfold dkt
  generalize unit (keys (projected x w) cw) = y
  pointwise

theorem dv_eq (R : Fin 16384) (l : Fin 512) : dv (projected x w) cw (ix2 R l) = dvK x w cw R l := by
  unfold dvK
  rw [← values_row x w cw hx hw hc]
  unfold dv batchOf posOf
  generalize values (projected x w) cw = y
  pointwise

omit hc in
theorem dzs_eq (R : Fin 16384) (l : Fin 512) : dzs (projected x w) (ix2 R l) = dzsK x w R l := by
  have e : (extractStridedSlice S4x4096x512 ![0, 0, 2304] (projected x w) slices_S4x4096x4872_S4x4096x512_0_0_2304 : Acts) (ix3 (batchOf R) (posOf R) l)
      = proj x w R ⟨2304 + l.val, by omega⟩ := by
    rw [← projected_apply]
    generalize projected x w = y
    pointwise
  rw [dzsK_eq x w hx hw, ← e, ← silu_apply bcast_S_S4x4096x512]
  unfold dzs batchOf posOf
  generalize silu bcast_S_S4x4096x512 (extractStridedSlice S4x4096x512 ![0, 0, 2304] (projected x w) slices_S4x4096x4872_S4x4096x512_0_0_2304) = y
  pointwise

omit hx hw hc

theorem gatesR_eq (al bi : FVec Ideal S4 .f32) (R : Fin 16384) (l : Fin 128) : gatesR (projected x w) al bi (ix2 R l) = gatesK x w al bi R l := by
  rw [← gatesOf_apply]
  unfold gatesR batchOf posOf
  generalize gatesOf (projected x w) al bi = y
  pointwise

theorem gatesTR_eq (al bi : FVec Ideal S4 .f32) (a : Fin 4) (l : Fin 8) (p : Fin 4096) :
    gatesTR (projected x w) al bi (ix3 a l p) = gatesTK x w al bi (rowAt a p) l := by
  unfold gatesTK
  rw [← gatesOf_apply, batch_row, pos_row]
  unfold gatesTR
  generalize gatesOf (projected x w) al bi = y
  pointwise

end Cert.Project.Ref

end
-- ==== Proof.Project.StageValues.lean ====
/- What each stretch of the reference's operations computes from what stands before it. -/
module

public import proofs.«01_k».proof.Proof.Project.Stages
public import proofs.«01_k».proof.Proof.Project.RefGates
public import proofs.«01_k».proof.Proof.Project.Results

@[expose] public section

set_option maxRecDepth 8192

noncomputable section

namespace Cert.Project.Ref

open Cert.Reference3Ideal Cert.Reference3Ideal.Gen Idealize.ShloMosaic Idealize.ShloMosaic.TcCoe Idealize.SL.Sem Idealize.ShloMosaic.StableHlo

variable (V : Valuation τ sig (Elt Ideal))

/-- The betas, the decays' sums and zeroes side by side. -/
def join (u v : Four) : FVec Ideal S4x4096x128 .f32 :=
  concatenate S4x4096x128 2 [⟨S4x4096x4, u⟩, ⟨S4x4096x4, v⟩, ⟨S4x4096x120, (broadcastInDim S4x4096x120 ![] bcast_S_S4x4096x120 (constant S_ .f32 0x00000000#32) : FVec Ideal S4x4096x120 .f32)⟩] concatenates_S4x4096x4_S4x4096x4_S4x4096x120_S4x4096x128_d2

/-- The steps summed up by a triangle. -/
def sums (g : Four) (u : FVec Ideal S64x64 .f32) : Four :=
  shapeCast _ (transpose S4x64x64x4 [0, 1, 3, 2] (Host.dotGeneral dot_S4x64x64x4_S64x64_S4x64x4x64_2_1_013_0_n_n none (shapeCast _ g shapeCasts_S4x4096x4_S4x64x64x4) u) transposes_S4x64x4x64_S4x64x64x4_0_1_3_2) shapeCasts_S4x64x64x4_S4x4096x4

/-- A row for every position. -/
def rows (t : FVec Ideal S4x4096x1024 .f32) : FVec Ideal S16384x1024 .bf16 :=
  shapeCast _ (truncf .bf16 t bitsLt_bf16_f32) shapeCasts_S4x4096x1024_S16384x1024
def narrow (t : Acts) : FVec Ideal S16384x512 .bf16 :=
  shapeCast _ (truncf .bf16 t bitsLt_bf16_f32) shapeCasts_S4x4096x512_S16384x512

/-! ## What each stretch leaves -/

theorem o1_attention : after o1 V (Proc.devRef .tc main_v21) = attention (projected (V (Proc.devRef .tc main_arg0)) (V (Proc.devRef .tc main_arg1))) := by
  simp only [o1, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o1_groups : after o1 V (Proc.devRef .tc main_v4) = extractStridedSlice S4x4096x1536 ![0, 0, 768] (projected (V (Proc.devRef .tc main_arg0)) (V (Proc.devRef .tc main_arg1))) slices_S4x4096x4872_S4x4096x1536_0_0_768 := by
  simp only [o1, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o1_gate : after o1 V (Proc.devRef .tc main_v5) = extractStridedSlice S4x4096x512 ![0, 0, 2304] (projected (V (Proc.devRef .tc main_arg0)) (V (Proc.devRef .tc main_arg1))) slices_S4x4096x4872_S4x4096x512_0_0_2304 := by
  simp only [o1, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o1_beta : after o1 V (Proc.devRef .tc main_v6) = extractStridedSlice S4x4096x4 ![0, 0, 2816] (projected (V (Proc.devRef .tc main_arg0)) (V (Proc.devRef .tc main_arg1))) slices_S4x4096x4872_S4x4096x4_0_0_2816 := by
  simp only [o1, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o1_decay : after o1 V (Proc.devRef .tc main_v7) = extractStridedSlice S4x4096x4 ![0, 0, 2820] (projected (V (Proc.devRef .tc main_arg0)) (V (Proc.devRef .tc main_arg1))) slices_S4x4096x4872_S4x4096x4_0_0_2820 := by
  simp only [o1, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o2_wide : after o2 V (Proc.devRef .tc main_v50) = silu bcast_S_S4x4096x1536 (convolved (pad S4x4099x1536 ![0, 3, 0] ![0, 0, 0] ![0, 0, 0] (V (Proc.devRef .tc main_v4)) (sitofp .f32 (constantI S_ 32 0#32)) pads_S4x4096x1536_S4x4099x1536_000_300_000 h_S_) (V (Proc.devRef .tc main_arg2))) := by
  simp only [o2, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o2b_q : after o2b V (Proc.devRef .tc main_v51) = extractStridedSlice S4x4096x512 ![0, 0, 0] (V (Proc.devRef .tc main_v50)) slices_S4x4096x1536_S4x4096x512_0_0_0 := by
  simp only [o2b, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o2b_k : after o2b V (Proc.devRef .tc main_v52) = extractStridedSlice S4x4096x512 ![0, 0, 512] (V (Proc.devRef .tc main_v50)) slices_S4x4096x1536_S4x4096x512_0_0_512 := by
  simp only [o2b, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o2b_v : after o2b V (Proc.devRef .tc main_v53) = extractStridedSlice S4x4096x512 ![0, 0, 1024] (V (Proc.devRef .tc main_v50)) slices_S4x4096x1536_S4x4096x512_0_0_1024 := by
  simp only [o2b, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o3_q : after o3 V (Proc.devRef .tc main_v65) = truncf .bf16 (mulf (unit (V (Proc.devRef .tc main_v51))) (broadcastInDim S4x4096x4x128 ![] bcast_S_S4x4096x4x128 (constant S_ .f32 0x3DB504F3#32))) bitsLt_bf16_f32 := by
  simp only [o3, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o4_k : after o4 V (Proc.devRef .tc main_v75) = truncf .bf16 (unit (V (Proc.devRef .tc main_v52))) bitsLt_bf16_f32 := by
  simp only [o4, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o5_gate : after o5 V (Proc.devRef .tc main_v77) = truncf .bf16 (silu bcast_S_S4x4096x512 (V (Proc.devRef .tc main_v5))) bitsLt_bf16_f32 := by
  simp only [o5, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o6_steps : after o6 V (Proc.devRef .tc main_v86) = mulf (every (Host.negf (Host.exp (V (Proc.devRef .tc main_arg3))))) (soft (addf (V (Proc.devRef .tc main_v7)) (every (V (Proc.devRef .tc main_arg4))))) := by
  simp only [o6, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o7_triangle : after o7 V (Proc.devRef .tc main_v94) = triangle := by
  simp only [o7, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o7b_sums : after o7b V (Proc.devRef .tc main_v98) = sums (V (Proc.devRef .tc main_v86)) (V (Proc.devRef .tc main_v94)) := by
  simp only [o7b, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o8_joined : after o8 V (Proc.devRef .tc main_v106) = join (Host.divf ones4 (addf ones4 (Host.exp (Host.negf (V (Proc.devRef .tc main_v6)))))) (V (Proc.devRef .tc main_v98)) := by
  simp only [o8, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o9_aqkv : after o9 V (Proc.devRef .tc main_v108) = rows (V (Proc.devRef .tc main_v21)) := by
  simp only [o9, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o9_dq : after o9 V (Proc.devRef .tc main_v109) = shapeCast _ (V (Proc.devRef .tc main_v65)) shapeCasts_S4x4096x4x128_S16384x512 := by
  simp only [o9, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o9_dk : after o9 V (Proc.devRef .tc main_v110) = shapeCast _ (V (Proc.devRef .tc main_v75)) shapeCasts_S4x4096x4x128_S16384x512 := by
  simp only [o9, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o9_dkt : after o9 V (Proc.devRef .tc main_v112) = transpose S4x512x4096 [0, 2, 1] (shapeCast _ (V (Proc.devRef .tc main_v75)) shapeCasts_S4x4096x4x128_S4x4096x512) transposes_S4x4096x512_S4x512x4096_0_2_1 := by
  simp only [o9, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o9_dv : after o9 V (Proc.devRef .tc main_v114) = narrow (V (Proc.devRef .tc main_v53)) := by
  simp only [o9, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o9_dzs : after o9 V (Proc.devRef .tc main_v115) = shapeCast _ (V (Proc.devRef .tc main_v77)) shapeCasts_S4x4096x512_S16384x512 := by
  simp only [o9, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o9_gates : after o9 V (Proc.devRef .tc main_v116) = shapeCast _ (V (Proc.devRef .tc main_v106)) shapeCasts_S4x4096x128_S16384x128 := by
  simp only [o9, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

theorem o9_gatesT : after o9 V (Proc.devRef .tc main_v118) = transpose S4x8x4096 [0, 2, 1] (extractStridedSlice S4x4096x8 ![0, 0, 0] (V (Proc.devRef .tc main_v106)) slices_S4x4096x128_S4x4096x8_0_0_0) transposes_S4x4096x8_S4x8x4096_0_2_1 := by
  simp only [o9, TRef.binary, TRef.nullary, TRef.ternary, TRef.unary, TRef.toBuf, TRef.ofBuf, cast_eq]
  after_results_simp <;> (try dsimp only [Matrix.cons_val]) <;> (try after_results_simp) <;> (try dsimp only [Matrix.cons_val]) <;> (try after_results_simp) <;> rfl

end Cert.Project.Ref

end
-- ==== Proof.Project.RefRun.lean ====
/- The reference's run: its results, as functions of the arguments. -/
module

public import proofs.«01_k».proof.Proof.Project.Operations
public import proofs.«01_k».proof.Proof.Project.StageValues

@[expose] public section

set_option maxRecDepth 8192

noncomputable section

namespace Cert.Project.Ref

open Cert.Reference3Ideal Cert.Reference3Ideal.Gen Idealize.ShloMosaic Idealize.ShloMosaic.TcCoe Idealize.SL.Sem Idealize.ShloMosaic.StableHlo

variable (V : Valuation τ sig (Elt Ideal))

/-- The stretches, one after another. -/
theorem after_ops : after ops V = after o9 (after o8 (after o7b (after o7 (after o6 (after o5 (after o4 (after o3 (after o2b (after o2 (after o1 V)))))))))) := by
  unfold ops
  rw [after_append, after_append, after_append, after_append, after_append, after_append, after_append, after_append, after_append, after_append]

theorem ops_aqkv : after ops V (Proc.devRef .tc main_v108) = aqkv (projected (V (Proc.devRef .tc main_arg0)) (V (Proc.devRef .tc main_arg1))) := by
  rw [after_ops, o9_aqkv, o8_keep _ main_v21 (by decide), o7b_keep _ main_v21 (by decide), o7_keep _ main_v21 (by decide), o6_keep _ main_v21 (by decide), o5_keep _ main_v21 (by decide), o4_keep _ main_v21 (by decide), o3_keep _ main_v21 (by decide), o2b_keep _ main_v21 (by decide), o2_keep _ main_v21 (by decide), o1_attention]
  rfl

theorem ops_dq : after ops V (Proc.devRef .tc main_v109) = dq (projected (V (Proc.devRef .tc main_arg0)) (V (Proc.devRef .tc main_arg1))) (V (Proc.devRef .tc main_arg2)) := by
  rw [after_ops, o9_dq, o8_keep _ main_v65 (by decide), o7b_keep _ main_v65 (by decide), o7_keep _ main_v65 (by decide), o6_keep _ main_v65 (by decide), o5_keep _ main_v65 (by decide), o4_keep _ main_v65 (by decide), o3_q, o2b_q, o2_wide, o1_groups, o1_keep _ main_arg2 (by decide)]
  rfl

theorem ops_dk : after ops V (Proc.devRef .tc main_v110) = dk (projected (V (Proc.devRef .tc main_arg0)) (V (Proc.devRef .tc main_arg1))) (V (Proc.devRef .tc main_arg2)) := by
  rw [after_ops, o9_dk, o8_keep _ main_v75 (by decide), o7b_keep _ main_v75 (by decide), o7_keep _ main_v75 (by decide), o6_keep _ main_v75 (by decide), o5_keep _ main_v75 (by decide), o4_k, o3_keep _ main_v52 (by decide), o2b_k, o2_wide, o1_groups, o1_keep _ main_arg2 (by decide)]
  rfl

theorem ops_dkt : after ops V (Proc.devRef .tc main_v112) = dkt (projected (V (Proc.devRef .tc main_arg0)) (V (Proc.devRef .tc main_arg1))) (V (Proc.devRef .tc main_arg2)) := by
  rw [after_ops, o9_dkt, o8_keep _ main_v75 (by decide), o7b_keep _ main_v75 (by decide), o7_keep _ main_v75 (by decide), o6_keep _ main_v75 (by decide), o5_keep _ main_v75 (by decide), o4_k, o3_keep _ main_v52 (by decide), o2b_k, o2_wide, o1_groups, o1_keep _ main_arg2 (by decide)]
  rfl

theorem ops_dv : after ops V (Proc.devRef .tc main_v114) = dv (projected (V (Proc.devRef .tc main_arg0)) (V (Proc.devRef .tc main_arg1))) (V (Proc.devRef .tc main_arg2)) := by
  rw [after_ops, o9_dv, o8_keep _ main_v53 (by decide), o7b_keep _ main_v53 (by decide), o7_keep _ main_v53 (by decide), o6_keep _ main_v53 (by decide), o5_keep _ main_v53 (by decide), o4_keep _ main_v53 (by decide), o3_keep _ main_v53 (by decide), o2b_v, o2_wide, o1_groups, o1_keep _ main_arg2 (by decide)]
  rfl

theorem ops_dzs : after ops V (Proc.devRef .tc main_v115) = dzs (projected (V (Proc.devRef .tc main_arg0)) (V (Proc.devRef .tc main_arg1))) := by
  rw [after_ops, o9_dzs, o8_keep _ main_v77 (by decide), o7b_keep _ main_v77 (by decide), o7_keep _ main_v77 (by decide), o6_keep _ main_v77 (by decide), o5_gate, o4_keep _ main_v5 (by decide), o3_keep _ main_v5 (by decide), o2b_keep _ main_v5 (by decide), o2_keep _ main_v5 (by decide), o1_gate]
  rfl

theorem ops_gates : after ops V (Proc.devRef .tc main_v116) = gatesR (projected (V (Proc.devRef .tc main_arg0)) (V (Proc.devRef .tc main_arg1))) (V (Proc.devRef .tc main_arg3)) (V (Proc.devRef .tc main_arg4)) := by
  rw [after_ops, o9_gates, o8_joined, o7b_keep _ main_v6 (by decide), o7_keep _ main_v6 (by decide), o6_keep _ main_v6 (by decide), o5_keep _ main_v6 (by decide), o4_keep _ main_v6 (by decide), o3_keep _ main_v6 (by decide), o2b_keep _ main_v6 (by decide), o2_keep _ main_v6 (by decide), o1_beta, o7b_sums, o7_keep _ main_v86 (by decide), o6_steps, o5_keep _ main_arg3 (by decide), o4_keep _ main_arg3 (by decide), o3_keep _ main_arg3 (by decide), o2b_keep _ main_arg3 (by decide), o2_keep _ main_arg3 (by decide), o1_keep _ main_arg3 (by decide), o5_keep _ main_v7 (by decide), o4_keep _ main_v7 (by decide), o3_keep _ main_v7 (by decide), o2b_keep _ main_v7 (by decide), o2_keep _ main_v7 (by decide), o1_decay, o5_keep _ main_arg4 (by decide), o4_keep _ main_arg4 (by decide), o3_keep _ main_arg4 (by decide), o2b_keep _ main_arg4 (by decide), o2_keep _ main_arg4 (by decide), o1_keep _ main_arg4 (by decide), o7_triangle]
  rfl

theorem ops_gatesT : after ops V (Proc.devRef .tc main_v118) = gatesTR (projected (V (Proc.devRef .tc main_arg0)) (V (Proc.devRef .tc main_arg1))) (V (Proc.devRef .tc main_arg3)) (V (Proc.devRef .tc main_arg4)) := by
  rw [after_ops, o9_gatesT, o8_joined, o7b_keep _ main_v6 (by decide), o7_keep _ main_v6 (by decide), o6_keep _ main_v6 (by decide), o5_keep _ main_v6 (by decide), o4_keep _ main_v6 (by decide), o3_keep _ main_v6 (by decide), o2b_keep _ main_v6 (by decide), o2_keep _ main_v6 (by decide), o1_beta, o7b_sums, o7_keep _ main_v86 (by decide), o6_steps, o5_keep _ main_arg3 (by decide), o4_keep _ main_arg3 (by decide), o3_keep _ main_arg3 (by decide), o2b_keep _ main_arg3 (by decide), o2_keep _ main_arg3 (by decide), o1_keep _ main_arg3 (by decide), o5_keep _ main_v7 (by decide), o4_keep _ main_v7 (by decide), o3_keep _ main_v7 (by decide), o2b_keep _ main_v7 (by decide), o2_keep _ main_v7 (by decide), o1_decay, o5_keep _ main_arg4 (by decide), o4_keep _ main_arg4 (by decide), o3_keep _ main_arg4 (by decide), o2b_keep _ main_arg4 (by decide), o2_keep _ main_arg4 (by decide), o1_keep _ main_arg4 (by decide), o7_triangle]
  rfl

theorem ops_arg0 : after ops V (Proc.devRef .tc main_arg0) = V (Proc.devRef .tc main_arg0) := by
  rw [after_ops, o9_keep _ main_arg0 (by decide), o8_keep _ main_arg0 (by decide), o7b_keep _ main_arg0 (by decide), o7_keep _ main_arg0 (by decide), o6_keep _ main_arg0 (by decide), o5_keep _ main_arg0 (by decide), o4_keep _ main_arg0 (by decide), o3_keep _ main_arg0 (by decide), o2b_keep _ main_arg0 (by decide), o2_keep _ main_arg0 (by decide), o1_keep _ main_arg0 (by decide)]

theorem ops_arg1 : after ops V (Proc.devRef .tc main_arg1) = V (Proc.devRef .tc main_arg1) := by
  rw [after_ops, o9_keep _ main_arg1 (by decide), o8_keep _ main_arg1 (by decide), o7b_keep _ main_arg1 (by decide), o7_keep _ main_arg1 (by decide), o6_keep _ main_arg1 (by decide), o5_keep _ main_arg1 (by decide), o4_keep _ main_arg1 (by decide), o3_keep _ main_arg1 (by decide), o2b_keep _ main_arg1 (by decide), o2_keep _ main_arg1 (by decide), o1_keep _ main_arg1 (by decide)]

theorem ops_arg2 : after ops V (Proc.devRef .tc main_arg2) = V (Proc.devRef .tc main_arg2) := by
  rw [after_ops, o9_keep _ main_arg2 (by decide), o8_keep _ main_arg2 (by decide), o7b_keep _ main_arg2 (by decide), o7_keep _ main_arg2 (by decide), o6_keep _ main_arg2 (by decide), o5_keep _ main_arg2 (by decide), o4_keep _ main_arg2 (by decide), o3_keep _ main_arg2 (by decide), o2b_keep _ main_arg2 (by decide), o2_keep _ main_arg2 (by decide), o1_keep _ main_arg2 (by decide)]

theorem ops_arg3 : after ops V (Proc.devRef .tc main_arg3) = V (Proc.devRef .tc main_arg3) := by
  rw [after_ops, o9_keep _ main_arg3 (by decide), o8_keep _ main_arg3 (by decide), o7b_keep _ main_arg3 (by decide), o7_keep _ main_arg3 (by decide), o6_keep _ main_arg3 (by decide), o5_keep _ main_arg3 (by decide), o4_keep _ main_arg3 (by decide), o3_keep _ main_arg3 (by decide), o2b_keep _ main_arg3 (by decide), o2_keep _ main_arg3 (by decide), o1_keep _ main_arg3 (by decide)]

theorem ops_arg4 : after ops V (Proc.devRef .tc main_arg4) = V (Proc.devRef .tc main_arg4) := by
  rw [after_ops, o9_keep _ main_arg4 (by decide), o8_keep _ main_arg4 (by decide), o7b_keep _ main_arg4 (by decide), o7_keep _ main_arg4 (by decide), o6_keep _ main_arg4 (by decide), o5_keep _ main_arg4 (by decide), o4_keep _ main_arg4 (by decide), o3_keep _ main_arg4 (by decide), o2b_keep _ main_arg4 (by decide), o2_keep _ main_arg4 (by decide), o1_keep _ main_arg4 (by decide)]

/-- Every execution of the reference ends with its results and with its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v108) = aqkv (projected (m ((c.tc : Thread nD τ).loc main_arg0)) (m ((c.tc : Thread nD τ).loc main_arg1)))
      ∧ r.2.mem ((c.tc : Thread nD τ).loc main_v109) = dq (projected (m ((c.tc : Thread nD τ).loc main_arg0)) (m ((c.tc : Thread nD τ).loc main_arg1))) (m ((c.tc : Thread nD τ).loc main_arg2))
      ∧ r.2.mem ((c.tc : Thread nD τ).loc main_v110) = dk (projected (m ((c.tc : Thread nD τ).loc main_arg0)) (m ((c.tc : Thread nD τ).loc main_arg1))) (m ((c.tc : Thread nD τ).loc main_arg2))
      ∧ r.2.mem ((c.tc : Thread nD τ).loc main_v112) = dkt (projected (m ((c.tc : Thread nD τ).loc main_arg0)) (m ((c.tc : Thread nD τ).loc main_arg1))) (m ((c.tc : Thread nD τ).loc main_arg2))
      ∧ r.2.mem ((c.tc : Thread nD τ).loc main_v114) = dv (projected (m ((c.tc : Thread nD τ).loc main_arg0)) (m ((c.tc : Thread nD τ).loc main_arg1))) (m ((c.tc : Thread nD τ).loc main_arg2))
      ∧ r.2.mem ((c.tc : Thread nD τ).loc main_v115) = dzs (projected (m ((c.tc : Thread nD τ).loc main_arg0)) (m ((c.tc : Thread nD τ).loc main_arg1)))
      ∧ r.2.mem ((c.tc : Thread nD τ).loc main_v116) = gatesR (projected (m ((c.tc : Thread nD τ).loc main_arg0)) (m ((c.tc : Thread nD τ).loc main_arg1))) (m ((c.tc : Thread nD τ).loc main_arg3)) (m ((c.tc : Thread nD τ).loc main_arg4))
      ∧ r.2.mem ((c.tc : Thread nD τ).loc main_v118) = gatesTR (projected (m ((c.tc : Thread nD τ).loc main_arg0)) (m ((c.tc : Thread nD τ).loc main_arg1))) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v108).trans (ops_aqkv _),
      (h c main_v109).trans (ops_dq _),
      (h c main_v110).trans (ops_dk _),
      (h c main_v112).trans (ops_dkt _),
      (h c main_v114).trans (ops_dv _),
      (h c main_v115).trans (ops_dzs _),
      (h c main_v116).trans (ops_gates _),
      (h c main_v118).trans (ops_gatesT _),
      (h c main_arg0).trans (ops_arg0 _),
      (h c main_arg1).trans (ops_arg1 _),
      (h c main_arg2).trans (ops_arg2 _),
      (h c main_arg3).trans (ops_arg3 _),
      (h c main_arg4).trans (ops_arg4 _)⟩) (run_ops m ρ)

end Cert.Project.Ref

end
-- ==== Proof.Project.Claims.lean ====
/- The claims of the projections' call: the frames of the two kernels and of the reference, and that kernel and reference
   compute one function of finite activations, weights and taps. -/
module

public import proofs.«01_k».proof.Defs
public import proofs.«01_k».proof.Proof.Gen.Kernel3
public import proofs.«01_k».proof.Proof.Project.GateArray
public import proofs.«01_k».proof.Proof.Project.RefRun

@[expose] public section

set_option maxRecDepth 16384

noncomputable section

namespace Cert.Project

open Idealize.ShloMosaic Idealize.SL.Sem
open Cert.Attention (AllFinite finite_of_abs)

/-- The shape relations the precondition takes. -/
instance preFacts : Cert.Pre_finite3.Facts where
  bcast_S_S4x4096x1024 := by decide
  reducesTo_S4x4096x1024_S_d0_1_2 := by decide
  h_S_ := by decide
  bcast_S_S1024x4872 := by decide
  reducesTo_S1024x4872_S_d0_1 := by decide
  bcast_S_S4x1536 := by decide
  reducesTo_S4x1536_S_d0_1 := by decide

/-- The precondition, read. -/
theorem finite_args (x : Ref.X) (w : Ref.W) (cw : Ref.Taps) (al bi : FVec Ideal Cert.Reference3Ideal.S4 .f32)
    (h : Cert.Pre_finite3.fn (F := Ideal) x w cw al bi = fun _ => 1#1) : AllFinite x ∧ AllFinite w ∧ AllFinite cw := by
  haveI : Subsingleton Cert.Pre_finite3.S_.Idx := ⟨fun a b => funext fun i => i.elim0⟩
  have h0 := congrFun h (Shape.Idx.first Cert.Pre_finite3.Facts.h_S_)
  obtain ⟨h01, h2⟩ := IntOp.andi_eq_one.1 h0
  obtain ⟨h0, h1⟩ := IntOp.andi_eq_one.1 h01
  exact ⟨fun i => finite_of_abs _ (Host.reduce_andi_all _ _ _ _ _ h0 i),
    fun i => finite_of_abs _ (Host.reduce_andi_all _ _ _ _ _ h1 i),
    fun i => finite_of_abs _ (Host.reduce_andi_all _ _ _ _ _ h2 i)⟩

set_option maxHeartbeats 2000000 in
/-- The two kernels have the same text, so one run is the other's. -/
theorem bodies_eq : Cert.Kernel3.defs₀ (F := Bits) = Cert.Kernel3Ideal.defs₀ (F := Bits) := by
  unfold Cert.Kernel3.defs₀ Cert.Kernel3Ideal.defs₀
  refine congrArg Defs.onTc (funext fun l => ?_)
  funext x
  match l, x with
  | 0, (t, s) => rfl

theorem defs_eq : Cert.Kernel3.defs (F := Bits) = Cert.Kernel3Ideal.defs (F := Bits) :=
  congrArg (Pipeline.defs (Cert.Kernel3.pcfgs (F := Bits))) bodies_eq

theorem frame_p : Cert.quiescent_Kernel3 := by
  intro m ρ _
  rw [defs_eq]
  exact Cert.Kernel3Ideal.Gen.frame (F := Bits) m ρ
theorem frame_pi : Cert.quiescent_Kernel3Ideal := fun m ρ _ => Cert.Kernel3Ideal.Gen.frame m ρ
theorem frame_pi_finite : Cert.quiescent_Kernel3Ideal_pre_finite3 := fun m ρ _ => Cert.Kernel3Ideal.Gen.frame m ρ
theorem frame_ri : Cert.quiescent_Reference3Ideal := fun m ρ _ =>
  (θ_run Cert.Reference3Ideal.defs _ _).mono (fun r h => ⟨fun c => (h c).2.2.2.2.2.2.2.2, sem_eq_zero_of_no_sems (by decide) r.2⟩)
    (Ref.run m ρ)
theorem frame_ri_finite : Cert.quiescent_Reference3Ideal_pre_finite3 := fun m ρ _ => frame_ri m ρ trivial

theorem by_two {n k : ℕ} (f : (⟨2, ![n, k]⟩ : Shape).Idx → EReal) (g : Fin n → Fin k → EReal) (h : ∀ a b, f (ix2 a b) = g a b) :
    f = fun i : (⟨2, ![n, k]⟩ : Shape).Idx => g (i 0) (i 1) := by
  funext i
  have e : i = ix2 (i 0) (i 1) := by
    funext a
    fin_cases a <;> rfl
  exact (congrArg f e).trans (h _ _)

theorem by_three {n k l : ℕ} (f : (⟨3, ![n, k, l]⟩ : Shape).Idx → EReal) (g : Fin n → Fin k → Fin l → EReal) (h : ∀ a b c, f (ix3 a b c) = g a b c) :
    f = fun i : (⟨3, ![n, k, l]⟩ : Shape).Idx => g (i 0) (i 1) (i 2) := by
  funext i
  have e : i = ix3 (i 0) (i 1) (i 2) := by
    funext a
    fin_cases a <;> rfl
  exact (congrArg f e).trans (h _ _ _)

/-- Kernel and reference end with the same eight results. -/
theorem algebraic : Cert.algebraic_Kernel3Ideal_Reference3Ideal_pre_finite3 := by
  intro m ρ m' ρ' hpre hagree
  refine ⟨fun c => fun i : Cert.Kernel3Ideal.S16384x1024.Idx => aqkvK (argX m c) (argIn m c) (i 0) (i 1),
    fun c => fun i : Cert.Kernel3Ideal.S16384x512.Idx => dqK (argX m c) (argIn m c) (argConv m c) (i 0) (i 1),
    fun c => fun i : Cert.Kernel3Ideal.S16384x512.Idx => dkK (argX m c) (argIn m c) (argConv m c) (i 0) (i 1),
    fun c => fun i : Cert.Kernel3Ideal.S4x512x4096.Idx => dkK (argX m c) (argIn m c) (argConv m c) (rowAt (i 0) (i 2)) (i 1),
    fun c => fun i : Cert.Kernel3Ideal.S16384x512.Idx => dvK (argX m c) (argIn m c) (argConv m c) (i 0) (i 1),
    fun c => fun i : Cert.Kernel3Ideal.S16384x512.Idx => dzsK (argX m c) (argIn m c) (i 0) (i 1),
    fun c => fun i : Cert.Kernel3Ideal.S16384x128.Idx => gatesK (argX m c) (argIn m c) (argLog m c) (argBias m c) (i 0) (i 1),
    fun c => fun i : Cert.Kernel3Ideal.S4x8x4096.Idx => gatesTK (argX m c) (argIn m c) (argLog m c) (argBias m c) (rowAt (i 0) (i 2)) (i 1),
    (θ_run Cert.Kernel3Ideal.defs _ _).mono (fun _ h c => ?_) (Cert.Kernel3Ideal.Value.run_blocks (F := Ideal) m ρ),
    (θ_run Cert.Reference3Ideal.defs _ _).mono (fun _ h c => ?_) (Ref.run m' ρ')⟩
  · obtain ⟨k0, k1, k2, k3, k4, k5, k6, k7, rest⟩ := h c
    exact ⟨k0.trans (aqkv_array m c), k1.trans (dq_array m c), k2.trans (dk_array m c), k3.trans (dkt_array m c), k4.trans (dv_array m c), k5.trans (dzs_array m c), k6.trans (gates_array m c), k7.trans (gatesT_array m c), rest⟩
  · obtain ⟨hx, hw, hc⟩ := finite_args _ _ _ _ _ (hpre c)
    obtain ⟨h0, h1, h2, h3, h4⟩ := hagree c
    obtain ⟨k0, k1, k2, k3, k4, k5, k6, k7, rest⟩ := h c
    rw [h0, h1] at k0 k1 k2 k3 k4 k5 k6 k7
    rw [h2] at k1 k2 k3 k4
    rw [h3, h4] at k6 k7
    exact ⟨k0.trans (by_two _ (aqkvK (argX m c) (argIn m c)) (Ref.aqkv_eq _ _)),
      k1.trans (by_two _ (dqK (argX m c) (argIn m c) (argConv m c)) (Ref.dq_eq _ _ _ hx hw hc)),
      k2.trans (by_two _ (dkK (argX m c) (argIn m c) (argConv m c)) (Ref.dk_eq _ _ _ hx hw hc)),
      k3.trans (by_three _ (fun a l p => dkK (argX m c) (argIn m c) (argConv m c) (rowAt a p) l) (Ref.dkt_eq _ _ _ hx hw hc)),
      k4.trans (by_two _ (dvK (argX m c) (argIn m c) (argConv m c)) (Ref.dv_eq _ _ _ hx hw hc)),
      k5.trans (by_two _ (dzsK (argX m c) (argIn m c)) (Ref.dzs_eq _ _ hx hw)),
      k6.trans (by_two _ (gatesK (argX m c) (argIn m c) (argLog m c) (argBias m c)) (Ref.gatesR_eq _ _ _ _)),
      k7.trans (by_three _ (fun a l p => gatesTK (argX m c) (argIn m c) (argLog m c) (argBias m c) (rowAt a p) l) (Ref.gatesTR_eq _ _ _ _)), rest⟩

end Cert.Project

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Attention.Claims
public import proofs.«01_k».proof.Proof.Merge.Claims
public import proofs.«01_k».proof.Proof.Project.Claims
public import proofs.«01_k».proof.Proof.Gen.KernelIdeal.Value
public import proofs.«01_k».proof.Proof.Gen.ReferenceIdeal.Run
public import proofs.«01_k».proof.Proof.Gen.Kernel2
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Attention.preFacts, Cert.Project.preFacts,
    Cert.Attention.frame_p, Cert.Attention.frame_pi, Cert.Attention.frame_pi_finite, Cert.Attention.frame_ri,
    Cert.Attention.frame_ri_finite, Cert.Merge.frame_p, Cert.Merge.frame_pi, Cert.Merge.frame_ri,
    Cert.Project.frame_p, Cert.Project.frame_pi, Cert.Project.frame_pi_finite, Cert.Project.frame_ri,
    Cert.Project.frame_ri_finite, Cert.Attention.preserves, Cert.Attention.algebraic, trivial, Cert.Merge.algebraic,
    trivial, Cert.Project.algebraic⟩

end Cert.Proof

end
